-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_MoeKernel [hPre_planned : Cert.Pre_planned.Facts] (m : (ℓ : Loc Cert.MoeKernel.nD Cert.MoeKernel.τ Cert.MoeKernel.sig) → Buf (Elt Bits) ℓ) : Prop :=
  ∀ c : Dev Cert.MoeKernel.nD,
    (Cert.Pre_planned.fn (F := Bits) (m ((c.tc : Thread Cert.MoeKernel.nD Cert.MoeKernel.τ).loc Cert.MoeKernel.main_arg0)) (m ((c.tc : Thread Cert.MoeKernel.nD Cert.MoeKernel.τ).loc Cert.MoeKernel.main_arg1)) (m ((c.tc : Thread Cert.MoeKernel.nD Cert.MoeKernel.τ).loc Cert.MoeKernel.main_arg2)) (m ((c.tc : Thread Cert.MoeKernel.nD Cert.MoeKernel.τ).loc Cert.MoeKernel.main_arg3)) (m ((c.tc : Thread Cert.MoeKernel.nD Cert.MoeKernel.τ).loc Cert.MoeKernel.main_arg4)) (m ((c.tc : Thread Cert.MoeKernel.nD Cert.MoeKernel.τ).loc Cert.MoeKernel.main_arg5))) = (fun _ => 1#1)

def Pre_MoeKernelIdeal [hPre_planned : Cert.Pre_planned.Facts] (m : (ℓ : Loc Cert.MoeKernelIdeal.nD Cert.MoeKernelIdeal.τ Cert.MoeKernelIdeal.sig) → Buf (Elt Ideal) ℓ) : Prop :=
  ∀ c : Dev Cert.MoeKernelIdeal.nD,
    (Cert.Pre_planned.fn (F := Ideal) (m ((c.tc : Thread Cert.MoeKernelIdeal.nD Cert.MoeKernelIdeal.τ).loc Cert.MoeKernelIdeal.main_arg0)) (m ((c.tc : Thread Cert.MoeKernelIdeal.nD Cert.MoeKernelIdeal.τ).loc Cert.MoeKernelIdeal.main_arg1)) (m ((c.tc : Thread Cert.MoeKernelIdeal.nD Cert.MoeKernelIdeal.τ).loc Cert.MoeKernelIdeal.main_arg2)) (m ((c.tc : Thread Cert.MoeKernelIdeal.nD Cert.MoeKernelIdeal.τ).loc Cert.MoeKernelIdeal.main_arg3)) (m ((c.tc : Thread Cert.MoeKernelIdeal.nD Cert.MoeKernelIdeal.τ).loc Cert.MoeKernelIdeal.main_arg4)) (m ((c.tc : Thread Cert.MoeKernelIdeal.nD Cert.MoeKernelIdeal.τ).loc Cert.MoeKernelIdeal.main_arg5))) = (fun _ => 1#1)

def Pre_MoeReferenceIdeal (m : (ℓ : Loc Cert.MoeReferenceIdeal.nD Cert.MoeReferenceIdeal.τ Cert.MoeReferenceIdeal.sig) → Buf (Elt Ideal) ℓ) : Prop :=
  True

def Pre_MoeReferenceIdeal_planned [hPre_planned : Cert.Pre_planned.Facts] (m : (ℓ : Loc Cert.MoeReferenceIdeal.nD Cert.MoeReferenceIdeal.τ Cert.MoeReferenceIdeal.sig) → Buf (Elt Ideal) ℓ) : Prop :=
  ∀ c : Dev Cert.MoeReferenceIdeal.nD,
    (Cert.Pre_planned.fn (F := Ideal) (m ((c.tc : Thread Cert.MoeReferenceIdeal.nD Cert.MoeReferenceIdeal.τ).loc Cert.MoeReferenceIdeal.main_arg0)) (m ((c.tc : Thread Cert.MoeReferenceIdeal.nD Cert.MoeReferenceIdeal.τ).loc Cert.MoeReferenceIdeal.main_arg1)) (m ((c.tc : Thread Cert.MoeReferenceIdeal.nD Cert.MoeReferenceIdeal.τ).loc Cert.MoeReferenceIdeal.main_arg2)) (m ((c.tc : Thread Cert.MoeReferenceIdeal.nD Cert.MoeReferenceIdeal.τ).loc Cert.MoeReferenceIdeal.main_arg3)) (m ((c.tc : Thread Cert.MoeReferenceIdeal.nD Cert.MoeReferenceIdeal.τ).loc Cert.MoeReferenceIdeal.main_arg4)) (m ((c.tc : Thread Cert.MoeReferenceIdeal.nD Cert.MoeReferenceIdeal.τ).loc Cert.MoeReferenceIdeal.main_arg5))) = (fun _ => 1#1)

def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_DaKernel (m : (ℓ : Loc Cert.DaKernel.nD Cert.DaKernel.τ Cert.DaKernel.sig) → Buf (Elt Bits) ℓ) : Prop :=
  True

def Pre_DaKernelIdeal (m : (ℓ : Loc Cert.DaKernelIdeal.nD Cert.DaKernelIdeal.τ Cert.DaKernelIdeal.sig) → Buf (Elt Ideal) ℓ) : Prop :=
  True

def Pre_DaKernelIdeal_finite_da [hPre_finite_da : Cert.Pre_finite_da.Facts] (m : (ℓ : Loc Cert.DaKernelIdeal.nD Cert.DaKernelIdeal.τ Cert.DaKernelIdeal.sig) → Buf (Elt Ideal) ℓ) : Prop :=
  ∀ c : Dev Cert.DaKernelIdeal.nD,
    (Cert.Pre_finite_da.fn (F := Ideal) (m ((c.tc : Thread Cert.DaKernelIdeal.nD Cert.DaKernelIdeal.τ).loc Cert.DaKernelIdeal.main_arg0)) (m ((c.tc : Thread Cert.DaKernelIdeal.nD Cert.DaKernelIdeal.τ).loc Cert.DaKernelIdeal.main_arg1)) (m ((c.tc : Thread Cert.DaKernelIdeal.nD Cert.DaKernelIdeal.τ).loc Cert.DaKernelIdeal.main_arg2)) (m ((c.tc : Thread Cert.DaKernelIdeal.nD Cert.DaKernelIdeal.τ).loc Cert.DaKernelIdeal.main_arg3)) (m ((c.tc : Thread Cert.DaKernelIdeal.nD Cert.DaKernelIdeal.τ).loc Cert.DaKernelIdeal.main_arg4)) (m ((c.tc : Thread Cert.DaKernelIdeal.nD Cert.DaKernelIdeal.τ).loc Cert.DaKernelIdeal.main_arg5)) (m ((c.tc : Thread Cert.DaKernelIdeal.nD Cert.DaKernelIdeal.τ).loc Cert.DaKernelIdeal.main_arg6)) (m ((c.tc : Thread Cert.DaKernelIdeal.nD Cert.DaKernelIdeal.τ).loc Cert.DaKernelIdeal.main_arg7)) (m ((c.tc : Thread Cert.DaKernelIdeal.nD Cert.DaKernelIdeal.τ).loc Cert.DaKernelIdeal.main_arg8)) (m ((c.tc : Thread Cert.DaKernelIdeal.nD Cert.DaKernelIdeal.τ).loc Cert.DaKernelIdeal.main_arg9))) = (fun _ => 1#1)

def Pre_DaReferenceIdeal (m : (ℓ : Loc Cert.DaReferenceIdeal.nD Cert.DaReferenceIdeal.τ Cert.DaReferenceIdeal.sig) → Buf (Elt Ideal) ℓ) : Prop :=
  True

def Pre_DaReferenceIdeal_finite_da [hPre_finite_da : Cert.Pre_finite_da.Facts] (m : (ℓ : Loc Cert.DaReferenceIdeal.nD Cert.DaReferenceIdeal.τ Cert.DaReferenceIdeal.sig) → Buf (Elt Ideal) ℓ) : Prop :=
  ∀ c : Dev Cert.DaReferenceIdeal.nD,
    (Cert.Pre_finite_da.fn (F := Ideal) (m ((c.tc : Thread Cert.DaReferenceIdeal.nD Cert.DaReferenceIdeal.τ).loc Cert.DaReferenceIdeal.main_arg0)) (m ((c.tc : Thread Cert.DaReferenceIdeal.nD Cert.DaReferenceIdeal.τ).loc Cert.DaReferenceIdeal.main_arg1)) (m ((c.tc : Thread Cert.DaReferenceIdeal.nD Cert.DaReferenceIdeal.τ).loc Cert.DaReferenceIdeal.main_arg2)) (m ((c.tc : Thread Cert.DaReferenceIdeal.nD Cert.DaReferenceIdeal.τ).loc Cert.DaReferenceIdeal.main_arg3)) (m ((c.tc : Thread Cert.DaReferenceIdeal.nD Cert.DaReferenceIdeal.τ).loc Cert.DaReferenceIdeal.main_arg4)) (m ((c.tc : Thread Cert.DaReferenceIdeal.nD Cert.DaReferenceIdeal.τ).loc Cert.DaReferenceIdeal.main_arg5)) (m ((c.tc : Thread Cert.DaReferenceIdeal.nD Cert.DaReferenceIdeal.τ).loc Cert.DaReferenceIdeal.main_arg6)) (m ((c.tc : Thread Cert.DaReferenceIdeal.nD Cert.DaReferenceIdeal.τ).loc Cert.DaReferenceIdeal.main_arg7)) (m ((c.tc : Thread Cert.DaReferenceIdeal.nD Cert.DaReferenceIdeal.τ).loc Cert.DaReferenceIdeal.main_arg8)) (m ((c.tc : Thread Cert.DaReferenceIdeal.nD Cert.DaReferenceIdeal.τ).loc Cert.DaReferenceIdeal.main_arg9))) = (fun _ => 1#1)

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_MoeKernel [hMoeKernel : Cert.MoeKernel.Facts] [hPre_planned : Cert.Pre_planned.Facts] : Prop :=
  ∀ (m : (ℓ : Loc Cert.MoeKernel.nD Cert.MoeKernel.τ Cert.MoeKernel.sig) → Buf (Elt Bits) ℓ) (g : Dev Cert.MoeKernel.nD → PrngReg), Pre_MoeKernel m →
    θ_run (Cert.MoeKernel.defs (F := Bits)) (onTc (τ := Cert.MoeKernel.τ) (Cert.MoeKernel.main (F := Bits))) ⟨m, fun _ => 0, g⟩ (fun r => (∀ c : Dev Cert.MoeKernel.nD,
      r.2.mem ((c.tc : Thread Cert.MoeKernel.nD Cert.MoeKernel.τ).loc Cert.MoeKernel.main_arg0) = m ((c.tc : Thread Cert.MoeKernel.nD Cert.MoeKernel.τ).loc Cert.MoeKernel.main_arg0)
      ∧ r.2.mem ((c.tc : Thread Cert.MoeKernel.nD Cert.MoeKernel.τ).loc Cert.MoeKernel.main_arg1) = m ((c.tc : Thread Cert.MoeKernel.nD Cert.MoeKernel.τ).loc Cert.MoeKernel.main_arg1)
      ∧ r.2.mem ((c.tc : Thread Cert.MoeKernel.nD Cert.MoeKernel.τ).loc Cert.MoeKernel.main_arg2) = m ((c.tc : Thread Cert.MoeKernel.nD Cert.MoeKernel.τ).loc Cert.MoeKernel.main_arg2)
      ∧ r.2.mem ((c.tc : Thread Cert.MoeKernel.nD Cert.MoeKernel.τ).loc Cert.MoeKernel.main_arg3) = m ((c.tc : Thread Cert.MoeKernel.nD Cert.MoeKernel.τ).loc Cert.MoeKernel.main_arg3)
      ∧ r.2.mem ((c.tc : Thread Cert.MoeKernel.nD Cert.MoeKernel.τ).loc Cert.MoeKernel.main_arg4) = m ((c.tc : Thread Cert.MoeKernel.nD Cert.MoeKernel.τ).loc Cert.MoeKernel.main_arg4)
      ∧ r.2.mem ((c.tc : Thread Cert.MoeKernel.nD Cert.MoeKernel.τ).loc Cert.MoeKernel.main_arg5) = m ((c.tc : Thread Cert.MoeKernel.nD Cert.MoeKernel.τ).loc Cert.MoeKernel.main_arg5))
      ∧ r.2.sem = fun _ => 0)

def quiescent_MoeKernelIdeal [hMoeKernelIdeal : Cert.MoeKernelIdeal.Facts] [hPre_planned : Cert.Pre_planned.Facts] : Prop :=
  ∀ (m : (ℓ : Loc Cert.MoeKernelIdeal.nD Cert.MoeKernelIdeal.τ Cert.MoeKernelIdeal.sig) → Buf (Elt Ideal) ℓ) (g : Dev Cert.MoeKernelIdeal.nD → PrngReg), Pre_MoeKernelIdeal m →
    θ_run (Cert.MoeKernelIdeal.defs (F := Ideal)) (onTc (τ := Cert.MoeKernelIdeal.τ) (Cert.MoeKernelIdeal.main (F := Ideal))) ⟨m, fun _ => 0, g⟩ (fun r => (∀ c : Dev Cert.MoeKernelIdeal.nD,
      r.2.mem ((c.tc : Thread Cert.MoeKernelIdeal.nD Cert.MoeKernelIdeal.τ).loc Cert.MoeKernelIdeal.main_arg0) = m ((c.tc : Thread Cert.MoeKernelIdeal.nD Cert.MoeKernelIdeal.τ).loc Cert.MoeKernelIdeal.main_arg0)
      ∧ r.2.mem ((c.tc : Thread Cert.MoeKernelIdeal.nD Cert.MoeKernelIdeal.τ).loc Cert.MoeKernelIdeal.main_arg1) = m ((c.tc : Thread Cert.MoeKernelIdeal.nD Cert.MoeKernelIdeal.τ).loc Cert.MoeKernelIdeal.main_arg1)
      ∧ r.2.mem ((c.tc : Thread Cert.MoeKernelIdeal.nD Cert.MoeKernelIdeal.τ).loc Cert.MoeKernelIdeal.main_arg2) = m ((c.tc : Thread Cert.MoeKernelIdeal.nD Cert.MoeKernelIdeal.τ).loc Cert.MoeKernelIdeal.main_arg2)
      ∧ r.2.mem ((c.tc : Thread Cert.MoeKernelIdeal.nD Cert.MoeKernelIdeal.τ).loc Cert.MoeKernelIdeal.main_arg3) = m ((c.tc : Thread Cert.MoeKernelIdeal.nD Cert.MoeKernelIdeal.τ).loc Cert.MoeKernelIdeal.main_arg3)
      ∧ r.2.mem ((c.tc : Thread Cert.MoeKernelIdeal.nD Cert.MoeKernelIdeal.τ).loc Cert.MoeKernelIdeal.main_arg4) = m ((c.tc : Thread Cert.MoeKernelIdeal.nD Cert.MoeKernelIdeal.τ).loc Cert.MoeKernelIdeal.main_arg4)
      ∧ r.2.mem ((c.tc : Thread Cert.MoeKernelIdeal.nD Cert.MoeKernelIdeal.τ).loc Cert.MoeKernelIdeal.main_arg5) = m ((c.tc : Thread Cert.MoeKernelIdeal.nD Cert.MoeKernelIdeal.τ).loc Cert.MoeKernelIdeal.main_arg5))
      ∧ r.2.sem = fun _ => 0)

def quiescent_MoeReferenceIdeal [hMoeReferenceIdeal : Cert.MoeReferenceIdeal.Facts] : Prop :=
  ∀ (m : (ℓ : Loc Cert.MoeReferenceIdeal.nD Cert.MoeReferenceIdeal.τ Cert.MoeReferenceIdeal.sig) → Buf (Elt Ideal) ℓ) (g : Dev Cert.MoeReferenceIdeal.nD → PrngReg), Pre_MoeReferenceIdeal m →
    θ_run (Cert.MoeReferenceIdeal.defs (F := Ideal)) (onTc (τ := Cert.MoeReferenceIdeal.τ) (Cert.MoeReferenceIdeal.main (F := Ideal))) ⟨m, fun _ => 0, g⟩ (fun r => (∀ c : Dev Cert.MoeReferenceIdeal.nD,
      r.2.mem ((c.tc : Thread Cert.MoeReferenceIdeal.nD Cert.MoeReferenceIdeal.τ).loc Cert.MoeReferenceIdeal.main_arg0) = m ((c.tc : Thread Cert.MoeReferenceIdeal.nD Cert.MoeReferenceIdeal.τ).loc Cert.MoeReferenceIdeal.main_arg0)
      ∧ r.2.mem ((c.tc : Thread Cert.MoeReferenceIdeal.nD Cert.MoeReferenceIdeal.τ).loc Cert.MoeReferenceIdeal.main_arg1) = m ((c.tc : Thread Cert.MoeReferenceIdeal.nD Cert.MoeReferenceIdeal.τ).loc Cert.MoeReferenceIdeal.main_arg1)
      ∧ r.2.mem ((c.tc : Thread Cert.MoeReferenceIdeal.nD Cert.MoeReferenceIdeal.τ).loc Cert.MoeReferenceIdeal.main_arg2) = m ((c.tc : Thread Cert.MoeReferenceIdeal.nD Cert.MoeReferenceIdeal.τ).loc Cert.MoeReferenceIdeal.main_arg2)
      ∧ r.2.mem ((c.tc : Thread Cert.MoeReferenceIdeal.nD Cert.MoeReferenceIdeal.τ).loc Cert.MoeReferenceIdeal.main_arg3) = m ((c.tc : Thread Cert.MoeReferenceIdeal.nD Cert.MoeReferenceIdeal.τ).loc Cert.MoeReferenceIdeal.main_arg3)
      ∧ r.2.mem ((c.tc : Thread Cert.MoeReferenceIdeal.nD Cert.MoeReferenceIdeal.τ).loc Cert.MoeReferenceIdeal.main_arg4) = m ((c.tc : Thread Cert.MoeReferenceIdeal.nD Cert.MoeReferenceIdeal.τ).loc Cert.MoeReferenceIdeal.main_arg4)
      ∧ r.2.mem ((c.tc : Thread Cert.MoeReferenceIdeal.nD Cert.MoeReferenceIdeal.τ).loc Cert.MoeReferenceIdeal.main_arg5) = m ((c.tc : Thread Cert.MoeReferenceIdeal.nD Cert.MoeReferenceIdeal.τ).loc Cert.MoeReferenceIdeal.main_arg5))
      ∧ r.2.sem = fun _ => 0)

def quiescent_MoeReferenceIdeal_pre_planned [hMoeReferenceIdeal : Cert.MoeReferenceIdeal.Facts] [hPre_planned : Cert.Pre_planned.Facts] : Prop :=
  ∀ (m : (ℓ : Loc Cert.MoeReferenceIdeal.nD Cert.MoeReferenceIdeal.τ Cert.MoeReferenceIdeal.sig) → Buf (Elt Ideal) ℓ) (g : Dev Cert.MoeReferenceIdeal.nD → PrngReg), Pre_MoeReferenceIdeal_planned m →
    θ_run (Cert.MoeReferenceIdeal.defs (F := Ideal)) (onTc (τ := Cert.MoeReferenceIdeal.τ) (Cert.MoeReferenceIdeal.main (F := Ideal))) ⟨m, fun _ => 0, g⟩ (fun r => (∀ c : Dev Cert.MoeReferenceIdeal.nD,
      r.2.mem ((c.tc : Thread Cert.MoeReferenceIdeal.nD Cert.MoeReferenceIdeal.τ).loc Cert.MoeReferenceIdeal.main_arg0) = m ((c.tc : Thread Cert.MoeReferenceIdeal.nD Cert.MoeReferenceIdeal.τ).loc Cert.MoeReferenceIdeal.main_arg0)
      ∧ r.2.mem ((c.tc : Thread Cert.MoeReferenceIdeal.nD Cert.MoeReferenceIdeal.τ).loc Cert.MoeReferenceIdeal.main_arg1) = m ((c.tc : Thread Cert.MoeReferenceIdeal.nD Cert.MoeReferenceIdeal.τ).loc Cert.MoeReferenceIdeal.main_arg1)
      ∧ r.2.mem ((c.tc : Thread Cert.MoeReferenceIdeal.nD Cert.MoeReferenceIdeal.τ).loc Cert.MoeReferenceIdeal.main_arg2) = m ((c.tc : Thread Cert.MoeReferenceIdeal.nD Cert.MoeReferenceIdeal.τ).loc Cert.MoeReferenceIdeal.main_arg2)
      ∧ r.2.mem ((c.tc : Thread Cert.MoeReferenceIdeal.nD Cert.MoeReferenceIdeal.τ).loc Cert.MoeReferenceIdeal.main_arg3) = m ((c.tc : Thread Cert.MoeReferenceIdeal.nD Cert.MoeReferenceIdeal.τ).loc Cert.MoeReferenceIdeal.main_arg3)
      ∧ r.2.mem ((c.tc : Thread Cert.MoeReferenceIdeal.nD Cert.MoeReferenceIdeal.τ).loc Cert.MoeReferenceIdeal.main_arg4) = m ((c.tc : Thread Cert.MoeReferenceIdeal.nD Cert.MoeReferenceIdeal.τ).loc Cert.MoeReferenceIdeal.main_arg4)
      ∧ r.2.mem ((c.tc : Thread Cert.MoeReferenceIdeal.nD Cert.MoeReferenceIdeal.τ).loc Cert.MoeReferenceIdeal.main_arg5) = m ((c.tc : Thread Cert.MoeReferenceIdeal.nD Cert.MoeReferenceIdeal.τ).loc Cert.MoeReferenceIdeal.main_arg5))
      ∧ r.2.sem = fun _ => 0)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3)
      ∧ r.2.mem ((c.tc : Thread Cert.MixKernel.nD Cert.MixKernel.τ).loc Cert.MixKernel.main_arg4) = m ((c.tc : Thread Cert.MixKernel.nD Cert.MixKernel.τ).loc Cert.MixKernel.main_arg4)
      ∧ r.2.mem ((c.tc : Thread Cert.MixKernel.nD Cert.MixKernel.τ).loc Cert.MixKernel.main_arg5) = m ((c.tc : Thread Cert.MixKernel.nD Cert.MixKernel.τ).loc Cert.MixKernel.main_arg5)
      ∧ r.2.mem ((c.tc : Thread Cert.MixKernel.nD Cert.MixKernel.τ).loc Cert.MixKernel.main_arg6) = m ((c.tc : Thread Cert.MixKernel.nD Cert.MixKernel.τ).loc Cert.MixKernel.main_arg6)
      ∧ r.2.mem ((c.tc : Thread Cert.MixKernel.nD Cert.MixKernel.τ).loc Cert.MixKernel.main_arg7) = m ((c.tc : Thread Cert.MixKernel.nD Cert.MixKernel.τ).loc Cert.MixKernel.main_arg7)
      ∧ r.2.mem ((c.tc : Thread Cert.MixKernel.nD Cert.MixKernel.τ).loc Cert.MixKernel.main_arg8) = m ((c.tc : Thread Cert.MixKernel.nD Cert.MixKernel.τ).loc Cert.MixKernel.main_arg8))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
      ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
      ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
      ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7)
      ∧ r.2.mem ((c.tc : Thread Cert.MixKernelIdeal.nD Cert.MixKernelIdeal.τ).loc Cert.MixKernelIdeal.main_arg8) = m ((c.tc : Thread Cert.MixKernelIdeal.nD Cert.MixKernelIdeal.τ).loc Cert.MixKernelIdeal.main_arg8))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8))
      ∧ r.2.sem = fun _ => 0)

def quiescent_DaKernel [hDaKernel : Cert.DaKernel.Facts] : Prop :=
  ∀ (m : (ℓ : Loc Cert.DaKernel.nD Cert.DaKernel.τ Cert.DaKernel.sig) → Buf (Elt Bits) ℓ) (g : Dev Cert.DaKernel.nD → PrngReg), Pre_DaKernel m →
    θ_run (Cert.DaKernel.defs (F := Bits)) (onTc (τ := Cert.DaKernel.τ) (Cert.DaKernel.main (F := Bits))) ⟨m, fun _ => 0, g⟩ (fun r => (∀ c : Dev Cert.DaKernel.nD,
      r.2.mem ((c.tc : Thread Cert.DaKernel.nD Cert.DaKernel.τ).loc Cert.DaKernel.main_arg0) = m ((c.tc : Thread Cert.DaKernel.nD Cert.DaKernel.τ).loc Cert.DaKernel.main_arg0)
      ∧ r.2.mem ((c.tc : Thread Cert.DaKernel.nD Cert.DaKernel.τ).loc Cert.DaKernel.main_arg1) = m ((c.tc : Thread Cert.DaKernel.nD Cert.DaKernel.τ).loc Cert.DaKernel.main_arg1)
      ∧ r.2.mem ((c.tc : Thread Cert.DaKernel.nD Cert.DaKernel.τ).loc Cert.DaKernel.main_arg2) = m ((c.tc : Thread Cert.DaKernel.nD Cert.DaKernel.τ).loc Cert.DaKernel.main_arg2)
      ∧ r.2.mem ((c.tc : Thread Cert.DaKernel.nD Cert.DaKernel.τ).loc Cert.DaKernel.main_arg3) = m ((c.tc : Thread Cert.DaKernel.nD Cert.DaKernel.τ).loc Cert.DaKernel.main_arg3)
      ∧ r.2.mem ((c.tc : Thread Cert.DaKernel.nD Cert.DaKernel.τ).loc Cert.DaKernel.main_arg4) = m ((c.tc : Thread Cert.DaKernel.nD Cert.DaKernel.τ).loc Cert.DaKernel.main_arg4)
      ∧ r.2.mem ((c.tc : Thread Cert.DaKernel.nD Cert.DaKernel.τ).loc Cert.DaKernel.main_arg5) = m ((c.tc : Thread Cert.DaKernel.nD Cert.DaKernel.τ).loc Cert.DaKernel.main_arg5)
      ∧ r.2.mem ((c.tc : Thread Cert.DaKernel.nD Cert.DaKernel.τ).loc Cert.DaKernel.main_arg6) = m ((c.tc : Thread Cert.DaKernel.nD Cert.DaKernel.τ).loc Cert.DaKernel.main_arg6)
      ∧ r.2.mem ((c.tc : Thread Cert.DaKernel.nD Cert.DaKernel.τ).loc Cert.DaKernel.main_arg7) = m ((c.tc : Thread Cert.DaKernel.nD Cert.DaKernel.τ).loc Cert.DaKernel.main_arg7)
      ∧ r.2.mem ((c.tc : Thread Cert.DaKernel.nD Cert.DaKernel.τ).loc Cert.DaKernel.main_arg8) = m ((c.tc : Thread Cert.DaKernel.nD Cert.DaKernel.τ).loc Cert.DaKernel.main_arg8)
      ∧ r.2.mem ((c.tc : Thread Cert.DaKernel.nD Cert.DaKernel.τ).loc Cert.DaKernel.main_arg9) = m ((c.tc : Thread Cert.DaKernel.nD Cert.DaKernel.τ).loc Cert.DaKernel.main_arg9))
      ∧ r.2.sem = fun _ => 0)

def quiescent_DaKernelIdeal [hDaKernelIdeal : Cert.DaKernelIdeal.Facts] : Prop :=
  ∀ (m : (ℓ : Loc Cert.DaKernelIdeal.nD Cert.DaKernelIdeal.τ Cert.DaKernelIdeal.sig) → Buf (Elt Ideal) ℓ) (g : Dev Cert.DaKernelIdeal.nD → PrngReg), Pre_DaKernelIdeal m →
    θ_run (Cert.DaKernelIdeal.defs (F := Ideal)) (onTc (τ := Cert.DaKernelIdeal.τ) (Cert.DaKernelIdeal.main (F := Ideal))) ⟨m, fun _ => 0, g⟩ (fun r => (∀ c : Dev Cert.DaKernelIdeal.nD,
      r.2.mem ((c.tc : Thread Cert.DaKernelIdeal.nD Cert.DaKernelIdeal.τ).loc Cert.DaKernelIdeal.main_arg0) = m ((c.tc : Thread Cert.DaKernelIdeal.nD Cert.DaKernelIdeal.τ).loc Cert.DaKernelIdeal.main_arg0)
      ∧ r.2.mem ((c.tc : Thread Cert.DaKernelIdeal.nD Cert.DaKernelIdeal.τ).loc Cert.DaKernelIdeal.main_arg1) = m ((c.tc : Thread Cert.DaKernelIdeal.nD Cert.DaKernelIdeal.τ).loc Cert.DaKernelIdeal.main_arg1)
      ∧ r.2.mem ((c.tc : Thread Cert.DaKernelIdeal.nD Cert.DaKernelIdeal.τ).loc Cert.DaKernelIdeal.main_arg2) = m ((c.tc : Thread Cert.DaKernelIdeal.nD Cert.DaKernelIdeal.τ).loc Cert.DaKernelIdeal.main_arg2)
      ∧ r.2.mem ((c.tc : Thread Cert.DaKernelIdeal.nD Cert.DaKernelIdeal.τ).loc Cert.DaKernelIdeal.main_arg3) = m ((c.tc : Thread Cert.DaKernelIdeal.nD Cert.DaKernelIdeal.τ).loc Cert.DaKernelIdeal.main_arg3)
      ∧ r.2.mem ((c.tc : Thread Cert.DaKernelIdeal.nD Cert.DaKernelIdeal.τ).loc Cert.DaKernelIdeal.main_arg4) = m ((c.tc : Thread Cert.DaKernelIdeal.nD Cert.DaKernelIdeal.τ).loc Cert.DaKernelIdeal.main_arg4)
      ∧ r.2.mem ((c.tc : Thread Cert.DaKernelIdeal.nD Cert.DaKernelIdeal.τ).loc Cert.DaKernelIdeal.main_arg5) = m ((c.tc : Thread Cert.DaKernelIdeal.nD Cert.DaKernelIdeal.τ).loc Cert.DaKernelIdeal.main_arg5)
      ∧ r.2.mem ((c.tc : Thread Cert.DaKernelIdeal.nD Cert.DaKernelIdeal.τ).loc Cert.DaKernelIdeal.main_arg6) = m ((c.tc : Thread Cert.DaKernelIdeal.nD Cert.DaKernelIdeal.τ).loc Cert.DaKernelIdeal.main_arg6)
      ∧ r.2.mem ((c.tc : Thread Cert.DaKernelIdeal.nD Cert.DaKernelIdeal.τ).loc Cert.DaKernelIdeal.main_arg7) = m ((c.tc : Thread Cert.DaKernelIdeal.nD Cert.DaKernelIdeal.τ).loc Cert.DaKernelIdeal.main_arg7)
      ∧ r.2.mem ((c.tc : Thread Cert.DaKernelIdeal.nD Cert.DaKernelIdeal.τ).loc Cert.DaKernelIdeal.main_arg8) = m ((c.tc : Thread Cert.DaKernelIdeal.nD Cert.DaKernelIdeal.τ).loc Cert.DaKernelIdeal.main_arg8)
      ∧ r.2.mem ((c.tc : Thread Cert.DaKernelIdeal.nD Cert.DaKernelIdeal.τ).loc Cert.DaKernelIdeal.main_arg9) = m ((c.tc : Thread Cert.DaKernelIdeal.nD Cert.DaKernelIdeal.τ).loc Cert.DaKernelIdeal.main_arg9))
      ∧ r.2.sem = fun _ => 0)

def quiescent_DaKernelIdeal_pre_finite_da [hDaKernelIdeal : Cert.DaKernelIdeal.Facts] [hPre_finite_da : Cert.Pre_finite_da.Facts] : Prop :=
  ∀ (m : (ℓ : Loc Cert.DaKernelIdeal.nD Cert.DaKernelIdeal.τ Cert.DaKernelIdeal.sig) → Buf (Elt Ideal) ℓ) (g : Dev Cert.DaKernelIdeal.nD → PrngReg), Pre_DaKernelIdeal_finite_da m →
    θ_run (Cert.DaKernelIdeal.defs (F := Ideal)) (onTc (τ := Cert.DaKernelIdeal.τ) (Cert.DaKernelIdeal.main (F := Ideal))) ⟨m, fun _ => 0, g⟩ (fun r => (∀ c : Dev Cert.DaKernelIdeal.nD,
      r.2.mem ((c.tc : Thread Cert.DaKernelIdeal.nD Cert.DaKernelIdeal.τ).loc Cert.DaKernelIdeal.main_arg0) = m ((c.tc : Thread Cert.DaKernelIdeal.nD Cert.DaKernelIdeal.τ).loc Cert.DaKernelIdeal.main_arg0)
      ∧ r.2.mem ((c.tc : Thread Cert.DaKernelIdeal.nD Cert.DaKernelIdeal.τ).loc Cert.DaKernelIdeal.main_arg1) = m ((c.tc : Thread Cert.DaKernelIdeal.nD Cert.DaKernelIdeal.τ).loc Cert.DaKernelIdeal.main_arg1)
      ∧ r.2.mem ((c.tc : Thread Cert.DaKernelIdeal.nD Cert.DaKernelIdeal.τ).loc Cert.DaKernelIdeal.main_arg2) = m ((c.tc : Thread Cert.DaKernelIdeal.nD Cert.DaKernelIdeal.τ).loc Cert.DaKernelIdeal.main_arg2)
      ∧ r.2.mem ((c.tc : Thread Cert.DaKernelIdeal.nD Cert.DaKernelIdeal.τ).loc Cert.DaKernelIdeal.main_arg3) = m ((c.tc : Thread Cert.DaKernelIdeal.nD Cert.DaKernelIdeal.τ).loc Cert.DaKernelIdeal.main_arg3)
      ∧ r.2.mem ((c.tc : Thread Cert.DaKernelIdeal.nD Cert.DaKernelIdeal.τ).loc Cert.DaKernelIdeal.main_arg4) = m ((c.tc : Thread Cert.DaKernelIdeal.nD Cert.DaKernelIdeal.τ).loc Cert.DaKernelIdeal.main_arg4)
      ∧ r.2.mem ((c.tc : Thread Cert.DaKernelIdeal.nD Cert.DaKernelIdeal.τ).loc Cert.DaKernelIdeal.main_arg5) = m ((c.tc : Thread Cert.DaKernelIdeal.nD Cert.DaKernelIdeal.τ).loc Cert.DaKernelIdeal.main_arg5)
      ∧ r.2.mem ((c.tc : Thread Cert.DaKernelIdeal.nD Cert.DaKernelIdeal.τ).loc Cert.DaKernelIdeal.main_arg6) = m ((c.tc : Thread Cert.DaKernelIdeal.nD Cert.DaKernelIdeal.τ).loc Cert.DaKernelIdeal.main_arg6)
      ∧ r.2.mem ((c.tc : Thread Cert.DaKernelIdeal.nD Cert.DaKernelIdeal.τ).loc Cert.DaKernelIdeal.main_arg7) = m ((c.tc : Thread Cert.DaKernelIdeal.nD Cert.DaKernelIdeal.τ).loc Cert.DaKernelIdeal.main_arg7)
      ∧ r.2.mem ((c.tc : Thread Cert.DaKernelIdeal.nD Cert.DaKernelIdeal.τ).loc Cert.DaKernelIdeal.main_arg8) = m ((c.tc : Thread Cert.DaKernelIdeal.nD Cert.DaKernelIdeal.τ).loc Cert.DaKernelIdeal.main_arg8)
      ∧ r.2.mem ((c.tc : Thread Cert.DaKernelIdeal.nD Cert.DaKernelIdeal.τ).loc Cert.DaKernelIdeal.main_arg9) = m ((c.tc : Thread Cert.DaKernelIdeal.nD Cert.DaKernelIdeal.τ).loc Cert.DaKernelIdeal.main_arg9))
      ∧ r.2.sem = fun _ => 0)

def quiescent_DaReferenceIdeal [hDaReferenceIdeal : Cert.DaReferenceIdeal.Facts] : Prop :=
  ∀ (m : (ℓ : Loc Cert.DaReferenceIdeal.nD Cert.DaReferenceIdeal.τ Cert.DaReferenceIdeal.sig) → Buf (Elt Ideal) ℓ) (g : Dev Cert.DaReferenceIdeal.nD → PrngReg), Pre_DaReferenceIdeal m →
    θ_run (Cert.DaReferenceIdeal.defs (F := Ideal)) (onTc (τ := Cert.DaReferenceIdeal.τ) (Cert.DaReferenceIdeal.main (F := Ideal))) ⟨m, fun _ => 0, g⟩ (fun r => (∀ c : Dev Cert.DaReferenceIdeal.nD,
      r.2.mem ((c.tc : Thread Cert.DaReferenceIdeal.nD Cert.DaReferenceIdeal.τ).loc Cert.DaReferenceIdeal.main_arg0) = m ((c.tc : Thread Cert.DaReferenceIdeal.nD Cert.DaReferenceIdeal.τ).loc Cert.DaReferenceIdeal.main_arg0)
      ∧ r.2.mem ((c.tc : Thread Cert.DaReferenceIdeal.nD Cert.DaReferenceIdeal.τ).loc Cert.DaReferenceIdeal.main_arg1) = m ((c.tc : Thread Cert.DaReferenceIdeal.nD Cert.DaReferenceIdeal.τ).loc Cert.DaReferenceIdeal.main_arg1)
      ∧ r.2.mem ((c.tc : Thread Cert.DaReferenceIdeal.nD Cert.DaReferenceIdeal.τ).loc Cert.DaReferenceIdeal.main_arg2) = m ((c.tc : Thread Cert.DaReferenceIdeal.nD Cert.DaReferenceIdeal.τ).loc Cert.DaReferenceIdeal.main_arg2)
      ∧ r.2.mem ((c.tc : Thread Cert.DaReferenceIdeal.nD Cert.DaReferenceIdeal.τ).loc Cert.DaReferenceIdeal.main_arg3) = m ((c.tc : Thread Cert.DaReferenceIdeal.nD Cert.DaReferenceIdeal.τ).loc Cert.DaReferenceIdeal.main_arg3)
      ∧ r.2.mem ((c.tc : Thread Cert.DaReferenceIdeal.nD Cert.DaReferenceIdeal.τ).loc Cert.DaReferenceIdeal.main_arg4) = m ((c.tc : Thread Cert.DaReferenceIdeal.nD Cert.DaReferenceIdeal.τ).loc Cert.DaReferenceIdeal.main_arg4)
      ∧ r.2.mem ((c.tc : Thread Cert.DaReferenceIdeal.nD Cert.DaReferenceIdeal.τ).loc Cert.DaReferenceIdeal.main_arg5) = m ((c.tc : Thread Cert.DaReferenceIdeal.nD Cert.DaReferenceIdeal.τ).loc Cert.DaReferenceIdeal.main_arg5)
      ∧ r.2.mem ((c.tc : Thread Cert.DaReferenceIdeal.nD Cert.DaReferenceIdeal.τ).loc Cert.DaReferenceIdeal.main_arg6) = m ((c.tc : Thread Cert.DaReferenceIdeal.nD Cert.DaReferenceIdeal.τ).loc Cert.DaReferenceIdeal.main_arg6)
      ∧ r.2.mem ((c.tc : Thread Cert.DaReferenceIdeal.nD Cert.DaReferenceIdeal.τ).loc Cert.DaReferenceIdeal.main_arg7) = m ((c.tc : Thread Cert.DaReferenceIdeal.nD Cert.DaReferenceIdeal.τ).loc Cert.DaReferenceIdeal.main_arg7)
      ∧ r.2.mem ((c.tc : Thread Cert.DaReferenceIdeal.nD Cert.DaReferenceIdeal.τ).loc Cert.DaReferenceIdeal.main_arg8) = m ((c.tc : Thread Cert.DaReferenceIdeal.nD Cert.DaReferenceIdeal.τ).loc Cert.DaReferenceIdeal.main_arg8)
      ∧ r.2.mem ((c.tc : Thread Cert.DaReferenceIdeal.nD Cert.DaReferenceIdeal.τ).loc Cert.DaReferenceIdeal.main_arg9) = m ((c.tc : Thread Cert.DaReferenceIdeal.nD Cert.DaReferenceIdeal.τ).loc Cert.DaReferenceIdeal.main_arg9))
      ∧ r.2.sem = fun _ => 0)

def quiescent_DaReferenceIdeal_pre_finite_da [hDaReferenceIdeal : Cert.DaReferenceIdeal.Facts] [hPre_finite_da : Cert.Pre_finite_da.Facts] : Prop :=
  ∀ (m : (ℓ : Loc Cert.DaReferenceIdeal.nD Cert.DaReferenceIdeal.τ Cert.DaReferenceIdeal.sig) → Buf (Elt Ideal) ℓ) (g : Dev Cert.DaReferenceIdeal.nD → PrngReg), Pre_DaReferenceIdeal_finite_da m →
    θ_run (Cert.DaReferenceIdeal.defs (F := Ideal)) (onTc (τ := Cert.DaReferenceIdeal.τ) (Cert.DaReferenceIdeal.main (F := Ideal))) ⟨m, fun _ => 0, g⟩ (fun r => (∀ c : Dev Cert.DaReferenceIdeal.nD,
      r.2.mem ((c.tc : Thread Cert.DaReferenceIdeal.nD Cert.DaReferenceIdeal.τ).loc Cert.DaReferenceIdeal.main_arg0) = m ((c.tc : Thread Cert.DaReferenceIdeal.nD Cert.DaReferenceIdeal.τ).loc Cert.DaReferenceIdeal.main_arg0)
      ∧ r.2.mem ((c.tc : Thread Cert.DaReferenceIdeal.nD Cert.DaReferenceIdeal.τ).loc Cert.DaReferenceIdeal.main_arg1) = m ((c.tc : Thread Cert.DaReferenceIdeal.nD Cert.DaReferenceIdeal.τ).loc Cert.DaReferenceIdeal.main_arg1)
      ∧ r.2.mem ((c.tc : Thread Cert.DaReferenceIdeal.nD Cert.DaReferenceIdeal.τ).loc Cert.DaReferenceIdeal.main_arg2) = m ((c.tc : Thread Cert.DaReferenceIdeal.nD Cert.DaReferenceIdeal.τ).loc Cert.DaReferenceIdeal.main_arg2)
      ∧ r.2.mem ((c.tc : Thread Cert.DaReferenceIdeal.nD Cert.DaReferenceIdeal.τ).loc Cert.DaReferenceIdeal.main_arg3) = m ((c.tc : Thread Cert.DaReferenceIdeal.nD Cert.DaReferenceIdeal.τ).loc Cert.DaReferenceIdeal.main_arg3)
      ∧ r.2.mem ((c.tc : Thread Cert.DaReferenceIdeal.nD Cert.DaReferenceIdeal.τ).loc Cert.DaReferenceIdeal.main_arg4) = m ((c.tc : Thread Cert.DaReferenceIdeal.nD Cert.DaReferenceIdeal.τ).loc Cert.DaReferenceIdeal.main_arg4)
      ∧ r.2.mem ((c.tc : Thread Cert.DaReferenceIdeal.nD Cert.DaReferenceIdeal.τ).loc Cert.DaReferenceIdeal.main_arg5) = m ((c.tc : Thread Cert.DaReferenceIdeal.nD Cert.DaReferenceIdeal.τ).loc Cert.DaReferenceIdeal.main_arg5)
      ∧ r.2.mem ((c.tc : Thread Cert.DaReferenceIdeal.nD Cert.DaReferenceIdeal.τ).loc Cert.DaReferenceIdeal.main_arg6) = m ((c.tc : Thread Cert.DaReferenceIdeal.nD Cert.DaReferenceIdeal.τ).loc Cert.DaReferenceIdeal.main_arg6)
      ∧ r.2.mem ((c.tc : Thread Cert.DaReferenceIdeal.nD Cert.DaReferenceIdeal.τ).loc Cert.DaReferenceIdeal.main_arg7) = m ((c.tc : Thread Cert.DaReferenceIdeal.nD Cert.DaReferenceIdeal.τ).loc Cert.DaReferenceIdeal.main_arg7)
      ∧ r.2.mem ((c.tc : Thread Cert.DaReferenceIdeal.nD Cert.DaReferenceIdeal.τ).loc Cert.DaReferenceIdeal.main_arg8) = m ((c.tc : Thread Cert.DaReferenceIdeal.nD Cert.DaReferenceIdeal.τ).loc Cert.DaReferenceIdeal.main_arg8)
      ∧ r.2.mem ((c.tc : Thread Cert.DaReferenceIdeal.nD Cert.DaReferenceIdeal.τ).loc Cert.DaReferenceIdeal.main_arg9) = m ((c.tc : Thread Cert.DaReferenceIdeal.nD Cert.DaReferenceIdeal.τ).loc Cert.DaReferenceIdeal.main_arg9))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1)
      ∧ r.2.mem ((c.tc : Thread Cert.ProjKernel.nD Cert.ProjKernel.τ).loc Cert.ProjKernel.main_arg2) = m ((c.tc : Thread Cert.ProjKernel.nD Cert.ProjKernel.τ).loc Cert.ProjKernel.main_arg2)
      ∧ r.2.mem ((c.tc : Thread Cert.ProjKernel.nD Cert.ProjKernel.τ).loc Cert.ProjKernel.main_arg3) = m ((c.tc : Thread Cert.ProjKernel.nD Cert.ProjKernel.τ).loc Cert.ProjKernel.main_arg3))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
      ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3))
      ∧ r.2.sem = fun _ => 0)

def preserves_Kernel_KernelIdeal : Prop :=
  IdealRules.named_const.Statement Cert.KernelIdeal.κ "neg_scale_log2e" .f32 0xBE38AA3B#32 ((-((1 / 8) * (Real.log 2)⁻¹) : ℝ) : EReal)
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_MoeKernel_MoeKernelIdeal : Prop :=
  True

def algebraic_MoeKernelIdeal_MoeReferenceIdeal [hMoeKernelIdeal : Cert.MoeKernelIdeal.Facts] [hMoeReferenceIdeal : Cert.MoeReferenceIdeal.Facts] [hPre_planned : Cert.Pre_planned.Facts] : Prop :=
  ∀ (m : (ℓ : Loc Cert.MoeKernelIdeal.nD Cert.MoeKernelIdeal.τ Cert.MoeKernelIdeal.sig) → Buf (Elt Ideal) ℓ) (g : Dev Cert.MoeKernelIdeal.nD → PrngReg)
    (m' : (ℓ : Loc Cert.MoeReferenceIdeal.nD Cert.MoeReferenceIdeal.τ Cert.MoeReferenceIdeal.sig) → Buf (Elt Ideal) ℓ) (g' : Dev Cert.MoeReferenceIdeal.nD → PrngReg), Pre_MoeKernelIdeal m →
    (∀ c : Dev Cert.MoeKernelIdeal.nD,
      m' ((c.tc : Thread Cert.MoeReferenceIdeal.nD Cert.MoeReferenceIdeal.τ).loc Cert.MoeReferenceIdeal.main_arg0) = m ((c.tc : Thread Cert.MoeKernelIdeal.nD Cert.MoeKernelIdeal.τ).loc Cert.MoeKernelIdeal.main_arg0)
      ∧ m' ((c.tc : Thread Cert.MoeReferenceIdeal.nD Cert.MoeReferenceIdeal.τ).loc Cert.MoeReferenceIdeal.main_arg1) = m ((c.tc : Thread Cert.MoeKernelIdeal.nD Cert.MoeKernelIdeal.τ).loc Cert.MoeKernelIdeal.main_arg1)
      ∧ m' ((c.tc : Thread Cert.MoeReferenceIdeal.nD Cert.MoeReferenceIdeal.τ).loc Cert.MoeReferenceIdeal.main_arg2) = m ((c.tc : Thread Cert.MoeKernelIdeal.nD Cert.MoeKernelIdeal.τ).loc Cert.MoeKernelIdeal.main_arg2)
      ∧ m' ((c.tc : Thread Cert.MoeReferenceIdeal.nD Cert.MoeReferenceIdeal.τ).loc Cert.MoeReferenceIdeal.main_arg3) = m ((c.tc : Thread Cert.MoeKernelIdeal.nD Cert.MoeKernelIdeal.τ).loc Cert.MoeKernelIdeal.main_arg3)
      ∧ m' ((c.tc : Thread Cert.MoeReferenceIdeal.nD Cert.MoeReferenceIdeal.τ).loc Cert.MoeReferenceIdeal.main_arg4) = m ((c.tc : Thread Cert.MoeKernelIdeal.nD Cert.MoeKernelIdeal.τ).loc Cert.MoeKernelIdeal.main_arg4)
      ∧ m' ((c.tc : Thread Cert.MoeReferenceIdeal.nD Cert.MoeReferenceIdeal.τ).loc Cert.MoeReferenceIdeal.main_arg5) = m ((c.tc : Thread Cert.MoeKernelIdeal.nD Cert.MoeKernelIdeal.τ).loc Cert.MoeKernelIdeal.main_arg5)) →
    ∃ (v0 : (c : Dev Cert.MoeKernelIdeal.nD) → Buf (Elt Ideal) ((c.tc : Thread Cert.MoeKernelIdeal.nD Cert.MoeKernelIdeal.τ).loc Cert.MoeKernelIdeal.main_v3)),
      θ_run (Cert.MoeKernelIdeal.defs (F := Ideal)) (onTc (τ := Cert.MoeKernelIdeal.τ) (Cert.MoeKernelIdeal.main (F := Ideal))) ⟨m, fun _ => 0, g⟩ (fun r => ∀ c : Dev Cert.MoeKernelIdeal.nD,
          r.2.mem ((c.tc : Thread Cert.MoeKernelIdeal.nD Cert.MoeKernelIdeal.τ).loc Cert.MoeKernelIdeal.main_v3) = v0 c
          ∧ r.2.mem ((c.tc : Thread Cert.MoeKernelIdeal.nD Cert.MoeKernelIdeal.τ).loc Cert.MoeKernelIdeal.main_arg0) = m ((c.tc : Thread Cert.MoeKernelIdeal.nD Cert.MoeKernelIdeal.τ).loc Cert.MoeKernelIdeal.main_arg0)
          ∧ r.2.mem ((c.tc : Thread Cert.MoeKernelIdeal.nD Cert.MoeKernelIdeal.τ).loc Cert.MoeKernelIdeal.main_arg1) = m ((c.tc : Thread Cert.MoeKernelIdeal.nD Cert.MoeKernelIdeal.τ).loc Cert.MoeKernelIdeal.main_arg1)
          ∧ r.2.mem ((c.tc : Thread Cert.MoeKernelIdeal.nD Cert.MoeKernelIdeal.τ).loc Cert.MoeKernelIdeal.main_arg2) = m ((c.tc : Thread Cert.MoeKernelIdeal.nD Cert.MoeKernelIdeal.τ).loc Cert.MoeKernelIdeal.main_arg2)
          ∧ r.2.mem ((c.tc : Thread Cert.MoeKernelIdeal.nD Cert.MoeKernelIdeal.τ).loc Cert.MoeKernelIdeal.main_arg3) = m ((c.tc : Thread Cert.MoeKernelIdeal.nD Cert.MoeKernelIdeal.τ).loc Cert.MoeKernelIdeal.main_arg3)
          ∧ r.2.mem ((c.tc : Thread Cert.MoeKernelIdeal.nD Cert.MoeKernelIdeal.τ).loc Cert.MoeKernelIdeal.main_arg4) = m ((c.tc : Thread Cert.MoeKernelIdeal.nD Cert.MoeKernelIdeal.τ).loc Cert.MoeKernelIdeal.main_arg4)
          ∧ r.2.mem ((c.tc : Thread Cert.MoeKernelIdeal.nD Cert.MoeKernelIdeal.τ).loc Cert.MoeKernelIdeal.main_arg5) = m ((c.tc : Thread Cert.MoeKernelIdeal.nD Cert.MoeKernelIdeal.τ).loc Cert.MoeKernelIdeal.main_arg5))
      ∧ θ_run (Cert.MoeReferenceIdeal.defs (F := Ideal)) (onTc (τ := Cert.MoeReferenceIdeal.τ) (Cert.MoeReferenceIdeal.main (F := Ideal))) ⟨m', fun _ => 0, g'⟩ (fun r => ∀ c : Dev Cert.MoeReferenceIdeal.nD,
          r.2.mem ((c.tc : Thread Cert.MoeReferenceIdeal.nD Cert.MoeReferenceIdeal.τ).loc Cert.MoeReferenceIdeal.main_v18) = v0 c
          ∧ r.2.mem ((c.tc : Thread Cert.MoeReferenceIdeal.nD Cert.MoeReferenceIdeal.τ).loc Cert.MoeReferenceIdeal.main_arg0) = m' ((c.tc : Thread Cert.MoeReferenceIdeal.nD Cert.MoeReferenceIdeal.τ).loc Cert.MoeReferenceIdeal.main_arg0)
          ∧ r.2.mem ((c.tc : Thread Cert.MoeReferenceIdeal.nD Cert.MoeReferenceIdeal.τ).loc Cert.MoeReferenceIdeal.main_arg1) = m' ((c.tc : Thread Cert.MoeReferenceIdeal.nD Cert.MoeReferenceIdeal.τ).loc Cert.MoeReferenceIdeal.main_arg1)
          ∧ r.2.mem ((c.tc : Thread Cert.MoeReferenceIdeal.nD Cert.MoeReferenceIdeal.τ).loc Cert.MoeReferenceIdeal.main_arg2) = m' ((c.tc : Thread Cert.MoeReferenceIdeal.nD Cert.MoeReferenceIdeal.τ).loc Cert.MoeReferenceIdeal.main_arg2)
          ∧ r.2.mem ((c.tc : Thread Cert.MoeReferenceIdeal.nD Cert.MoeReferenceIdeal.τ).loc Cert.MoeReferenceIdeal.main_arg3) = m' ((c.tc : Thread Cert.MoeReferenceIdeal.nD Cert.MoeReferenceIdeal.τ).loc Cert.MoeReferenceIdeal.main_arg3)
          ∧ r.2.mem ((c.tc : Thread Cert.MoeReferenceIdeal.nD Cert.MoeReferenceIdeal.τ).loc Cert.MoeReferenceIdeal.main_arg4) = m' ((c.tc : Thread Cert.MoeReferenceIdeal.nD Cert.MoeReferenceIdeal.τ).loc Cert.MoeReferenceIdeal.main_arg4)
          ∧ r.2.mem ((c.tc : Thread Cert.MoeReferenceIdeal.nD Cert.MoeReferenceIdeal.τ).loc Cert.MoeReferenceIdeal.main_arg5) = m' ((c.tc : Thread Cert.MoeReferenceIdeal.nD Cert.MoeReferenceIdeal.τ).loc Cert.MoeReferenceIdeal.main_arg5))

def preserves_MixKernel_MixKernelIdeal : Prop :=
  True

def algebraic_MixKernelIdeal_MixReferenceIdeal [hMixKernelIdeal : Cert.MixKernelIdeal.Facts] [hMixReferenceIdeal : Cert.MixReferenceIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)
      ∧ m' ((c.tc : Thread Cert.MixReferenceIdeal.nD Cert.MixReferenceIdeal.τ).loc Cert.MixReferenceIdeal.main_arg1) = m ((c.tc : Thread Cert.MixKernelIdeal.nD Cert.MixKernelIdeal.τ).loc Cert.MixKernelIdeal.main_arg1)
      ∧ m' ((c.tc : Thread Cert.MixReferenceIdeal.nD Cert.MixReferenceIdeal.τ).loc Cert.MixReferenceIdeal.main_arg2) = m ((c.tc : Thread Cert.MixKernelIdeal.nD Cert.MixKernelIdeal.τ).loc Cert.MixKernelIdeal.main_arg2)
      ∧ m' ((c.tc : Thread Cert.MixReferenceIdeal.nD Cert.MixReferenceIdeal.τ).loc Cert.MixReferenceIdeal.main_arg3) = m ((c.tc : Thread Cert.MixKernelIdeal.nD Cert.MixKernelIdeal.τ).loc Cert.MixKernelIdeal.main_arg3)
      ∧ m' ((c.tc : Thread Cert.MixReferenceIdeal.nD Cert.MixReferenceIdeal.τ).loc Cert.MixReferenceIdeal.main_arg4) = m ((c.tc : Thread Cert.MixKernelIdeal.nD Cert.MixKernelIdeal.τ).loc Cert.MixKernelIdeal.main_arg4)
      ∧ m' ((c.tc : Thread Cert.MixReferenceIdeal.nD Cert.MixReferenceIdeal.τ).loc Cert.MixReferenceIdeal.main_arg5) = m ((c.tc : Thread Cert.MixKernelIdeal.nD Cert.MixKernelIdeal.τ).loc Cert.MixKernelIdeal.main_arg5)
      ∧ m' ((c.tc : Thread Cert.MixReferenceIdeal.nD Cert.MixReferenceIdeal.τ).loc Cert.MixReferenceIdeal.main_arg6) = m ((c.tc : Thread Cert.MixKernelIdeal.nD Cert.MixKernelIdeal.τ).loc Cert.MixKernelIdeal.main_arg6)
      ∧ m' ((c.tc : Thread Cert.MixReferenceIdeal.nD Cert.MixReferenceIdeal.τ).loc Cert.MixReferenceIdeal.main_arg7) = m ((c.tc : Thread Cert.MixKernelIdeal.nD Cert.MixKernelIdeal.τ).loc Cert.MixKernelIdeal.main_arg7)
      ∧ m' ((c.tc : Thread Cert.MixReferenceIdeal.nD Cert.MixReferenceIdeal.τ).loc Cert.MixReferenceIdeal.main_arg8) = m ((c.tc : Thread Cert.MixKernelIdeal.nD Cert.MixKernelIdeal.τ).loc Cert.MixKernelIdeal.main_arg8)) →
    ∃ (v0 : (c : Dev Cert.MixKernelIdeal.nD) → Buf (Elt Ideal) ((c.tc : Thread Cert.MixKernelIdeal.nD Cert.MixKernelIdeal.τ).loc Cert.MixKernelIdeal.main_v12_0)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v12_0) = v0 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
          ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
          ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
          ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
          ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
          ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
          ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7)
          ∧ r.2.mem ((c.tc : Thread Cert.MixKernelIdeal.nD Cert.MixKernelIdeal.τ).loc Cert.MixKernelIdeal.main_arg8) = m ((c.tc : Thread Cert.MixKernelIdeal.nD Cert.MixKernelIdeal.τ).loc Cert.MixKernelIdeal.main_arg8))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v26) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8))

def preserves_DaKernel_DaKernelIdeal : Prop :=
  IdealRules.named_const.Statement Cert.DaKernelIdeal.κ "buckets_per_log" .f32 0x40F6384F#32 ((16 * (Real.log 8)⁻¹ : ℝ) : EReal)
  ∧ IdealRules.named_const.Statement Cert.DaKernelIdeal.κ "log2e" .f32 0x3FB8AA3B#32 (((Real.log 2)⁻¹ : ℝ) : EReal)
  ∧ IdealRules.named_const.Statement Cert.DaKernelIdeal.κ "neg_inf" .f32 0xF149F2CA#32 ⊥
  ∧ IdealRules.named_const.Statement Cert.DaKernelIdeal.κ "scale_log2e" .f32 0x3E38AA3B#32 (((1 / 8) * (Real.log 2)⁻¹ : ℝ) : EReal)

def algebraic_DaKernelIdeal_DaReferenceIdeal_pre_finite_da [hDaKernelIdeal : Cert.DaKernelIdeal.Facts] [hDaReferenceIdeal : Cert.DaReferenceIdeal.Facts] [hPre_finite_da : Cert.Pre_finite_da.Facts] : Prop :=
  ∀ (m : (ℓ : Loc Cert.DaKernelIdeal.nD Cert.DaKernelIdeal.τ Cert.DaKernelIdeal.sig) → Buf (Elt Ideal) ℓ) (g : Dev Cert.DaKernelIdeal.nD → PrngReg)
    (m' : (ℓ : Loc Cert.DaReferenceIdeal.nD Cert.DaReferenceIdeal.τ Cert.DaReferenceIdeal.sig) → Buf (Elt Ideal) ℓ) (g' : Dev Cert.DaReferenceIdeal.nD → PrngReg), Pre_DaKernelIdeal_finite_da m →
    (∀ c : Dev Cert.DaKernelIdeal.nD,
      m' ((c.tc : Thread Cert.DaReferenceIdeal.nD Cert.DaReferenceIdeal.τ).loc Cert.DaReferenceIdeal.main_arg0) = m ((c.tc : Thread Cert.DaKernelIdeal.nD Cert.DaKernelIdeal.τ).loc Cert.DaKernelIdeal.main_arg0)
      ∧ m' ((c.tc : Thread Cert.DaReferenceIdeal.nD Cert.DaReferenceIdeal.τ).loc Cert.DaReferenceIdeal.main_arg1) = m ((c.tc : Thread Cert.DaKernelIdeal.nD Cert.DaKernelIdeal.τ).loc Cert.DaKernelIdeal.main_arg1)
      ∧ m' ((c.tc : Thread Cert.DaReferenceIdeal.nD Cert.DaReferenceIdeal.τ).loc Cert.DaReferenceIdeal.main_arg2) = m ((c.tc : Thread Cert.DaKernelIdeal.nD Cert.DaKernelIdeal.τ).loc Cert.DaKernelIdeal.main_arg2)
      ∧ m' ((c.tc : Thread Cert.DaReferenceIdeal.nD Cert.DaReferenceIdeal.τ).loc Cert.DaReferenceIdeal.main_arg3) = m ((c.tc : Thread Cert.DaKernelIdeal.nD Cert.DaKernelIdeal.τ).loc Cert.DaKernelIdeal.main_arg3)
      ∧ m' ((c.tc : Thread Cert.DaReferenceIdeal.nD Cert.DaReferenceIdeal.τ).loc Cert.DaReferenceIdeal.main_arg4) = m ((c.tc : Thread Cert.DaKernelIdeal.nD Cert.DaKernelIdeal.τ).loc Cert.DaKernelIdeal.main_arg4)
      ∧ m' ((c.tc : Thread Cert.DaReferenceIdeal.nD Cert.DaReferenceIdeal.τ).loc Cert.DaReferenceIdeal.main_arg5) = m ((c.tc : Thread Cert.DaKernelIdeal.nD Cert.DaKernelIdeal.τ).loc Cert.DaKernelIdeal.main_arg5)
      ∧ m' ((c.tc : Thread Cert.DaReferenceIdeal.nD Cert.DaReferenceIdeal.τ).loc Cert.DaReferenceIdeal.main_arg6) = m ((c.tc : Thread Cert.DaKernelIdeal.nD Cert.DaKernelIdeal.τ).loc Cert.DaKernelIdeal.main_arg6)
      ∧ m' ((c.tc : Thread Cert.DaReferenceIdeal.nD Cert.DaReferenceIdeal.τ).loc Cert.DaReferenceIdeal.main_arg7) = m ((c.tc : Thread Cert.DaKernelIdeal.nD Cert.DaKernelIdeal.τ).loc Cert.DaKernelIdeal.main_arg7)
      ∧ m' ((c.tc : Thread Cert.DaReferenceIdeal.nD Cert.DaReferenceIdeal.τ).loc Cert.DaReferenceIdeal.main_arg8) = m ((c.tc : Thread Cert.DaKernelIdeal.nD Cert.DaKernelIdeal.τ).loc Cert.DaKernelIdeal.main_arg8)
      ∧ m' ((c.tc : Thread Cert.DaReferenceIdeal.nD Cert.DaReferenceIdeal.τ).loc Cert.DaReferenceIdeal.main_arg9) = m ((c.tc : Thread Cert.DaKernelIdeal.nD Cert.DaKernelIdeal.τ).loc Cert.DaKernelIdeal.main_arg9)) →
    ∃ (v0 : (c : Dev Cert.DaKernelIdeal.nD) → Buf (Elt Ideal) ((c.tc : Thread Cert.DaKernelIdeal.nD Cert.DaKernelIdeal.τ).loc Cert.DaKernelIdeal.main_v22)),
      θ_run (Cert.DaKernelIdeal.defs (F := Ideal)) (onTc (τ := Cert.DaKernelIdeal.τ) (Cert.DaKernelIdeal.main (F := Ideal))) ⟨m, fun _ => 0, g⟩ (fun r => ∀ c : Dev Cert.DaKernelIdeal.nD,
          r.2.mem ((c.tc : Thread Cert.DaKernelIdeal.nD Cert.DaKernelIdeal.τ).loc Cert.DaKernelIdeal.main_v22) = v0 c
          ∧ r.2.mem ((c.tc : Thread Cert.DaKernelIdeal.nD Cert.DaKernelIdeal.τ).loc Cert.DaKernelIdeal.main_arg0) = m ((c.tc : Thread Cert.DaKernelIdeal.nD Cert.DaKernelIdeal.τ).loc Cert.DaKernelIdeal.main_arg0)
          ∧ r.2.mem ((c.tc : Thread Cert.DaKernelIdeal.nD Cert.DaKernelIdeal.τ).loc Cert.DaKernelIdeal.main_arg1) = m ((c.tc : Thread Cert.DaKernelIdeal.nD Cert.DaKernelIdeal.τ).loc Cert.DaKernelIdeal.main_arg1)
          ∧ r.2.mem ((c.tc : Thread Cert.DaKernelIdeal.nD Cert.DaKernelIdeal.τ).loc Cert.DaKernelIdeal.main_arg2) = m ((c.tc : Thread Cert.DaKernelIdeal.nD Cert.DaKernelIdeal.τ).loc Cert.DaKernelIdeal.main_arg2)
          ∧ r.2.mem ((c.tc : Thread Cert.DaKernelIdeal.nD Cert.DaKernelIdeal.τ).loc Cert.DaKernelIdeal.main_arg3) = m ((c.tc : Thread Cert.DaKernelIdeal.nD Cert.DaKernelIdeal.τ).loc Cert.DaKernelIdeal.main_arg3)
          ∧ r.2.mem ((c.tc : Thread Cert.DaKernelIdeal.nD Cert.DaKernelIdeal.τ).loc Cert.DaKernelIdeal.main_arg4) = m ((c.tc : Thread Cert.DaKernelIdeal.nD Cert.DaKernelIdeal.τ).loc Cert.DaKernelIdeal.main_arg4)
          ∧ r.2.mem ((c.tc : Thread Cert.DaKernelIdeal.nD Cert.DaKernelIdeal.τ).loc Cert.DaKernelIdeal.main_arg5) = m ((c.tc : Thread Cert.DaKernelIdeal.nD Cert.DaKernelIdeal.τ).loc Cert.DaKernelIdeal.main_arg5)
          ∧ r.2.mem ((c.tc : Thread Cert.DaKernelIdeal.nD Cert.DaKernelIdeal.τ).loc Cert.DaKernelIdeal.main_arg6) = m ((c.tc : Thread Cert.DaKernelIdeal.nD Cert.DaKernelIdeal.τ).loc Cert.DaKernelIdeal.main_arg6)
          ∧ r.2.mem ((c.tc : Thread Cert.DaKernelIdeal.nD Cert.DaKernelIdeal.τ).loc Cert.DaKernelIdeal.main_arg7) = m ((c.tc : Thread Cert.DaKernelIdeal.nD Cert.DaKernelIdeal.τ).loc Cert.DaKernelIdeal.main_arg7)
          ∧ r.2.mem ((c.tc : Thread Cert.DaKernelIdeal.nD Cert.DaKernelIdeal.τ).loc Cert.DaKernelIdeal.main_arg8) = m ((c.tc : Thread Cert.DaKernelIdeal.nD Cert.DaKernelIdeal.τ).loc Cert.DaKernelIdeal.main_arg8)
          ∧ r.2.mem ((c.tc : Thread Cert.DaKernelIdeal.nD Cert.DaKernelIdeal.τ).loc Cert.DaKernelIdeal.main_arg9) = m ((c.tc : Thread Cert.DaKernelIdeal.nD Cert.DaKernelIdeal.τ).loc Cert.DaKernelIdeal.main_arg9))
      ∧ θ_run (Cert.DaReferenceIdeal.defs (F := Ideal)) (onTc (τ := Cert.DaReferenceIdeal.τ) (Cert.DaReferenceIdeal.main (F := Ideal))) ⟨m', fun _ => 0, g'⟩ (fun r => ∀ c : Dev Cert.DaReferenceIdeal.nD,
          r.2.mem ((c.tc : Thread Cert.DaReferenceIdeal.nD Cert.DaReferenceIdeal.τ).loc Cert.DaReferenceIdeal.main_v105) = v0 c
          ∧ r.2.mem ((c.tc : Thread Cert.DaReferenceIdeal.nD Cert.DaReferenceIdeal.τ).loc Cert.DaReferenceIdeal.main_arg0) = m' ((c.tc : Thread Cert.DaReferenceIdeal.nD Cert.DaReferenceIdeal.τ).loc Cert.DaReferenceIdeal.main_arg0)
          ∧ r.2.mem ((c.tc : Thread Cert.DaReferenceIdeal.nD Cert.DaReferenceIdeal.τ).loc Cert.DaReferenceIdeal.main_arg1) = m' ((c.tc : Thread Cert.DaReferenceIdeal.nD Cert.DaReferenceIdeal.τ).loc Cert.DaReferenceIdeal.main_arg1)
          ∧ r.2.mem ((c.tc : Thread Cert.DaReferenceIdeal.nD Cert.DaReferenceIdeal.τ).loc Cert.DaReferenceIdeal.main_arg2) = m' ((c.tc : Thread Cert.DaReferenceIdeal.nD Cert.DaReferenceIdeal.τ).loc Cert.DaReferenceIdeal.main_arg2)
          ∧ r.2.mem ((c.tc : Thread Cert.DaReferenceIdeal.nD Cert.DaReferenceIdeal.τ).loc Cert.DaReferenceIdeal.main_arg3) = m' ((c.tc : Thread Cert.DaReferenceIdeal.nD Cert.DaReferenceIdeal.τ).loc Cert.DaReferenceIdeal.main_arg3)
          ∧ r.2.mem ((c.tc : Thread Cert.DaReferenceIdeal.nD Cert.DaReferenceIdeal.τ).loc Cert.DaReferenceIdeal.main_arg4) = m' ((c.tc : Thread Cert.DaReferenceIdeal.nD Cert.DaReferenceIdeal.τ).loc Cert.DaReferenceIdeal.main_arg4)
          ∧ r.2.mem ((c.tc : Thread Cert.DaReferenceIdeal.nD Cert.DaReferenceIdeal.τ).loc Cert.DaReferenceIdeal.main_arg5) = m' ((c.tc : Thread Cert.DaReferenceIdeal.nD Cert.DaReferenceIdeal.τ).loc Cert.DaReferenceIdeal.main_arg5)
          ∧ r.2.mem ((c.tc : Thread Cert.DaReferenceIdeal.nD Cert.DaReferenceIdeal.τ).loc Cert.DaReferenceIdeal.main_arg6) = m' ((c.tc : Thread Cert.DaReferenceIdeal.nD Cert.DaReferenceIdeal.τ).loc Cert.DaReferenceIdeal.main_arg6)
          ∧ r.2.mem ((c.tc : Thread Cert.DaReferenceIdeal.nD Cert.DaReferenceIdeal.τ).loc Cert.DaReferenceIdeal.main_arg7) = m' ((c.tc : Thread Cert.DaReferenceIdeal.nD Cert.DaReferenceIdeal.τ).loc Cert.DaReferenceIdeal.main_arg7)
          ∧ r.2.mem ((c.tc : Thread Cert.DaReferenceIdeal.nD Cert.DaReferenceIdeal.τ).loc Cert.DaReferenceIdeal.main_arg8) = m' ((c.tc : Thread Cert.DaReferenceIdeal.nD Cert.DaReferenceIdeal.τ).loc Cert.DaReferenceIdeal.main_arg8)
          ∧ r.2.mem ((c.tc : Thread Cert.DaReferenceIdeal.nD Cert.DaReferenceIdeal.τ).loc Cert.DaReferenceIdeal.main_arg9) = m' ((c.tc : Thread Cert.DaReferenceIdeal.nD Cert.DaReferenceIdeal.τ).loc Cert.DaReferenceIdeal.main_arg9))

def preserves_ProjKernel_ProjKernelIdeal : Prop :=
  True

def algebraic_ProjKernelIdeal_ProjReferenceIdeal [hProjKernelIdeal : Cert.ProjKernelIdeal.Facts] [hProjReferenceIdeal : Cert.ProjReferenceIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)
      ∧ m' ((c.tc : Thread Cert.ProjReferenceIdeal.nD Cert.ProjReferenceIdeal.τ).loc Cert.ProjReferenceIdeal.main_arg2) = m ((c.tc : Thread Cert.ProjKernelIdeal.nD Cert.ProjKernelIdeal.τ).loc Cert.ProjKernelIdeal.main_arg2)
      ∧ m' ((c.tc : Thread Cert.ProjReferenceIdeal.nD Cert.ProjReferenceIdeal.τ).loc Cert.ProjReferenceIdeal.main_arg3) = m ((c.tc : Thread Cert.ProjKernelIdeal.nD Cert.ProjKernelIdeal.τ).loc Cert.ProjKernelIdeal.main_arg3)) →
    ∃ (v0 : (c : Dev Cert.ProjKernelIdeal.nD) → Buf (Elt Ideal) ((c.tc : Thread Cert.ProjKernelIdeal.nD Cert.ProjKernelIdeal.τ).loc Cert.ProjKernelIdeal.main_v3_0)) (v1 : (c : Dev Cert.ProjKernelIdeal.nD) → Buf (Elt Ideal) ((c.tc : Thread Cert.ProjKernelIdeal.nD Cert.ProjKernelIdeal.τ).loc Cert.ProjKernelIdeal.main_v3_1)) (v2 : (c : Dev Cert.ProjKernelIdeal.nD) → Buf (Elt Ideal) ((c.tc : Thread Cert.ProjKernelIdeal.nD Cert.ProjKernelIdeal.τ).loc Cert.ProjKernelIdeal.main_v3_2)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v3_0) = v0 c
          ∧ r.2.mem ((c.tc : Thread Cert.ProjKernelIdeal.nD Cert.ProjKernelIdeal.τ).loc Cert.ProjKernelIdeal.main_v3_1) = v1 c
          ∧ r.2.mem ((c.tc : Thread Cert.ProjKernelIdeal.nD Cert.ProjKernelIdeal.τ).loc Cert.ProjKernelIdeal.main_v3_2) = v2 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
          ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
          ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v3) = v0 c
          ∧ r.2.mem ((c.tc : Thread Cert.ProjReferenceIdeal.nD Cert.ProjReferenceIdeal.τ).loc Cert.ProjReferenceIdeal.main_v5) = v1 c
          ∧ r.2.mem ((c.tc : Thread Cert.ProjReferenceIdeal.nD Cert.ProjReferenceIdeal.τ).loc Cert.ProjReferenceIdeal.main_v7) = v2 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3))

def Claim : Prop :=
  ∃ (hKernel : Cert.Kernel.Facts) (hKernelIdeal : Cert.KernelIdeal.Facts) (hReferenceIdeal : Cert.ReferenceIdeal.Facts) (hMoeKernel : Cert.MoeKernel.Facts) (hMoeKernelIdeal : Cert.MoeKernelIdeal.Facts) (hMoeReferenceIdeal : Cert.MoeReferenceIdeal.Facts) (hMixKernel : Cert.MixKernel.Facts) (hMixKernelIdeal : Cert.MixKernelIdeal.Facts) (hMixReferenceIdeal : Cert.MixReferenceIdeal.Facts) (hDaKernel : Cert.DaKernel.Facts) (hDaKernelIdeal : Cert.DaKernelIdeal.Facts) (hDaReferenceIdeal : Cert.DaReferenceIdeal.Facts) (hProjKernel : Cert.ProjKernel.Facts) (hProjKernelIdeal : Cert.ProjKernelIdeal.Facts) (hProjReferenceIdeal : Cert.ProjReferenceIdeal.Facts) (hPre_finite : Cert.Pre_finite.Facts) (hPre_planned : Cert.Pre_planned.Facts) (hPre_finite_da : Cert.Pre_finite_da.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_MoeKernel (hMoeKernel := hMoeKernel) (hPre_planned := hPre_planned)
    ∧ quiescent_MoeKernelIdeal (hMoeKernelIdeal := hMoeKernelIdeal) (hPre_planned := hPre_planned)
    ∧ quiescent_MoeReferenceIdeal (hMoeReferenceIdeal := hMoeReferenceIdeal)
    ∧ quiescent_MoeReferenceIdeal_pre_planned (hMoeReferenceIdeal := hMoeReferenceIdeal) (hPre_planned := hPre_planned)
    ∧ quiescent_MixKernel (hMixKernel := hMixKernel)
    ∧ quiescent_MixKernelIdeal (hMixKernelIdeal := hMixKernelIdeal)
    ∧ quiescent_MixReferenceIdeal (hMixReferenceIdeal := hMixReferenceIdeal)
    ∧ quiescent_DaKernel (hDaKernel := hDaKernel)
    ∧ quiescent_DaKernelIdeal (hDaKernelIdeal := hDaKernelIdeal)
    ∧ quiescent_DaKernelIdeal_pre_finite_da (hDaKernelIdeal := hDaKernelIdeal) (hPre_finite_da := hPre_finite_da)
    ∧ quiescent_DaReferenceIdeal (hDaReferenceIdeal := hDaReferenceIdeal)
    ∧ quiescent_DaReferenceIdeal_pre_finite_da (hDaReferenceIdeal := hDaReferenceIdeal) (hPre_finite_da := hPre_finite_da)
    ∧ quiescent_ProjKernel (hProjKernel := hProjKernel)
    ∧ quiescent_ProjKernelIdeal (hProjKernelIdeal := hProjKernelIdeal)
    ∧ quiescent_ProjReferenceIdeal (hProjReferenceIdeal := hProjReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_MoeKernel_MoeKernelIdeal
    ∧ algebraic_MoeKernelIdeal_MoeReferenceIdeal (hMoeKernelIdeal := hMoeKernelIdeal) (hMoeReferenceIdeal := hMoeReferenceIdeal) (hPre_planned := hPre_planned)
    ∧ preserves_MixKernel_MixKernelIdeal
    ∧ algebraic_MixKernelIdeal_MixReferenceIdeal (hMixKernelIdeal := hMixKernelIdeal) (hMixReferenceIdeal := hMixReferenceIdeal)
    ∧ preserves_DaKernel_DaKernelIdeal
    ∧ algebraic_DaKernelIdeal_DaReferenceIdeal_pre_finite_da (hDaKernelIdeal := hDaKernelIdeal) (hDaReferenceIdeal := hDaReferenceIdeal) (hPre_finite_da := hPre_finite_da)
    ∧ preserves_ProjKernel_ProjKernelIdeal
    ∧ algebraic_ProjKernelIdeal_ProjReferenceIdeal (hProjKernelIdeal := hProjKernelIdeal) (hProjReferenceIdeal := hProjReferenceIdeal)
-- ==== Pre_finite.lean ====
abbrev S8x4096x1024 : Shape := ⟨3, ![8, 4096, 1024]⟩
abbrev S1x1024x1024 : Shape := ⟨3, ![1, 1024, 1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S1x1024x1024 : S_.BroadcastsInDim S1x1024x1024 (![] : Fin 0 → Fin S1x1024x1024.rank)
  reducesTo_S1x1024x1024_S_d0_1_2 : S1x1024x1024.ReducesTo [0, 1, 2] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S8x4096x1024 .f32) (main_arg1 : FVec F S1x1024x1024 .f32) (main_arg2 : FVec F S1x1024x1024 .f32) (main_arg3 : FVec F S1x1024x1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S1x1024x1024 .f32 := Host.absf main_arg1
  let main_cst_0 : FVec F S_ .f32 := constant S_ .f32 0x7F800000#32
  let main_v5 : FVec F S1x1024x1024 .f32 := broadcastInDim S1x1024x1024 ![] bcast_S_S1x1024x1024 main_cst_0
  let main_v6 : IVec S1x1024x1024 1 := cmpf .olt main_v4 main_v5
  let main_c_1 : IVec S_ 1 := constantI S_ 1 1#1
  let main_v7 : IVec S_ 1 := (fun x v => Host.reduce IntOp.andi x v reducesTo_S1x1024x1024_S_d0_1_2 h_S_) main_v6 main_c_1
  let main_v8 : FVec F S1x1024x1024 .f32 := Host.absf main_arg2
  let main_cst_2 : FVec F S_ .f32 := constant S_ .f32 0x7F800000#32
  let main_v9 : FVec F S1x1024x1024 .f32 := broadcastInDim S1x1024x1024 ![] bcast_S_S1x1024x1024 main_cst_2
  let main_v10 : IVec S1x1024x1024 1 := cmpf .olt main_v8 main_v9
  let main_c_3 : IVec S_ 1 := constantI S_ 1 1#1
  let main_v11 : IVec S_ 1 := (fun x v => Host.reduce IntOp.andi x v reducesTo_S1x1024x1024_S_d0_1_2 h_S_) main_v10 main_c_3
  let main_v12 : FVec F S1x1024x1024 .f32 := Host.absf main_arg3
  let main_cst_4 : FVec F S_ .f32 := constant S_ .f32 0x7F800000#32
  let main_v13 : FVec F S1x1024x1024 .f32 := broadcastInDim S1x1024x1024 ![] bcast_S_S1x1024x1024 main_cst_4
  let main_v14 : IVec S1x1024x1024 1 := cmpf .olt main_v12 main_v13
  let main_c_5 : IVec S_ 1 := constantI S_ 1 1#1
  let main_v15 : IVec S_ 1 := (fun x v => Host.reduce IntOp.andi x v reducesTo_S1x1024x1024_S_d0_1_2 h_S_) main_v14 main_c_5
  fn_part1 (F := F) main_v3 main_v7 main_v11 main_v15
-- ==== Pre_finite_da.lean ====
abbrev S8x4096x1024 : Shape := ⟨3, ![8, 4096, 1024]⟩
abbrev S32x8 : Shape := ⟨2, ![32, 8]⟩
abbrev S1x1024x1024 : Shape := ⟨3, ![1, 1024, 1024]⟩
abbrev S1x64 : Shape := ⟨2, ![1, 64]⟩
abbrev S1x128 : Shape := ⟨2, ![1, 128]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S32x8 : S_.BroadcastsInDim S32x8 (![] : Fin 0 → Fin S32x8.rank)
  reducesTo_S32x8_S_d0_1 : S32x8.ReducesTo [0, 1] S_
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S1x64 : S_.BroadcastsInDim S1x64 (![] : Fin 0 → Fin S1x64.rank)
  reducesTo_S1x64_S_d0_1 : S1x64.ReducesTo [0, 1] S_

variable [Facts]

def fn_part2 {F : FTy → Type} [FloatOps F] (main_arg8 : FVec F S1x64 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S1x64 .f32 := Host.absf main_arg8
  let main_cst_14 : FVec F S_ .f32 := constant S_ .f32 0x7F800000#32
  let main_v33 : FVec F S1x64 .f32 := broadcastInDim S1x64 ![] bcast_S_S1x64 main_cst_14
  let main_v34 : IVec S1x64 1 := cmpf .olt main_v32 main_v33
  let main_c_15 : IVec S_ 1 := constantI S_ 1 1#1
  let main_v35 : IVec S_ 1 := (fun x v => Host.reduce IntOp.andi x v reducesTo_S1x64_S_d0_1 h_S_) main_v34 main_c_15
  let main_v36 : IVec S_ 1 := andi main_v3 main_v7
  let main_v37 : IVec S_ 1 := andi main_v36 main_v11
  let main_v38 : IVec S_ 1 := andi main_v37 main_v15
  let main_v39 : IVec S_ 1 := andi main_v38 main_v19
  let main_v40 : IVec S_ 1 := andi main_v39 main_v23
  let main_v41 : IVec S_ 1 := andi main_v40 main_v27
  let main_v42 : IVec S_ 1 := andi main_v41 main_v31
  let main_v43 : IVec S_ 1 := andi main_v42 main_v35
  main_v43

def fn_part1 {F : FTy → Type} [FloatOps F] (main_arg4 : FVec F S1x1024x1024 .f32) (main_arg5 : FVec F S1x64 .f32) (main_arg6 : FVec F S1x64 .f32) (main_arg7 : FVec F S1x64 .f32) (main_arg8 : FVec F S1x64 .f32) (main_v3 : IVec S_ 1) (main_v7 : IVec S_ 1) (main_v11 : IVec S_ 1) (main_v15 : IVec S_ 1) : IVec S_ 1 :=
  let main_v16 : FVec F S1x1024x1024 .f32 := Host.absf main_arg4
  let main_cst_6 : FVec F S_ .f32 := constant S_ .f32 0x7F800000#32
  let main_v17 : FVec F S1x1024x1024 .f32 := broadcastInDim S1x1024x1024 ![] bcast_S_S1x1024x1024 main_cst_6
  let main_v18 : IVec S1x1024x1024 1 := cmpf .olt main_v16 main_v17
  let main_c_7 : IVec S_ 1 := constantI S_ 1 1#1
  let main_v19 : IVec S_ 1 := (fun x v => Host.reduce IntOp.andi x v reducesTo_S1x1024x1024_S_d0_1_2 h_S_) main_v18 main_c_7
  let main_v20 : FVec F S1x64 .f32 := Host.absf main_arg5
  let main_cst_8 : FVec F S_ .f32 := constant S_ .f32 0x7F800000#32
  let main_v21 : FVec F S1x64 .f32 := broadcastInDim S1x64 ![] bcast_S_S1x64 main_cst_8
  let main_v22 : IVec S1x64 1 := cmpf .olt main_v20 main_v21
  let main_c_9 : IVec S_ 1 := constantI S_ 1 1#1
  let main_v23 : IVec S_ 1 := (fun x v => Host.reduce IntOp.andi x v reducesTo_S1x64_S_d0_1 h_S_) main_v22 main_c_9
  let main_v24 : FVec F S1x64 .f32 := Host.absf main_arg6
  let main_cst_10 : FVec F S_ .f32 := constant S_ .f32 0x7F800000#32
  let main_v25 : FVec F S1x64 .f32 := broadcastInDim S1x64 ![] bcast_S_S1x64 main_cst_10
  let main_v26 : IVec S1x64 1 := cmpf .olt main_v24 main_v25
  let main_c_11 : IVec S_ 1 := constantI S_ 1 1#1
  let main_v27 : IVec S_ 1 := (fun x v => Host.reduce IntOp.andi x v reducesTo_S1x64_S_d0_1 h_S_) main_v26 main_c_11
  let main_v28 : FVec F S1x64 .f32 := Host.absf main_arg7
  let main_cst_12 : FVec F S_ .f32 := constant S_ .f32 0x7F800000#32
  let main_v29 : FVec F S1x64 .f32 := broadcastInDim S1x64 ![] bcast_S_S1x64 main_cst_12
  let main_v30 : IVec S1x64 1 := cmpf .olt main_v28 main_v29
  let main_c_13 : IVec S_ 1 := constantI S_ 1 1#1
  let main_v31 : IVec S_ 1 := (fun x v => Host.reduce IntOp.andi x v reducesTo_S1x64_S_d0_1 h_S_) main_v30 main_c_13
  fn_part2 (F := F) main_arg8 main_v3 main_v7 main_v11 main_v15 main_v19 main_v23 main_v27 main_v31

def fn {F : FTy → Type} [FloatOps F] (main_arg0 : FVec F S8x4096x1024 .f32) (main_arg1 : FVec F S32x8 .f32) (main_arg2 : FVec F S1x1024x1024 .f32) (main_arg3 : FVec F S1x1024x1024 .f32) (main_arg4 : FVec F S1x1024x1024 .f32) (main_arg5 : FVec F S1x64 .f32) (main_arg6 : FVec F S1x64 .f32) (main_arg7 : FVec F S1x64 .f32) (main_arg8 : FVec F S1x64 .f32) (main_arg9 : FVec F S1x128 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S32x8 .f32 := Host.absf main_arg1
  let main_cst_0 : FVec F S_ .f32 := constant S_ .f32 0x7F800000#32
  let main_v5 : FVec F S32x8 .f32 := broadcastInDim S32x8 ![] bcast_S_S32x8 main_cst_0
  let main_v6 : IVec S32x8 1 := cmpf .olt main_v4 main_v5
  let main_c_1 : IVec S_ 1 := constantI S_ 1 1#1
  let main_v7 : IVec S_ 1 := (fun x v => Host.reduce IntOp.andi x v reducesTo_S32x8_S_d0_1 h_S_) main_v6 main_c_1
  let main_v8 : FVec F S1x1024x1024 .f32 := Host.absf main_arg2
  let main_cst_2 : FVec F S_ .f32 := constant S_ .f32 0x7F800000#32
  let main_v9 : FVec F S1x1024x1024 .f32 := broadcastInDim S1x1024x1024 ![] bcast_S_S1x1024x1024 main_cst_2
  let main_v10 : IVec S1x1024x1024 1 := cmpf .olt main_v8 main_v9
  let main_c_3 : IVec S_ 1 := constantI S_ 1 1#1
  let main_v11 : IVec S_ 1 := (fun x v => Host.reduce IntOp.andi x v reducesTo_S1x1024x1024_S_d0_1_2 h_S_) main_v10 main_c_3
  let main_v12 : FVec F S1x1024x1024 .f32 := Host.absf main_arg3
  let main_cst_4 : FVec F S_ .f32 := constant S_ .f32 0x7F800000#32
  let main_v13 : FVec F S1x1024x1024 .f32 := broadcastInDim S1x1024x1024 ![] bcast_S_S1x1024x1024 main_cst_4
  let main_v14 : IVec S1x1024x1024 1 := cmpf .olt main_v12 main_v13
  let main_c_5 : IVec S_ 1 := constantI S_ 1 1#1
  let main_v15 : IVec S_ 1 := (fun x v => Host.reduce IntOp.andi x v reducesTo_S1x1024x1024_S_d0_1_2 h_S_) main_v14 main_c_5
  fn_part1 (F := F) main_arg4 main_arg5 main_arg6 main_arg7 main_arg8 main_v3 main_v7 main_v11 main_v15
-- ==== Pre_planned.lean ====
abbrev S288 : Shape := ⟨1, ![288]⟩
abbrev S1 : Shape := ⟨1, ![1]⟩
abbrev S73728x1024 : Shape := ⟨2, ![73728, 1024]⟩
abbrev S32x1024x512 : Shape := ⟨3, ![32, 1024, 512]⟩
abbrev S32x512x1024 : Shape := ⟨3, ![32, 512, 1024]⟩
abbrev S_ : Shape := ⟨0, ![]⟩

class Facts : Prop where
  bcast_S_S288 : S_.BroadcastsInDim S288 (![] : Fin 0 → Fin S288.rank)
  reducesTo_S288_S_d0 : S288.ReducesTo [0] S_
  h_S_ : 0 < S_.numel
  shapeCasts_S1_S_ : S1.ShapeCasts S_

variable [Facts]

def fn {F : FTy → Type} [FloatOps F] (main_arg0 : IVec S288 32) (main_arg1 : IVec S1 32) (main_arg2 : FVec F S73728x1024 .f32) (main_arg3 : FVec F S32x1024x512 .f32) (main_arg4 : FVec F S32x1024x512 .f32) (main_arg5 : FVec F S32x512x1024 .f32) : IVec S_ 1 :=
  let main_c : IVec S_ 32 := constantI S_ 32 0#32
  let main_v0 : IVec S288 32 := broadcastInDim S288 ![] bcast_S_S288 main_c
  let main_v1 : IVec S288 1 := cmpi .sge main_arg0 main_v0
  let main_c_0 : IVec S_ 32 := constantI S_ 32 32#32
  let main_v2 : IVec S288 32 := broadcastInDim S288 ![] bcast_S_S288 main_c_0
  let main_v3 : IVec S288 1 := cmpi .slt main_arg0 main_v2
  let main_v4 : IVec S288 1 := andi main_v1 main_v3
  let main_c_1 : IVec S_ 1 := constantI S_ 1 1#1
  let main_v5 : IVec S_ 1 := (fun x v => Host.reduce IntOp.andi x v reducesTo_S288_S_d0 h_S_) main_v4 main_c_1
  let main_v6 : IVec S_ 32 := shapeCast S_ main_arg1 shapeCasts_S1_S_
  let main_c_2 : IVec S_ 32 := constantI S_ 32 1#32
  let main_v7 : IVec S_ 1 := cmpi .sge main_v6 main_c_2
  let main_v8 : IVec S_ 1 := andi main_v5 main_v7
  main_v8
-- ==== Kernel.lean ====
abbrev S8x4096x1024 : Shape := ⟨3, ![8, 4096, 1024]⟩
abbrev S1x1024x1024 : Shape := ⟨3, ![1, 1024, 1024]⟩
abbrev S32768x1024 : Shape := ⟨2, ![32768, 1024]⟩
abbrev S1024x1024 : Shape := ⟨2, ![1024, 1024]⟩
abbrev S512x1024 : Shape := ⟨2, ![512, 1024]⟩
abbrev S1x256x128 : Shape := ⟨3, ![1, 256, 128]⟩
abbrev S1x4096x128 : Shape := ⟨3, ![1, 4096, 128]⟩
abbrev S512x128 : Shape := ⟨2, ![512, 128]⟩
abbrev S256x128 : Shape := ⟨2, ![256, 128]⟩
abbrev S256x256 : Shape := ⟨2, ![256, 256]⟩
abbrev S512x256 : Shape := ⟨2, ![512, 256]⟩
abbrev S512x1 : Shape := ⟨2, ![512, 1]⟩

abbrev nBuf : Space → Nat
  | .hbm => 18
  | .vmem => 21
  | .smem => 0
  | _ => 0

abbrev bufTy : (tb : Table) → Fin (tcTables nBuf tb) → BufTy
  | .hbm, ⟨0, _⟩ => ⟨S8x4096x1024, .f32⟩
  | .hbm, ⟨1, _⟩ => ⟨S1x1024x1024, .f32⟩
  | .hbm, ⟨2, _⟩ => ⟨S1x1024x1024, .f32⟩
  | .hbm, ⟨3, _⟩ => ⟨S1x1024x1024, .f32⟩
  | .hbm, ⟨4, _⟩ => ⟨S32768x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | .hbm, ⟨9, _⟩ => ⟨S1024x1024, .bf16⟩
  | .hbm, ⟨10, _⟩ => ⟨S1024x1024, .bf16⟩
  | .hbm, ⟨11, _⟩ => ⟨S32768x1024, .bf16⟩
  | .hbm, ⟨12, _⟩ => ⟨S32768x1024, .bf16⟩
  | .hbm, ⟨13, _⟩ => ⟨S32768x1024, .bf16⟩
  | .hbm, ⟨14, _⟩ => ⟨S8x4096x1024, .bf16⟩
  | .hbm, ⟨15, _⟩ => ⟨S8x4096x1024, .bf16⟩
  | .hbm, ⟨16, _⟩ => ⟨S8x4096x1024, .bf16⟩
  | .hbm, ⟨17, _⟩ => ⟨S8x4096x1024, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S1x256x128, .bf16⟩
  | .local _ .vmem, ⟨12, _⟩ => ⟨S1x256x128, .bf16⟩
  | .local _ .vmem, ⟨13, _⟩ => ⟨S1x4096x128, .bf16⟩
  | .local _ .vmem, ⟨14, _⟩ => ⟨S1x4096x128, .bf16⟩
  | .local _ .vmem, ⟨15, _⟩ => ⟨S1x4096x128, .bf16⟩
  | .local _ .vmem, ⟨16, _⟩ => ⟨S1x4096x128, .bf16⟩
  | .local _ .vmem, ⟨17, _⟩ => ⟨S1x256x128, .bf16⟩
  | .local _ .vmem, ⟨18, _⟩ => ⟨S1x256x128, .bf16⟩
  | .local _ .vmem, ⟨19, _⟩ => ⟨S512x128, .f32⟩
  | .local _ .vmem, ⟨20, _⟩ => ⟨S256x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_scratch0 : Ref sig .tc := ⟨.vmem, 19, rfl⟩
abbrev cc1_scratch1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨3, ![8, 8, 16], ![false, false, false]⟩

def k1_mult1 (i : grid1.Coords) : BitVec 32 :=
  let arg2 : BitVec 32 := BitVec.ofNat 32 (i 2).val
  let c256_i32 : BitVec 32 := 256#32
  let v27 : BitVec 32 := Scalar.muli arg2 c256_i32
  v27
def k1_off1 (i : grid1.Coords) : Fin 3 → Nat :=
  let c0_11 : Index := 0#32
  let arg2 : BitVec 32 := BitVec.ofNat 32 (i 2).val
  let c256_i32 : BitVec 32 := 256#32
  let v27 : BitVec 32 := Scalar.muli arg2 c256_i32
  let v28 : BitVec 32 := v27
  let v29 : Index := Scalar.indexCast v28
  let c0_12 : Index := 0#32
  ![0, v29.toNat, 0]
@[reducible] def k1_t1_loop (i : grid1.Coords) : Scf.Loop 32 :=
  let c0_i32_39 : BitVec 32 := 0#32
  let arg2 : BitVec 32 := BitVec.ofNat 32 (i 2).val
  let v98 : BitVec 32 := Scalar.subi arg2 c0_i32_39
  let c1_i32 : BitVec 32 := 1#32
  let v100 : BitVec 32 := Scalar.divsi v98 c1_i32
  let v101 : BitVec 32 := Scalar.muli v100 c1_i32
  let v102 : BitVec 32 := Scalar.addi c0_i32_39 v101
  let c1_i32_40 : BitVec 32 := 1#32
  ⟨c0_i32_39, v102, c1_i32_40⟩
def k1_mult2 (i : grid1.Coords) (k1_t1 : Fin (k1_t1_loop i).trips) : BitVec 32 :=
  let arg2 : BitVec 32 := BitVec.ofNat 32 (i 2).val
  let c1_i32_47 : BitVec 32 := 1#32
  let v108 : BitVec 32 := Scalar.subi arg2 c1_i32_47
  let c0_i32_39 : BitVec 32 := 0#32
  let c1_i32_40 : BitVec 32 := 1#32
  let arg9 : BitVec 32 := Scf.iv c0_i32_39 c1_i32_40 k1_t1
  let v109 : BitVec 32 := Scalar.subi v108 arg9
  let c256_i32_48 : BitVec 32 := 256#32
  let v110 : BitVec 32 := Scalar.muli v109 c256_i32_48
  v110
def k1_off2 (i : grid1.Coords) (k1_t1 : Fin (k1_t1_loop i).trips) : Fin 3 → Nat :=
  let c0_49 : Index := 0#32
  let arg2 : BitVec 32 := BitVec.ofNat 32 (i 2).val
  let c1_i32_47 : BitVec 32 := 1#32
  let v108 : BitVec 32 := Scalar.subi arg2 c1_i32_47
  let c0_i32_39 : BitVec 32 := 0#32
  let c1_i32_40 : BitVec 32 := 1#32
  let arg9 : BitVec 32 := Scf.iv c0_i32_39 c1_i32_40 k1_t1
  let v109 : BitVec 32 := Scalar.subi v108 arg9
  let c256_i32_48 : BitVec 32 := 256#32
  let v110 : BitVec 32 := Scalar.muli v109 c256_i32_48
  let v111 : BitVec 32 := v110
  let v112 : Index := Scalar.indexCast v111
  let c0_50 : Index := 0#32
  ![0, v112.toNat, 0]
@[reducible] def k1_t2_loop (i : grid1.Coords) : Scf.Loop 32 :=
  let c0_i32_39 : BitVec 32 := 0#32
  let arg2 : BitVec 32 := BitVec.ofNat 32 (i 2).val
  let v98 : BitVec 32 := Scalar.subi arg2 c0_i32_39
  let c1_i32 : BitVec 32 := 1#32
  let v100 : BitVec 32 := Scalar.divsi v98 c1_i32
  let v101 : BitVec 32 := Scalar.muli v100 c1_i32
  let v102 : BitVec 32 := Scalar.addi c0_i32_39 v101
  let v99 : BitVec 32 := Scalar.addi c0_i32_39 v98
  let c1_i32_41 : BitVec 32 := 1#32
  ⟨v102, v99, c1_i32_41⟩
def k1_mult3 (i : grid1.Coords) (k1_t2 : Fin (k1_t2_loop i).trips) : BitVec 32 :=
  let arg2 : BitVec 32 := BitVec.ofNat 32 (i 2).val
  let c1_i32_47 : BitVec 32 := 1#32
  let v108 : BitVec 32 := Scalar.subi arg2 c1_i32_47
  let c0_i32_39 : BitVec 32 := 0#32
  let v98 : BitVec 32 := Scalar.subi arg2 c0_i32_39
  let c1_i32 : BitVec 32 := 1#32
  let v100 : BitVec 32 := Scalar.divsi v98 c1_i32
  let v101 : BitVec 32 := Scalar.muli v100 c1_i32
  let v102 : BitVec 32 := Scalar.addi c0_i32_39 v101
  let c1_i32_41 : BitVec 32 := 1#32
  let arg9 : BitVec 32 := Scf.iv v102 c1_i32_41 k1_t2
  let v109 : BitVec 32 := Scalar.subi v108 arg9
  let c256_i32_48 : BitVec 32 := 256#32
  let v110 : BitVec 32 := Scalar.muli v109 c256_i32_48
  v110
def k1_off3 (i : grid1.Coords) (k1_t2 : Fin (k1_t2_loop i).trips) : Fin 3 → Nat :=
  let c0_49 : Index := 0#32
  let arg2 : BitVec 32 := BitVec.ofNat 32 (i 2).val
  let c1_i32_47 : BitVec 32 := 1#32
  let v108 : BitVec 32 := Scalar.subi arg2 c1_i32_47
  let c0_i32_39 : BitVec 32 := 0#32
  let v98 : BitVec 32 := Scalar.subi arg2 c0_i32_39
  let c1_i32 : BitVec 32 := 1#32
  let v100 : BitVec 32 := Scalar.divsi v98 c1_i32
  let v101 : BitVec 32 := Scalar.muli v100 c1_i32
  let v102 : BitVec 32 := Scalar.addi c0_i32_39 v101
  let c1_i32_41 : BitVec 32 := 1#32
  let arg9 : BitVec 32 := Scf.iv v102 c1_i32_41 k1_t2
  let v109 : BitVec 32 := Scalar.subi v108 arg9
  let c256_i32_48 : BitVec 32 := 256#32
  let v110 : BitVec 32 := Scalar.muli v109 c256_i32_48
  let v111 : BitVec 32 := v110
  let v112 : Index := Scalar.indexCast v111
  let c0_50 : Index := 0#32
  ![0, v112.toNat, 0]
def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x256x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x4096x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x4096x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x256x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]
-- ==== KernelIdeal.lean ====
variable {F : FTy → Type} [FloatOps F] [Named F]
def κ : String → Option EReal := fun
  | "log2e" => some (((Real.log 2)⁻¹ : ℝ) : EReal)
  | "neg_scale_log2e" => some ((-((1 / 8) * (Real.log 2)⁻¹) : ℝ) : EReal)
  | _ => none
-- ==== ReferenceIdeal.lean ====
abbrev S8x4096x1024 : Shape := ⟨3, ![8, 4096, 1024]⟩
abbrev S1x1024x1024 : Shape := ⟨3, ![1, 1024, 1024]⟩
abbrev S1024x1024 : Shape := ⟨2, ![1024, 1024]⟩
abbrev S8x4096x16x64 : Shape := ⟨4, ![8, 4096, 16, 64]⟩
abbrev S4096 : Shape := ⟨1, ![4096]⟩
abbrev S8x16x4096x4096 : Shape := ⟨4, ![8, 16, 4096, 4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S8x16x64x4096 : Shape := ⟨4, ![8, 16, 64, 4096]⟩

abbrev nBuf : Space → Nat
  | .hbm => 76
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1024x1024, .f32⟩
  | .hbm, ⟨2, _⟩ => ⟨S1x1024x1024, .f32⟩
  | .hbm, ⟨3, _⟩ => ⟨S1x1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S8x4096x1024, .f32⟩
  | .hbm, ⟨8, _⟩ => ⟨S8x4096x16x64, .f32⟩
  | .hbm, ⟨9, _⟩ => ⟨S8x4096x1024, .f32⟩
  | .hbm, ⟨10, _⟩ => ⟨S8x4096x16x64, .f32⟩
  | .hbm, ⟨11, _⟩ => ⟨S8x4096x1024, .f32⟩
  | .hbm, ⟨12, _⟩ => ⟨S8x4096x16x64, .f32⟩
  | .hbm, ⟨13, _⟩ => ⟨S4096, .i32⟩
  | .hbm, ⟨14, _⟩ => ⟨S8x16x4096x4096, .f32⟩
  | .hbm, ⟨15, _⟩ => ⟨S_, .f32⟩
  | .hbm, ⟨16, _⟩ => ⟨S8x16x4096x4096, .f32⟩
  | .hbm, ⟨17, _⟩ => ⟨S8x16x4096x4096, .f32⟩
  | .hbm, ⟨18, _⟩ => ⟨S1x4096, .i32⟩
  | .hbm, ⟨19, _⟩ => ⟨S4096x1, .i32⟩
  | .hbm, ⟨20, _⟩ => ⟨S4096x4096, .i32⟩
  | .hbm, ⟨21, _⟩ => ⟨S4096x4096, .i32⟩
  | .hbm, ⟨22, _⟩ => ⟨S4096x4096, .i1⟩
  | .hbm, ⟨23, _⟩ => ⟨S8x16x4096x4096, .f32⟩
  | .hbm, ⟨24, _⟩ => ⟨S8x16x4096x4096, .f32⟩
  | .hbm, ⟨25, _⟩ => ⟨S_, .f32⟩
  | .hbm, ⟨26, _⟩ => ⟨S8x16x4096x4096, .f32⟩
  | .hbm, ⟨27, _⟩ => ⟨S8x16x4096x4096, .f32⟩
  | .hbm, ⟨28, _⟩ => ⟨S8x16x4096x4096, .f32⟩
  | .hbm, ⟨29, _⟩ => ⟨S8x16x4096x4096, .f32⟩
  | .hbm, ⟨30, _⟩ => ⟨S8x16x4096x4096, .i1⟩
  | .hbm, ⟨31, _⟩ => ⟨S8x16x4096x4096, .f32⟩
  | .hbm, ⟨32, _⟩ => ⟨S8x16x4096x4096, .f32⟩
  | .hbm, ⟨33, _⟩ => ⟨S8x16x4096x4096, .f32⟩
  | .hbm, ⟨34, _⟩ => ⟨S8x16x4096x4096, .f32⟩
  | .hbm, ⟨35, _⟩ => ⟨S8x16x4096x4096, .f32⟩
  | .hbm, ⟨36, _⟩ => ⟨S8x16x4096x4096, .f32⟩
  | .hbm, ⟨37, _⟩ => ⟨S8x16x4096x4096, .f32⟩
  | .hbm, ⟨38, _⟩ => ⟨S8x16x4096x4096, .f32⟩
  | .hbm, ⟨39, _⟩ => ⟨S8x16x4096x4096, .f32⟩
  | .hbm, ⟨40, _⟩ => ⟨S_, .f32⟩
  | .hbm, ⟨41, _⟩ => ⟨S_, .f32⟩
  | .hbm, ⟨42, _⟩ => ⟨S8x16x4096x4096, .i1⟩
  | .hbm, ⟨43, _⟩ => ⟨S8x16x4096x4096, .f32⟩
  | .hbm, ⟨44, _⟩ => ⟨S8x16x4096x4096, .f32⟩
  | .hbm, ⟨45, _⟩ => ⟨S_, .f32⟩
  | .hbm, ⟨46, _⟩ => ⟨S_, .f32⟩
  | .hbm, ⟨47, _⟩ => ⟨S8x16x4096x4096, .f32⟩
  | .hbm, ⟨48, _⟩ => ⟨S8x16x4096x4096, .f32⟩
  | .hbm, ⟨49, _⟩ => ⟨S8x16x4096x4096, .f32⟩
  | .hbm, ⟨50, _⟩ => ⟨S_, .f32⟩
  | .hbm, ⟨51, _⟩ => ⟨S8x16x4096x4096, .f32⟩
  | .hbm, ⟨52, _⟩ => ⟨S8x16x4096x4096, .f32⟩
  | .hbm, ⟨53, _⟩ => ⟨S8x16x4096x4096, .f32⟩
  | .hbm, ⟨54, _⟩ => ⟨S8x16x4096x4096, .f32⟩
  | .hbm, ⟨55, _⟩ => ⟨S8x16x4096x4096, .i1⟩
  | .hbm, ⟨56, _⟩ => ⟨S8x16x4096x4096, .f32⟩
  | .hbm, ⟨57, _⟩ => ⟨S8x16x4096x4096, .f32⟩
  | .hbm, ⟨58, _⟩ => ⟨S8x16x4096x4096, .f32⟩
  | .hbm, ⟨59, _⟩ => ⟨S8x16x4096x4096, .f32⟩
  | .hbm, ⟨60, _⟩ => ⟨S8x16x4096x4096, .f32⟩
  | .hbm, ⟨61, _⟩ => ⟨S8x16x4096x4096, .f32⟩
  | .hbm, ⟨62, _⟩ => ⟨S8x16x4096x4096, .f32⟩
  | .hbm, ⟨63, _⟩ => ⟨S8x16x4096x4096, .f32⟩
  | .hbm, ⟨64, _⟩ => ⟨S8x16x4096x4096, .f32⟩
  | .hbm, ⟨65, _⟩ => ⟨S8x16x4096x4096, .f32⟩
  | .hbm, ⟨66, _⟩ => ⟨S8x16x4096x4096, .f32⟩
  | .hbm, ⟨67, _⟩ => ⟨S_, .f32⟩
  | .hbm, ⟨68, _⟩ => ⟨S_, .f32⟩
  | .hbm, ⟨69, _⟩ => ⟨S8x16x4096x4096, .i1⟩
  | .hbm, ⟨70, _⟩ => ⟨S8x16x4096x4096, .f32⟩
  | .hbm, ⟨71, _⟩ => ⟨S8x16x4096x4096, .f32⟩
  | .hbm, ⟨72, _⟩ => ⟨S8x16x64x4096, .f32⟩
  | .hbm, ⟨73, _⟩ => ⟨S8x4096x16x64, .f32⟩
  | .hbm, ⟨74, _⟩ => ⟨S8x4096x1024, .f32⟩
  | .hbm, ⟨75, _⟩ => ⟨S8x4096x1024, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1 : Ref sig .tc := ⟨.hbm, 38, rfl⟩
abbrev main_v19 : Ref sig .tc := ⟨.hbm, 39, rfl⟩
abbrev main_cst_0 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v20 : Ref sig .tc := ⟨.hbm, 44, rfl⟩
abbrev main_call2_cst : Ref sig .tc := ⟨.hbm, 45, rfl⟩
abbrev main_call2_v0 : Ref sig .tc := ⟨.hbm, 46, rfl⟩
abbrev main_v21 : Ref sig .tc := ⟨.hbm, 47, rfl⟩
abbrev main_v22 : Ref sig .tc := ⟨.hbm, 48, rfl⟩
abbrev main_call3_v0 : Ref sig .tc := ⟨.hbm, 49, rfl⟩
abbrev main_call3_call0_cst : Ref sig .tc := ⟨.hbm, 50, rfl⟩
abbrev main_call3_call0_v0 : Ref sig .tc := ⟨.hbm, 51, rfl⟩
abbrev main_call3_call0_v1 : Ref sig .tc := ⟨.hbm, 52, rfl⟩
abbrev main_call3_call0_v2 : Ref sig .tc := ⟨.hbm, 53, rfl⟩
abbrev main_call3_call0_v3 : Ref sig .tc := ⟨.hbm, 54, rfl⟩
abbrev main_call3_call0_v4 : Ref sig .tc := ⟨.hbm, 55, rfl⟩
abbrev main_call3_call0_v5 : Ref sig .tc := ⟨.hbm, 56, rfl⟩
abbrev main_call3_call0_v6 : Ref sig .tc := ⟨.hbm, 57, rfl⟩
abbrev main_call3_call0_v7 : Ref sig .tc := ⟨.hbm, 58, rfl⟩
abbrev main_call3_call0_v8 : Ref sig .tc := ⟨.hbm, 59, rfl⟩
abbrev main_call3_call0_v9 : Ref sig .tc := ⟨.hbm, 60, rfl⟩
abbrev main_call3_call0_v10 : Ref sig .tc := ⟨.hbm, 61, rfl⟩
abbrev main_call3_call0_v11 : Ref sig .tc := ⟨.hbm, 62, rfl⟩
abbrev main_call3_v1 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_cst_1 : Ref sig .tc := ⟨.hbm, 67, rfl⟩
abbrev main_call4_v0 : Ref sig .tc := ⟨.hbm, 68, rfl⟩
abbrev main_call4_v1 : Ref sig .tc := ⟨.hbm, 69, rfl⟩
abbrev main_call4_v2 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩

abbrev nD : Nat := 1
abbrev τ : Topo := Topo.v7x

variable {F : FTy → Type} [FloatOps F]
-- ==== MoeKernel.lean ====
abbrev S288 : Shape := ⟨1, ![288]⟩
abbrev S1 : Shape := ⟨1, ![1]⟩
abbrev S73728x1024 : Shape := ⟨2, ![73728, 1024]⟩
abbrev S32x1024x512 : Shape := ⟨3, ![32, 1024, 512]⟩
abbrev S32x512x1024 : Shape := ⟨3, ![32, 512, 1024]⟩
abbrev S256x1024 : Shape := ⟨2, ![256, 1024]⟩
abbrev S1x1024x512 : Shape := ⟨3, ![1, 1024, 512]⟩
abbrev S1x512x1024 : Shape := ⟨3, ![1, 512, 1024]⟩
abbrev S1024x512 : Shape := ⟨2, ![1024, 512]⟩
abbrev S256x512 : Shape := ⟨2, ![256, 512]⟩
abbrev S512x1024 : Shape := ⟨2, ![512, 1024]⟩

abbrev nBuf : Space → Nat
  | .hbm => 8
  | .vmem => 10
  | .smem => 2
  | _ => 0

abbrev bufTy : (tb : Table) → Fin (tcTables nBuf tb) → BufTy
  | .hbm, ⟨0, _⟩ => ⟨S73728x1024, .f32⟩
  | .hbm, ⟨1, _⟩ => ⟨S32x1024x512, .f32⟩
  | .hbm, ⟨2, _⟩ => ⟨S32x1024x512, .f32⟩
  | .hbm, ⟨3, _⟩ => ⟨S32x512x1024, .f32⟩
  | .hbm, ⟨4, _⟩ => ⟨S32x1024x512, .bf16⟩
  | .hbm, ⟨5, _⟩ => ⟨S32x1024x512, .bf16⟩
  | .hbm, ⟨6, _⟩ => ⟨S32x512x1024, .bf16⟩
  | .hbm, ⟨7, _⟩ => ⟨S73728x1024, .f32⟩
  | .local _ .vmem, ⟨0, _⟩ => ⟨S256x1024, .f32⟩
  | .local _ .vmem, ⟨1, _⟩ => ⟨S256x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S256x1024, .f32⟩
  | .local _ .vmem, ⟨9, _⟩ => ⟨S256x1024, .f32⟩
  | .local _ .smem, ⟨0, _⟩ => ⟨S288, .i32⟩
  | .local _ .smem, ⟨1, _⟩ => ⟨S1, .i32⟩
  | _, _ => ⟨S73728x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MoeReferenceIdeal.lean ====
abbrev S288 : Shape := ⟨1, ![288]⟩
abbrev S1 : Shape := ⟨1, ![1]⟩
abbrev S73728x1024 : Shape := ⟨2, ![73728, 1024]⟩
abbrev S32x1024x512 : Shape := ⟨3, ![32, 1024, 512]⟩
abbrev S32x512x1024 : Shape := ⟨3, ![32, 512, 1024]⟩
abbrev S288x1 : Shape := ⟨2, ![288, 1]⟩
abbrev S1x32 : Shape := ⟨2, ![1, 32]⟩
abbrev S288x32 : Shape := ⟨2, ![288, 32]⟩
abbrev S_ : Shape := ⟨0, ![]⟩
abbrev S288x256x32 : Shape := ⟨3, ![288, 256, 32]⟩
abbrev S73728x32 : Shape := ⟨2, ![73728, 32]⟩
abbrev S73728x32x512 : Shape := ⟨3, ![73728, 32, 512]⟩
abbrev S73728x32x1 : Shape := ⟨3, ![73728, 32, 1]⟩
abbrev S32x1024x73728 : Shape := ⟨3, ![32, 1024, 73728]⟩
abbrev S73728x32x1024 : Shape := ⟨3, ![73728, 32, 1024]⟩

abbrev nBuf : Space → Nat
  | .hbm => 43
  | .vmem => 0
  | .smem => 0
  | _ => 0

abbrev bufTy : (tb : Table) → Fin (tcTables nBuf tb) → BufTy
  | .hbm, ⟨0, _⟩ => ⟨S288, .i32⟩
  | .hbm, ⟨1, _⟩ => ⟨S1, .i32⟩
  | .hbm, ⟨2, _⟩ => ⟨S73728x1024, .f32⟩
  | .hbm, ⟨3, _⟩ => ⟨S32x1024x512, .f32⟩
  | .hbm, ⟨4, _⟩ => ⟨S32x1024x512, .f32⟩
  | .hbm, ⟨5, _⟩ => ⟨S32x512x1024, .f32⟩
  | .hbm, ⟨6, _⟩ => ⟨S288x1, .i32⟩
  | .hbm, ⟨7, _⟩ => ⟨S1x32, .i32⟩
  | .hbm, ⟨8, _⟩ => ⟨S288x32, .i32⟩
  | .hbm, ⟨9, _⟩ => ⟨S288x32, .i32⟩
  | .hbm, ⟨10, _⟩ => ⟨S288x32, .i1⟩
  | .hbm, ⟨11, _⟩ => ⟨S288x32, .f32⟩
  | .hbm, ⟨12, _⟩ => ⟨S288, .i32⟩
  | .hbm, ⟨13, _⟩ => ⟨S_, .i32⟩
  | .hbm, ⟨14, _⟩ => ⟨S288, .i32⟩
  | .hbm, ⟨15, _⟩ => ⟨S288, .i1⟩
  | .hbm, ⟨16, _⟩ => ⟨S288x1, .i1⟩
  | .hbm, ⟨17, _⟩ => ⟨S_, .f32⟩
  | .hbm, ⟨18, _⟩ => ⟨S_, .f32⟩
  | .hbm, ⟨19, _⟩ => ⟨S288x32, .i1⟩
  | .hbm, ⟨20, _⟩ => ⟨S288x32, .f32⟩
  | .hbm, ⟨21, _⟩ => ⟨S288x32, .f32⟩
  | .hbm, ⟨22, _⟩ => ⟨S288x256x32, .f32⟩
  | .hbm, ⟨23, _⟩ => ⟨S73728x32, .f32⟩
  | .hbm, ⟨24, _⟩ => ⟨S73728x32x512, .f32⟩
  | .hbm, ⟨25, _⟩ => ⟨S73728x32x512, .f32⟩
  | .hbm, ⟨26, _⟩ => ⟨S73728x32x512, .f32⟩
  | .hbm, ⟨27, _⟩ => ⟨S_, .f32⟩
  | .hbm, ⟨28, _⟩ => ⟨S73728x32x512, .f32⟩
  | .hbm, ⟨29, _⟩ => ⟨S73728x32x512, .f32⟩
  | .hbm, ⟨30, _⟩ => ⟨S_, .f32⟩
  | .hbm, ⟨31, _⟩ => ⟨S73728x32x512, .f32⟩
  | .hbm, ⟨32, _⟩ => ⟨S73728x32x512, .f32⟩
  | .hbm, ⟨33, _⟩ => ⟨S73728x32x512, .f32⟩
  | .hbm, ⟨34, _⟩ => ⟨S73728x32x512, .f32⟩
  | .hbm, ⟨35, _⟩ => ⟨S73728x32x512, .f32⟩
  | .hbm, ⟨36, _⟩ => ⟨S73728x32x1, .f32⟩
  | .hbm, ⟨37, _⟩ => ⟨S32x1024x73728, .f32⟩
  | .hbm, ⟨38, _⟩ => ⟨S73728x32x1024, .f32⟩
  | .hbm, ⟨39, _⟩ => ⟨S73728x32x1024, .f32⟩
  | .hbm, ⟨40, _⟩ => ⟨S73728x32x1024, .f32⟩
  | .hbm, ⟨41, _⟩ => ⟨S_, .f32⟩
  | .hbm, ⟨42, _⟩ => ⟨S73728x1024, .f32⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_call2_v0 : Ref sig .tc := ⟨.hbm, 25, rfl⟩
abbrev main_call2_v1 : Ref sig .tc := ⟨.hbm, 26, rfl⟩
abbrev main_call2_cst : Ref sig .tc := ⟨.hbm, 27, rfl⟩
abbrev main_call2_v2 : Ref sig .tc := ⟨.hbm, 28, rfl⟩
abbrev main_call2_v3 : Ref sig .tc := ⟨.hbm, 29, rfl⟩
abbrev main_call2_cst_0 : Ref sig .tc := ⟨.hbm, 30, rfl⟩
abbrev main_call2_v4 : Ref sig .tc := ⟨.hbm, 31, rfl⟩
abbrev main_call2_v5 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_0 : Ref sig .tc := ⟨.hbm, 41, rfl⟩
abbrev main_v18 : Ref sig .tc := ⟨.hbm, 42, rfl⟩

abbrev nD : Nat := 1
abbrev τ : Topo := Topo.v7x

variable {F : FTy → Type} [FloatOps F]
-- ==== MixKernel.lean ====
abbrev S32768x1024 : Shape := ⟨2, ![32768, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S1024x36 : Shape := ⟨2, ![1024, 36]⟩
abbrev S_ : Shape := ⟨0, ![]⟩
abbrev S1024x128 : Shape := ⟨2, ![1024, 128]⟩
abbrev S36 : Shape := ⟨1, ![36]⟩
abbrev S128 : Shape := ⟨1, ![128]⟩
abbrev S1x128 : Shape := ⟨2, ![1, 128]⟩
abbrev S1x1024 : Shape := ⟨2, ![1, 1024]⟩
abbrev S32768x128 : Shape := ⟨2, ![32768, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S512x512 : Shape := ⟨2, ![512, 512]⟩

abbrev nBuf : Space → Nat
  | .hbm => 29
  | .vmem => 17
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024x4, .f32⟩
  | .hbm, ⟨6, _⟩ => ⟨S4, .f32⟩
  | .hbm, ⟨7, _⟩ => ⟨S1024x32, .f32⟩
  | .hbm, ⟨8, _⟩ => ⟨S32, .f32⟩
  | .hbm, ⟨9, _⟩ => ⟨S1024x36, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x128, .bf16⟩
  | .hbm, ⟨14, _⟩ => ⟨S1024x128, .f32⟩
  | .hbm, ⟨15, _⟩ => ⟨S1024x128, .f32⟩
  | .hbm, ⟨16, _⟩ => ⟨S1024x128, .bf16⟩
  | .hbm, ⟨17, _⟩ => ⟨S36, .f32⟩
  | .hbm, ⟨18, _⟩ => ⟨S_, .i32⟩
  | .hbm, ⟨19, _⟩ => ⟨S_, .f32⟩
  | .hbm, ⟨20, _⟩ => ⟨S128, .f32⟩
  | .hbm, ⟨21, _⟩ => ⟨S1x128, .f32⟩
  | .hbm, ⟨22, _⟩ => ⟨S1024x1024, .bf16⟩
  | .hbm, ⟨23, _⟩ => ⟨S1x1024, .f32⟩
  | .hbm, ⟨24, _⟩ => ⟨S1x1024, .f32⟩
  | .hbm, ⟨25, _⟩ => ⟨S32768x1024, .f32⟩
  | .hbm, ⟨26, _⟩ => ⟨S32768x128, .i32⟩
  | .hbm, ⟨27, _⟩ => ⟨S32768x128, .f32⟩
  | .hbm, ⟨28, _⟩ => ⟨S1x128, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1024x128, .bf16⟩
  | .local _ .vmem, ⟨8, _⟩ => ⟨S1024x128, .bf16⟩
  | .local _ .vmem, ⟨9, _⟩ => ⟨S1x128, .f32⟩
  | .local _ .vmem, ⟨10, _⟩ => ⟨S512x1024, .f32⟩
  | .local _ .vmem, ⟨11, _⟩ => ⟨S512x1024, .f32⟩
  | .local _ .vmem, ⟨12, _⟩ => ⟨S512x128, .i32⟩
  | .local _ .vmem, ⟨13, _⟩ => ⟨S512x128, .i32⟩
  | .local _ .vmem, ⟨14, _⟩ => ⟨S512x128, .f32⟩
  | .local _ .vmem, ⟨15, _⟩ => ⟨S512x128, .f32⟩
  | .local _ .vmem, ⟨16, _⟩ => ⟨S1x128, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_call1_v0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12_0 : Ref sig .tc := ⟨.hbm, 25, rfl⟩
abbrev main_v12_1 : Ref sig .tc := ⟨.hbm, 26, rfl⟩
abbrev main_v12_2 : Ref sig .tc := ⟨.hbm, 27, rfl⟩
abbrev main_v12_3 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== MixReferenceIdeal.lean ====
abbrev S32768x1024 : Shape := ⟨2, ![32768, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024x4, .f32⟩
  | .hbm, ⟨6, _⟩ => ⟨S4, .f32⟩
  | .hbm, ⟨7, _⟩ => ⟨S1024x32, .f32⟩
  | .hbm, ⟨8, _⟩ => ⟨S32, .f32⟩
  | .hbm, ⟨9, _⟩ => ⟨S_, .f32⟩
  | .hbm, ⟨10, _⟩ => ⟨S32768x1024, .f32⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S32768x1024, .f32⟩
  | .hbm, ⟨15, _⟩ => ⟨S_, .f32⟩
  | .hbm, ⟨16, _⟩ => ⟨S32768, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S_, .f32⟩
  | .hbm, ⟨25, _⟩ => ⟨S32768, .f32⟩
  | .hbm, ⟨26, _⟩ => ⟨S32768x1, .f32⟩
  | .hbm, ⟨27, _⟩ => ⟨S_, .f32⟩
  | .hbm, ⟨28, _⟩ => ⟨S32768x1, .f32⟩
  | .hbm, ⟨29, _⟩ => ⟨S32768x1, .f32⟩
  | .hbm, ⟨30, _⟩ => ⟨S_, .f32⟩
  | .hbm, ⟨31, _⟩ => ⟨S32768x1, .f32⟩
  | .hbm, ⟨32, _⟩ => ⟨S32768x1, .f32⟩
  | .hbm, ⟨33, _⟩ => ⟨S32768x1, .f32⟩
  | .hbm, ⟨34, _⟩ => ⟨S32768x1024, .f32⟩
  | .hbm, ⟨35, _⟩ => ⟨S32768x1024, .f32⟩
  | .hbm, ⟨36, _⟩ => ⟨S1x1024, .f32⟩
  | .hbm, ⟨37, _⟩ => ⟨S32768x1024, .f32⟩
  | .hbm, ⟨38, _⟩ => ⟨S32768x1024, .f32⟩
  | .hbm, ⟨39, _⟩ => ⟨S1x1024, .f32⟩
  | .hbm, ⟨40, _⟩ => ⟨S32768x1024, .f32⟩
  | .hbm, ⟨41, _⟩ => ⟨S32768x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== DaKernel.lean ====
abbrev S8x4096x1024 : Shape := ⟨3, ![8, 4096, 1024]⟩
abbrev S32x8 : Shape := ⟨2, ![32, 8]⟩
abbrev S1x1024x1024 : Shape := ⟨3, ![1, 1024, 1024]⟩
abbrev S1x64 : Shape := ⟨2, ![1, 64]⟩
abbrev S1x128 : Shape := ⟨2, ![1, 128]⟩
abbrev S32768x1024 : Shape := ⟨2, ![32768, 1024]⟩
abbrev S8x256x512 : Shape := ⟨3, ![8, 256, 512]⟩
abbrev S1x256x512 : Shape := ⟨3, ![1, 256, 512]⟩
abbrev S256x512 : Shape := ⟨2, ![256, 512]⟩
abbrev S1x1 : Shape := ⟨2, ![1, 1]⟩
abbrev S1024x1024 : Shape := ⟨2, ![1024, 1024]⟩
abbrev S512x1024 : Shape := ⟨2, ![512, 1024]⟩
abbrev S64 : Shape := ⟨1, ![64]⟩
abbrev S128 : Shape := ⟨1, ![128]⟩
abbrev S1x256x128 : Shape := ⟨3, ![1, 256, 128]⟩
abbrev S1x4096x128 : Shape := ⟨3, ![1, 4096, 128]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩
abbrev S1x256x256 : Shape := ⟨3, ![1, 256, 256]⟩
abbrev S256x256 : Shape := ⟨2, ![256, 256]⟩
abbrev S1 : Shape := ⟨1, ![1]⟩
abbrev S256 : Shape := ⟨1, ![256]⟩
abbrev S256x1 : Shape := ⟨2, ![256, 1]⟩

abbrev nBuf : Space → Nat
  | .hbm => 35
  | .vmem => 31
  | .smem => 1
  | _ => 0

abbrev bufTy : (tb : Table) → Fin (tcTables nBuf tb) → BufTy
  | .hbm, ⟨0, _⟩ => ⟨S8x4096x1024, .f32⟩
  | .hbm, ⟨1, _⟩ => ⟨S32x8, .f32⟩
  | .hbm, ⟨2, _⟩ => ⟨S1x1024x1024, .f32⟩
  | .hbm, ⟨3, _⟩ => ⟨S1x1024x1024, .f32⟩
  | .hbm, ⟨4, _⟩ => ⟨S1x1024x1024, .f32⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S1x128, .f32⟩
  | .hbm, ⟨10, _⟩ => ⟨S32768x1024, .f32⟩
  | .hbm, ⟨11, _⟩ => ⟨S8x256x512, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024x1024, .bf16⟩
  | .hbm, ⟨16, _⟩ => ⟨S1024x1024, .bf16⟩
  | .hbm, ⟨17, _⟩ => ⟨S1024x1024, .bf16⟩
  | .hbm, ⟨18, _⟩ => ⟨S32768x1024, .bf16⟩
  | .hbm, ⟨19, _⟩ => ⟨S32768x1024, .bf16⟩
  | .hbm, ⟨20, _⟩ => ⟨S32768x1024, .bf16⟩
  | .hbm, ⟨21, _⟩ => ⟨S8x4096x1024, .bf16⟩
  | .hbm, ⟨22, _⟩ => ⟨S8x4096x1024, .bf16⟩
  | .hbm, ⟨23, _⟩ => ⟨S8x4096x1024, .bf16⟩
  | .hbm, ⟨24, _⟩ => ⟨S64, .f32⟩
  | .hbm, ⟨25, _⟩ => ⟨S64, .f32⟩
  | .hbm, ⟨26, _⟩ => ⟨S64, .f32⟩
  | .hbm, ⟨27, _⟩ => ⟨S64, .f32⟩
  | .hbm, ⟨28, _⟩ => ⟨S128, .f32⟩
  | .hbm, ⟨29, _⟩ => ⟨S1x64, .f32⟩
  | .hbm, ⟨30, _⟩ => ⟨S1x64, .f32⟩
  | .hbm, ⟨31, _⟩ => ⟨S1x64, .f32⟩
  | .hbm, ⟨32, _⟩ => ⟨S1x64, .f32⟩
  | .hbm, ⟨33, _⟩ => ⟨S1x128, .f32⟩
  | .hbm, ⟨34, _⟩ => ⟨S8x4096x1024, .bf16⟩
  | .local _ .vmem, ⟨0, _⟩ => ⟨S1x256x512, .f32⟩
  | .local _ .vmem, ⟨1, _⟩ => ⟨S1x256x512, .f32⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S1x256x128, .bf16⟩
  | .local _ .vmem, ⟨14, _⟩ => ⟨S1x256x128, .bf16⟩
  | .local _ .vmem, ⟨15, _⟩ => ⟨S1x4096x128, .bf16⟩
  | .local _ .vmem, ⟨16, _⟩ => ⟨S1x4096x128, .bf16⟩
  | .local _ .vmem, ⟨17, _⟩ => ⟨S1x4096x128, .bf16⟩
  | .local _ .vmem, ⟨18, _⟩ => ⟨S1x4096x128, .bf16⟩
  | .local _ .vmem, ⟨19, _⟩ => ⟨S1x256x512, .f32⟩
  | .local _ .vmem, ⟨20, _⟩ => ⟨S1x256x512, .f32⟩
  | .local _ .vmem, ⟨21, _⟩ => ⟨S1x64, .f32⟩
  | .local _ .vmem, ⟨22, _⟩ => ⟨S1x64, .f32⟩
  | .local _ .vmem, ⟨23, _⟩ => ⟨S1x64, .f32⟩
  | .local _ .vmem, ⟨24, _⟩ => ⟨S1x64, .f32⟩
  | .local _ .vmem, ⟨25, _⟩ => ⟨S1x128, .f32⟩
  | .local _ .vmem, ⟨26, _⟩ => ⟨S1x256x128, .bf16⟩
  | .local _ .vmem, ⟨27, _⟩ => ⟨S1x256x128, .bf16⟩
  | .local _ .vmem, ⟨28, _⟩ => ⟨S512x128, .f32⟩
  | .local _ .vmem, ⟨29, _⟩ => ⟨S512x128, .f32⟩
  | .local _ .vmem, ⟨30, _⟩ => ⟨S512x128, .f32⟩
  | .local _ .smem, ⟨0, _⟩ => ⟨S32x8, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .smem, ⟨0, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev cc0_stg1_0 : Ref sig .tc := ⟨.vmem, 0, rfl⟩
abbrev cc0_stg1_1 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg3_0 : Ref sig .tc := ⟨.vmem, 6, rfl⟩
abbrev cc1_stg4_0 : Ref sig .tc := ⟨.vmem, 7, rfl⟩
abbrev cc1_stg4_1 : Ref sig .tc := ⟨.vmem, 8, rfl⟩
abbrev cc1_stg5_0 : Ref sig .tc := ⟨.vmem, 9, rfl⟩
abbrev cc1_stg5_1 : Ref sig .tc := ⟨.vmem, 10, rfl⟩
abbrev cc1_stg6_0 : Ref sig .tc := ⟨.vmem, 11, rfl⟩
abbrev cc1_stg6_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg7_0 : Ref sig .tc := ⟨.vmem, 24, rfl⟩
abbrev cc2_stg8_0 : Ref sig .tc := ⟨.vmem, 25, rfl⟩
abbrev cc2_stg9_0 : Ref sig .tc := ⟨.vmem, 26, rfl⟩
abbrev cc2_stg9_1 : Ref sig .tc := ⟨.vmem, 27, rfl⟩
abbrev cc2_scratch0 : Ref sig .tc := ⟨.vmem, 28, rfl⟩
abbrev cc2_scratch1 : Ref sig .tc := ⟨.vmem, 29, rfl⟩
abbrev cc2_scratch2 : Ref sig .tc := ⟨.vmem, 30, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem4_1 : DmaSem sig := 9
abbrev cc1_sem5_0 : DmaSem sig := 10
abbrev cc1_sem5_1 : DmaSem sig := 11
abbrev cc1_sem6_0 : DmaSem sig := 12
abbrev cc1_sem6_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc2_sem4_0 : DmaSem sig := 22
abbrev cc2_sem5_0 : DmaSem sig := 23
abbrev cc2_sem6_0 : DmaSem sig := 24
abbrev cc2_sem7_0 : DmaSem sig := 25
abbrev cc2_sem8_0 : DmaSem sig := 26
abbrev cc2_sem9_0 : DmaSem sig := 27
abbrev cc2_sem9_1 : DmaSem sig := 28

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let c31 : Index := 31#32
  let arg0 : BitVec 32 := BitVec.ofNat 32 (i 0).val
  let v23 : Index := Scalar.indexCast arg0
  ![31, v23.toNat]
def k0_off2 (i : grid0.Coords) : Fin 2 → Nat :=
  let c0 : Index := 0#32
  let arg0 : BitVec 32 := BitVec.ofNat 32 (i 0).val
  let v28 : Index := Scalar.indexCast arg0
  ![0, v28.toNat]
def k0_off3 (i : grid0.Coords) : Fin 2 → Nat :=
  let c1 : Index := 1#32
  let arg0 : BitVec 32 := BitVec.ofNat 32 (i 0).val
  let v35 : Index := Scalar.indexCast arg0
  ![1, v35.toNat]
def k0_off4 (i : grid0.Coords) : Fin 2 → Nat :=
  let c2 : Index := 2#32
  let arg0 : BitVec 32 := BitVec.ofNat 32 (i 0).val
  let v42 : Index := Scalar.indexCast arg0
  ![2, v42.toNat]
def k0_off5 (i : grid0.Coords) : Fin 2 → Nat :=
  let c3 : Index := 3#32
  let arg0 : BitVec 32 := BitVec.ofNat 32 (i 0).val
  let v49 : Index := Scalar.indexCast arg0
  ![3, v49.toNat]
def k0_off6 (i : grid0.Coords) : Fin 2 → Nat :=
  let c4 : Index := 4#32
  let arg0 : BitVec 32 := BitVec.ofNat 32 (i 0).val
  let v56 : Index := Scalar.indexCast arg0
  ![4, v56.toNat]
def k0_off7 (i : grid0.Coords) : Fin 2 → Nat :=
  let c5 : Index := 5#32
  let arg0 : BitVec 32 := BitVec.ofNat 32 (i 0).val
  let v63 : Index := Scalar.indexCast arg0
  ![5, v63.toNat]
def k0_off8 (i : grid0.Coords) : Fin 2 → Nat :=
  let c6 : Index := 6#32
  let arg0 : BitVec 32 := BitVec.ofNat 32 (i 0).val
  let v70 : Index := Scalar.indexCast arg0
  ![6, v70.toNat]
def k0_off9 (i : grid0.Coords) : Fin 2 → Nat :=
  let c7 : Index := 7#32
  let arg0 : BitVec 32 := BitVec.ofNat 32 (i 0).val
  let v77 : Index := Scalar.indexCast arg0
  ![7, v77.toNat]
def k0_off10 (i : grid0.Coords) : Fin 2 → Nat :=
  let c8 : Index := 8#32
  let arg0 : BitVec 32 := BitVec.ofNat 32 (i 0).val
  let v84 : Index := Scalar.indexCast arg0
  ![8, v84.toNat]
def k0_off11 (i : grid0.Coords) : Fin 2 → Nat :=
  let c9 : Index := 9#32
  let arg0 : BitVec 32 := BitVec.ofNat 32 (i 0).val
  let v91 : Index := Scalar.indexCast arg0
  ![9, v91.toNat]
def k0_off12 (i : grid0.Coords) : Fin 2 → Nat :=
  let c10 : Index := 10#32
  let arg0 : BitVec 32 := BitVec.ofNat 32 (i 0).val
  let v98 : Index := Scalar.indexCast arg0
  ![10, v98.toNat]
def k0_off13 (i : grid0.Coords) : Fin 2 → Nat :=
  let c11 : Index := 11#32
  let arg0 : BitVec 32 := BitVec.ofNat 32 (i 0).val
  let v105 : Index := Scalar.indexCast arg0
  ![11, v105.toNat]
def k0_off14 (i : grid0.Coords) : Fin 2 → Nat :=
  let c12 : Index := 12#32
  let arg0 : BitVec 32 := BitVec.ofNat 32 (i 0).val
  let v112 : Index := Scalar.indexCast arg0
  ![12, v112.toNat]
def k0_off15 (i : grid0.Coords) : Fin 2 → Nat :=
  let c13 : Index := 13#32
  let arg0 : BitVec 32 := BitVec.ofNat 32 (i 0).val
  let v119 : Index := Scalar.indexCast arg0
  ![13, v119.toNat]
def k0_off16 (i : grid0.Coords) : Fin 2 → Nat :=
  let c14 : Index := 14#32
  let arg0 : BitVec 32 := BitVec.ofNat 32 (i 0).val
  let v126 : Index := Scalar.indexCast arg0
  ![14, v126.toNat]
def k0_off17 (i : grid0.Coords) : Fin 2 → Nat :=
  let c15 : Index := 15#32
  let arg0 : BitVec 32 := BitVec.ofNat 32 (i 0).val
  let v133 : Index := Scalar.indexCast arg0
  ![15, v133.toNat]
def k0_off18 (i : grid0.Coords) : Fin 2 → Nat :=
  let c16 : Index := 16#32
  let arg0 : BitVec 32 := BitVec.ofNat 32 (i 0).val
  let v140 : Index := Scalar.indexCast arg0
  ![16, v140.toNat]
def k0_off19 (i : grid0.Coords) : Fin 2 → Nat :=
  let c17 : Index := 17#32
  let arg0 : BitVec 32 := BitVec.ofNat 32 (i 0).val
  let v147 : Index := Scalar.indexCast arg0
  ![17, v147.toNat]
def k0_off20 (i : grid0.Coords) : Fin 2 → Nat :=
  let c18 : Index := 18#32
  let arg0 : BitVec 32 := BitVec.ofNat 32 (i 0).val
  let v154 : Index := Scalar.indexCast arg0
  ![18, v154.toNat]
def k0_off21 (i : grid0.Coords) : Fin 2 → Nat :=
  let c19 : Index := 19#32
  let arg0 : BitVec 32 := BitVec.ofNat 32 (i 0).val
  let v161 : Index := Scalar.indexCast arg0
  ![19, v161.toNat]
def k0_off22 (i : grid0.Coords) : Fin 2 → Nat :=
  let c20 : Index := 20#32
  let arg0 : BitVec 32 := BitVec.ofNat 32 (i 0).val
  let v168 : Index := Scalar.indexCast arg0
  ![20, v168.toNat]
def k0_off23 (i : grid0.Coords) : Fin 2 → Nat :=
  let c21 : Index := 21#32
  let arg0 : BitVec 32 := BitVec.ofNat 32 (i 0).val
  let v175 : Index := Scalar.indexCast arg0
  ![21, v175.toNat]
def k0_off24 (i : grid0.Coords) : Fin 2 → Nat :=
  let c22 : Index := 22#32
  let arg0 : BitVec 32 := BitVec.ofNat 32 (i 0).val
  let v182 : Index := Scalar.indexCast arg0
  ![22, v182.toNat]
def k0_off25 (i : grid0.Coords) : Fin 2 → Nat :=
  let c23 : Index := 23#32
  let arg0 : BitVec 32 := BitVec.ofNat 32 (i 0).val
  let v189 : Index := Scalar.indexCast arg0
  ![23, v189.toNat]
def k0_off26 (i : grid0.Coords) : Fin 2 → Nat :=
  let c24 : Index := 24#32
  let arg0 : BitVec 32 := BitVec.ofNat 32 (i 0).val
  let v196 : Index := Scalar.indexCast arg0
  ![24, v196.toNat]
def k0_off27 (i : grid0.Coords) : Fin 2 → Nat :=
  let c25 : Index := 25#32
  let arg0 : BitVec 32 := BitVec.ofNat 32 (i 0).val
  let v203 : Index := Scalar.indexCast arg0
  ![25, v203.toNat]
def k0_off28 (i : grid0.Coords) : Fin 2 → Nat :=
  let c26 : Index := 26#32
  let arg0 : BitVec 32 := BitVec.ofNat 32 (i 0).val
  let v210 : Index := Scalar.indexCast arg0
  ![26, v210.toNat]
def k0_off29 (i : grid0.Coords) : Fin 2 → Nat :=
  let c27 : Index := 27#32
  let arg0 : BitVec 32 := BitVec.ofNat 32 (i 0).val
  let v217 : Index := Scalar.indexCast arg0
  ![27, v217.toNat]
def k0_off30 (i : grid0.Coords) : Fin 2 → Nat :=
  let c28 : Index := 28#32
  let arg0 : BitVec 32 := BitVec.ofNat 32 (i 0).val
  let v224 : Index := Scalar.indexCast arg0
  ![28, v224.toNat]
def k0_off31 (i : grid0.Coords) : Fin 2 → Nat :=
  let c29 : Index := 29#32
  let arg0 : BitVec 32 := BitVec.ofNat 32 (i 0).val
  let v231 : Index := Scalar.indexCast arg0
  ![29, v231.toNat]
def k0_off32 (i : grid0.Coords) : Fin 2 → Nat :=
  let c30 : Index := 30#32
  let arg0 : BitVec 32 := BitVec.ofNat 32 (i 0).val
  let v238 : Index := Scalar.indexCast arg0
  ![30, v238.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S32x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨3, ![8, 8, 16], ![false, false, false]⟩

@[reducible] def k2_t1_loop (i : grid2.Coords) : Scf.Loop 32 :=
  let c0_i32_13 : BitVec 32 := 0#32
  let arg2 : BitVec 32 := BitVec.ofNat 32 (i 2).val
  let c1_i32 : BitVec 32 := 1#32
  let v23 : BitVec 32 := Scalar.subi arg2 c1_i32
  let c0_i32 : BitVec 32 := 0#32
  let v24 : BitVec 32 := Scalar.maxsi v23 c0_i32
  let v25 : BitVec 32 := Scalar.subi v24 c0_i32_13
  let c1_i32_14 : BitVec 32 := 1#32
  let v27 : BitVec 32 := Scalar.divsi v25 c1_i32_14
  let v28 : BitVec 32 := Scalar.muli v27 c1_i32_14
  let v29 : BitVec 32 := Scalar.addi c0_i32_13 v28
  let c1_i32_15 : BitVec 32 := 1#32
  ⟨c0_i32_13, v29, c1_i32_15⟩
def k2_mult1 (i : grid2.Coords) (k2_t1 : Fin (k2_t1_loop i).trips) : BitVec 32 :=
  let c0_i32_13 : BitVec 32 := 0#32
  let c1_i32_15 : BitVec 32 := 1#32
  let arg16 : BitVec 32 := Scf.iv c0_i32_13 c1_i32_15 k2_t1
  let c256_i32_68 : BitVec 32 := 256#32
  let v127 : BitVec 32 := Scalar.muli arg16 c256_i32_68
  v127
def k2_off1 (i : grid2.Coords) (k2_t1 : Fin (k2_t1_loop i).trips) : Fin 3 → Nat :=
  let c0_69 : Index := 0#32
  let c0_i32_13 : BitVec 32 := 0#32
  let c1_i32_15 : BitVec 32 := 1#32
  let arg16 : BitVec 32 := Scf.iv c0_i32_13 c1_i32_15 k2_t1
  let c256_i32_68 : BitVec 32 := 256#32
  let v127 : BitVec 32 := Scalar.muli arg16 c256_i32_68
  let v128 : BitVec 32 := v127
  let v129 : Index := Scalar.indexCast v128
  let c0_70 : Index := 0#32
  ![0, v129.toNat, 0]
@[reducible] def k2_t2_loop (i : grid2.Coords) : Scf.Loop 32 :=
  let c0_i32_13 : BitVec 32 := 0#32
  let arg2 : BitVec 32 := BitVec.ofNat 32 (i 2).val
  let c1_i32 : BitVec 32 := 1#32
  let v23 : BitVec 32 := Scalar.subi arg2 c1_i32
  let c0_i32 : BitVec 32 := 0#32
  let v24 : BitVec 32 := Scalar.maxsi v23 c0_i32
  let v25 : BitVec 32 := Scalar.subi v24 c0_i32_13
  let c1_i32_14 : BitVec 32 := 1#32
  let v27 : BitVec 32 := Scalar.divsi v25 c1_i32_14
  let v28 : BitVec 32 := Scalar.muli v27 c1_i32_14
  let v29 : BitVec 32 := Scalar.addi c0_i32_13 v28
  let v26 : BitVec 32 := Scalar.addi c0_i32_13 v25
  let c1_i32_16 : BitVec 32 := 1#32
  ⟨v29, v26, c1_i32_16⟩
def k2_mult2 (i : grid2.Coords) (k2_t2 : Fin (k2_t2_loop i).trips) : BitVec 32 :=
  let c0_i32_13 : BitVec 32 := 0#32
  let arg2 : BitVec 32 := BitVec.ofNat 32 (i 2).val
  let c1_i32 : BitVec 32 := 1#32
  let v23 : BitVec 32 := Scalar.subi arg2 c1_i32
  let c0_i32 : BitVec 32 := 0#32
  let v24 : BitVec 32 := Scalar.maxsi v23 c0_i32
  let v25 : BitVec 32 := Scalar.subi v24 c0_i32_13
  let c1_i32_14 : BitVec 32 := 1#32
  let v27 : BitVec 32 := Scalar.divsi v25 c1_i32_14
  let v28 : BitVec 32 := Scalar.muli v27 c1_i32_14
  let v29 : BitVec 32 := Scalar.addi c0_i32_13 v28
  let c1_i32_16 : BitVec 32 := 1#32
  let arg16 : BitVec 32 := Scf.iv v29 c1_i32_16 k2_t2
  let c256_i32_68 : BitVec 32 := 256#32
  let v127 : BitVec 32 := Scalar.muli arg16 c256_i32_68
  v127
def k2_off2 (i : grid2.Coords) (k2_t2 : Fin (k2_t2_loop i).trips) : Fin 3 → Nat :=
  let c0_69 : Index := 0#32
  let c0_i32_13 : BitVec 32 := 0#32
  let arg2 : BitVec 32 := BitVec.ofNat 32 (i 2).val
  let c1_i32 : BitVec 32 := 1#32
  let v23 : BitVec 32 := Scalar.subi arg2 c1_i32
  let c0_i32 : BitVec 32 := 0#32
  let v24 : BitVec 32 := Scalar.maxsi v23 c0_i32
  let v25 : BitVec 32 := Scalar.subi v24 c0_i32_13
  let c1_i32_14 : BitVec 32 := 1#32
  let v27 : BitVec 32 := Scalar.divsi v25 c1_i32_14
  let v28 : BitVec 32 := Scalar.muli v27 c1_i32_14
  let v29 : BitVec 32 := Scalar.addi c0_i32_13 v28
  let c1_i32_16 : BitVec 32 := 1#32
  let arg16 : BitVec 32 := Scf.iv v29 c1_i32_16 k2_t2
  let c256_i32_68 : BitVec 32 := 256#32
  let v127 : BitVec 32 := Scalar.muli arg16 c256_i32_68
  let v128 : BitVec 32 := v127
  let v129 : Index := Scalar.indexCast v128
  let c0_70 : Index := 0#32
  ![0, v129.toNat, 0]
def k2_cond1 (i : grid2.Coords) : BitVec 1 :=
  let arg2 : BitVec 32 := BitVec.ofNat 32 (i 2).val
  let c1_i32_17 : BitVec 32 := 1#32
  let v30 : BitVec 1 := Scalar.cmpi .sge arg2 c1_i32_17
  let v31 : BitVec 32 := Scalar.extui v30
  let c0_i32_18 : BitVec 32 := 0#32
  let v32 : BitVec 1 := Scalar.cmpi .ne v31 c0_i32_18
  v32

def k2_mult3 (i : grid2.Coords) : BitVec 32 :=
  let arg2 : BitVec 32 := BitVec.ofNat 32 (i 2).val
  let c1_i32_68 : BitVec 32 := 1#32
  let v127 : BitVec 32 := Scalar.subi arg2 c1_i32_68
  let c256_i32_72 : BitVec 32 := 256#32
  let v130 : BitVec 32 := Scalar.muli v127 c256_i32_72
  v130
def k2_off3 (i : grid2.Coords) : Fin 3 → Nat :=
  let c0_73 : Index := 0#32
  let arg2 : BitVec 32 := BitVec.ofNat 32 (i 2).val
  let c1_i32_68 : BitVec 32 := 1#32
  let v127 : BitVec 32 := Scalar.subi arg2 c1_i32_68
  let c256_i32_72 : BitVec 32 := 256#32
  let v130 : BitVec 32 := Scalar.muli v127 c256_i32_72
  let v131 : BitVec 32 := v130
  let v132 : Index := Scalar.indexCast v131
  let c0_74 : Index := 0#32
  ![0, v132.toNat, 0]
def k2_mult4 (i : grid2.Coords) : BitVec 32 :=
  let arg2 : BitVec 32 := BitVec.ofNat 32 (i 2).val
  let c256_i32 : BitVec 32 := 256#32
  let v35 : BitVec 32 := Scalar.muli arg2 c256_i32
  v35
def k2_off4 (i : grid2.Coords) : Fin 3 → Nat :=
  let c0_21 : Index := 0#32
  let arg2 : BitVec 32 := BitVec.ofNat 32 (i 2).val
  let c256_i32 : BitVec 32 := 256#32
  let v35 : BitVec 32 := Scalar.muli arg2 c256_i32
  let v36 : BitVec 32 := v35
  let v37 : Index := Scalar.indexCast v36
  let c0_22 : Index := 0#32
  ![0, v37.toNat, 0]
def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage2_0 : Fin 2 → Memref sig .tc .vmem S1x256x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, true]

abbrev stage2_1 : Fin 2 → Memref sig .tc .vmem S1x4096x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true, false]

abbrev stage2_2 : Fin 2 → Memref sig .tc .vmem S1x4096x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S1x256x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true, false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false, false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false, false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false, false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false, false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false, false]

abbrev stage2_9 : Fin 2 → Memref sig .tc .vmem S1x256x128 .bf16 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, true, true]
-- ==== DaKernelIdeal.lean ====
variable {F : FTy → Type} [FloatOps F] [Named F]
def κ : String → Option EReal := fun
  | "buckets_per_log" => some ((16 * (Real.log 8)⁻¹ : ℝ) : EReal)
  | "log2e" => some (((Real.log 2)⁻¹ : ℝ) : EReal)
  | "neg_inf" => some ⊥
  | "scale_log2e" => some (((1 / 8) * (Real.log 2)⁻¹ : ℝ) : EReal)
  | _ => none
-- ==== DaReferenceIdeal.lean ====
abbrev S8x4096x1024 : Shape := ⟨3, ![8, 4096, 1024]⟩
abbrev S32x8 : Shape := ⟨2, ![32, 8]⟩
abbrev S1x1024x1024 : Shape := ⟨3, ![1, 1024, 1024]⟩
abbrev S1x64 : Shape := ⟨2, ![1, 64]⟩
abbrev S1x128 : Shape := ⟨2, ![1, 128]⟩
abbrev S1024x1024 : Shape := ⟨2, ![1024, 1024]⟩
abbrev S64 : Shape := ⟨1, ![64]⟩
abbrev S128 : Shape := ⟨1, ![128]⟩
abbrev S8x4096x8x2x64 : Shape := ⟨5, ![8, 4096, 8, 2, 64]⟩
abbrev S8x4096x8x128 : Shape := ⟨4, ![8, 4096, 8, 128]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S4096x4096x1 : Shape := ⟨3, ![4096, 4096, 1]⟩
abbrev S4096x4096x8 : Shape := ⟨3, ![4096, 4096, 8]⟩
abbrev S8x4096x4096 : Shape := ⟨3, ![8, 4096, 4096]⟩
abbrev S8x8x2x4096x4096 : Shape := ⟨5, ![8, 8, 2, 4096, 4096]⟩
abbrev S1x8x1x4096x4096 : Shape := ⟨5, ![1, 8, 1, 4096, 4096]⟩
abbrev S8x8x2x4096 : Shape := ⟨4, ![8, 8, 2, 4096]⟩
abbrev S8x8x2x4096x1 : Shape := ⟨5, ![8, 8, 2, 4096, 1]⟩
abbrev S8x8x1x4096x4096 : Shape := ⟨5, ![8, 8, 1, 4096, 4096]⟩
abbrev S8x8x4096x4096 : Shape := ⟨4, ![8, 8, 4096, 4096]⟩
abbrev S8x8x128x4096 : Shape := ⟨4, ![8, 8, 128, 4096]⟩
abbrev S8x4096x8 : Shape := ⟨3, ![8, 4096, 8]⟩
abbrev S8x4096x8x1 : Shape := ⟨4, ![8, 4096, 8, 1]⟩
abbrev S1x1x1x128 : Shape := ⟨4, ![1, 1, 1, 128]⟩

abbrev nBuf : Space → Nat
  | .hbm => 141
  | .vmem => 0
  | .smem => 0
  | _ => 0

abbrev hbmTy0_0 (i : Nat) : BufTy := match i % 128 with
  | 0 => ⟨S8x4096x1024, .f32⟩
  | 1 => ⟨S32x8, .f32⟩
  | 2 => ⟨S1x1024x1024, .f32⟩
  | 3 => ⟨S1x1024x1024, .f32⟩
  | 4 => ⟨S1x1024x1024, .f32⟩
  | 5 => ⟨S1x64, .f32⟩
  | 6 => ⟨S1x64, .f32⟩
  | 7 => ⟨S1x64, .f32⟩
  | 8 => ⟨S1x64, .f32⟩
  | 9 => ⟨S1x128, .f32⟩
  | 10 => ⟨S1024x1024, .f32⟩
  | 11 => ⟨S1024x1024, .f32⟩
  | 12 => ⟨S1024x1024, .f32⟩
  | 13 => ⟨S64, .f32⟩
  | 14 => ⟨S64, .f32⟩
  | 15 => ⟨S64, .f32⟩
  | 16 => ⟨S64, .f32⟩
  | 17 => ⟨S128, .f32⟩
  | 18 => ⟨S8x4096x1024, .f32⟩
  | 19 => ⟨S8x4096x8x2x64, .f32⟩
  | 20 => ⟨S8x4096x1024, .f32⟩
  | 21 => ⟨S8x4096x8x2x64, .f32⟩
  | 22 => ⟨S8x4096x1024, .f32⟩
  | 23 => ⟨S8x4096x8x128, .f32⟩
  | 24 => ⟨S64, .f32⟩
  | 25 => ⟨S_, .f32⟩
  | 26 => ⟨S_, .f32⟩
  | 27 => ⟨S_, .f32⟩
  | 28 => ⟨S64, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S4096, .i32⟩
  | 36 => ⟨S4096x1, .i32⟩
  | 37 => ⟨S1x4096, .i32⟩
  | 38 => ⟨S4096x4096, .i32⟩
  | 39 => ⟨S4096x4096, .i32⟩
  | 40 => ⟨S4096x4096, .i32⟩
  | 41 => ⟨S_, .i32⟩
  | 42 => ⟨S4096x4096, .i32⟩
  | 43 => ⟨S4096x4096, .i32⟩
  | 44 => ⟨S_, .i32⟩
  | 45 => ⟨S4096x4096, .i32⟩
  | 46 => ⟨S4096x4096, .i32⟩
  | 47 => ⟨S4096x4096, .f32⟩
  | 48 => ⟨S_, .f32⟩
  | 49 => ⟨S4096x4096, .f32⟩
  | 50 => ⟨S4096x4096, .f32⟩
  | 51 => ⟨S4096x4096, .f32⟩
  | 52 => ⟨S_, .f32⟩
  | 53 => ⟨S_, .f32⟩
  | 54 => ⟨S4096x4096, .f32⟩
  | 55 => ⟨S4096x4096, .f32⟩
  | 56 => ⟨S_, .f32⟩
  | 57 => ⟨S4096x4096, .f32⟩
  | 58 => ⟨S4096x4096, .f32⟩
  | 59 => ⟨S4096x4096, .i32⟩
  | 60 => ⟨S_, .i32⟩
  | 61 => ⟨S4096x4096, .i32⟩
  | 62 => ⟨S4096x4096, .i32⟩
  | 63 => ⟨S_, .i32⟩
  | 64 => ⟨S4096x4096, .i32⟩
  | 65 => ⟨S4096x4096, .i32⟩
  | 66 => ⟨S_, .i32⟩
  | 67 => ⟨S4096x4096, .i32⟩
  | 68 => ⟨S4096x4096, .i1⟩
  | 69 => ⟨S4096x4096, .i32⟩
  | 70 => ⟨S_, .i32⟩
  | 71 => ⟨S4096x4096, .i32⟩
  | 72 => ⟨S4096x4096, .i1⟩
  | 73 => ⟨S_, .i32⟩
  | 74 => ⟨S4096x4096, .i32⟩
  | 75 => ⟨S4096x4096, .i32⟩
  | 76 => ⟨S4096x4096, .i32⟩
  | 77 => ⟨S4096x4096x1, .i32⟩
  | 78 => ⟨S4096x4096x8, .f32⟩
  | 79 => ⟨S8x4096x4096, .f32⟩
  | 80 => ⟨S8x8x2x4096x4096, .f32⟩
  | 81 => ⟨S_, .f32⟩
  | 82 => ⟨S8x8x2x4096x4096, .f32⟩
  | 83 => ⟨S8x8x2x4096x4096, .f32⟩
  | 84 => ⟨S1x8x1x4096x4096, .f32⟩
  | 85 => ⟨S8x8x2x4096x4096, .f32⟩
  | 86 => ⟨S8x8x2x4096x4096, .f32⟩
  | 87 => ⟨S1x4096, .i32⟩
  | 88 => ⟨S4096x1, .i32⟩
  | 89 => ⟨S4096x4096, .i32⟩
  | 90 => ⟨S4096x4096, .i32⟩
  | 91 => ⟨S4096x4096, .i1⟩
  | 92 => ⟨S_, .f32⟩
  | 93 => ⟨S_, .f32⟩
  | 94 => ⟨S8x8x2x4096x4096, .i1⟩
  | 95 => ⟨S8x8x2x4096x4096, .f32⟩
  | 96 => ⟨S8x8x2x4096x4096, .f32⟩
  | 97 => ⟨S_, .f32⟩
  | 98 => ⟨S8x8x2x4096, .f32⟩
  | 99 => ⟨S_, .f32⟩
  | 100 => ⟨S8x8x2x4096, .f32⟩
  | 101 => ⟨S8x8x2x4096, .f32⟩
  | 102 => ⟨S8x8x2x4096x1, .f32⟩
  | 103 => ⟨S8x8x2x4096x4096, .f32⟩
  | 104 => ⟨S8x8x2x4096x4096, .f32⟩
  | 105 => ⟨S8x8x2x4096x4096, .f32⟩
  | 106 => ⟨S_, .f32⟩
  | 107 => ⟨S8x8x2x4096, .f32⟩
  | 108 => ⟨S8x8x2x4096x1, .f32⟩
  | 109 => ⟨S8x8x2x4096x4096, .f32⟩
  | 110 => ⟨S8x8x2x4096x4096, .f32⟩
  | 111 => ⟨S8x8x1x4096x4096, .f32⟩
  | 112 => ⟨S8x8x4096x4096, .f32⟩
  | 113 => ⟨S8x8x1x4096x4096, .f32⟩
  | 114 => ⟨S8x8x4096x4096, .f32⟩
  | 115 => ⟨S8x8x4096x4096, .f32⟩
  | 116 => ⟨S8x8x4096x4096, .f32⟩
  | 117 => ⟨S8x8x4096x4096, .f32⟩
  | 118 => ⟨S8x8x128x4096, .f32⟩
  | 119 => ⟨S8x4096x8x128, .f32⟩
  | 120 => ⟨S8x4096x8x128, .f32⟩
  | 121 => ⟨S_, .f32⟩
  | 122 => ⟨S8x4096x8, .f32⟩
  | 123 => ⟨S8x4096x8x1, .f32⟩
  | 124 => ⟨S_, .f32⟩
  | 125 => ⟨S8x4096x8x1, .f32⟩
  | 126 => ⟨S8x4096x8x1, .f32⟩
  | 127 => ⟨S_, .f32⟩
  | _ => ⟨S8x4096x1024, .f32⟩

abbrev hbmTy0_1 (i : Nat) : BufTy := match i % 128 with
  | 0 => ⟨S8x4096x8x1, .f32⟩
  | 1 => ⟨S8x4096x8x1, .f32⟩
  | 2 => ⟨S8x4096x8x1, .f32⟩
  | 3 => ⟨S8x4096x8x128, .f32⟩
  | 4 => ⟨S8x4096x8x128, .f32⟩
  | 5 => ⟨S1x1x1x128, .f32⟩
  | 6 => ⟨S8x4096x8x128, .f32⟩
  | 7 => ⟨S8x4096x8x128, .f32⟩
  | 8 => ⟨S_, .f32⟩
  | 9 => ⟨S8x4096x8x128, .f32⟩
  | 10 => ⟨S8x4096x8x128, .f32⟩
  | 11 => ⟨S8x4096x1024, .f32⟩
  | 12 => ⟨S8x4096x1024, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c : Ref sig .tc := ⟨.hbm, 41, rfl⟩
abbrev main_v28 : Ref sig .tc := ⟨.hbm, 42, rfl⟩
abbrev main_v29 : Ref sig .tc := ⟨.hbm, 43, rfl⟩
abbrev main_c_2 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_3 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_4 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_5 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_c_6 : Ref sig .tc := ⟨.hbm, 60, rfl⟩
abbrev main_v42 : Ref sig .tc := ⟨.hbm, 61, rfl⟩
abbrev main_v43 : Ref sig .tc := ⟨.hbm, 62, rfl⟩
abbrev main_c_7 : Ref sig .tc := ⟨.hbm, 63, rfl⟩
abbrev main_v44 : Ref sig .tc := ⟨.hbm, 64, rfl⟩
abbrev main_v45 : Ref sig .tc := ⟨.hbm, 65, rfl⟩
abbrev main_c_8 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_12 : Ref sig .tc := ⟨.hbm, 92, rfl⟩
abbrev main_call1_v0 : Ref sig .tc := ⟨.hbm, 93, rfl⟩
abbrev main_call1_v1 : Ref sig .tc := ⟨.hbm, 94, rfl⟩
abbrev main_call1_v2 : Ref sig .tc := ⟨.hbm, 95, rfl⟩
abbrev main_v68 : Ref sig .tc := ⟨.hbm, 96, rfl⟩
abbrev main_cst_13 : Ref sig .tc := ⟨.hbm, 97, rfl⟩
abbrev main_v69 : Ref sig .tc := ⟨.hbm, 98, rfl⟩
abbrev main_cst_14 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_15 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_cst_16 : Ref sig .tc := ⟨.hbm, 121, rfl⟩
abbrev main_v90 : Ref sig .tc := ⟨.hbm, 122, rfl⟩
abbrev main_v91 : Ref sig .tc := ⟨.hbm, 123, rfl⟩
abbrev main_cst_17 : Ref sig .tc := ⟨.hbm, 124, rfl⟩
abbrev main_v92 : Ref sig .tc := ⟨.hbm, 125, rfl⟩
abbrev main_v93 : Ref sig .tc := ⟨.hbm, 126, rfl⟩
abbrev main_cst_18 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_cst_19 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩

abbrev nD : Nat := 1
abbrev τ : Topo := Topo.v7x

variable {F : FTy → Type} [FloatOps F]
-- ==== ProjKernel.lean ====
abbrev S32768x1024 : Shape := ⟨2, ![32768, 1024]⟩
abbrev S1024x1024 : Shape := ⟨2, ![1024, 1024]⟩
abbrev S512x1024 : Shape := ⟨2, ![512, 1024]⟩

abbrev nBuf : Space → Nat
  | .hbm => 10
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S32768x1024, .bf16⟩
  | .hbm, ⟨8, _⟩ => ⟨S32768x1024, .bf16⟩
  | .hbm, ⟨9, _⟩ => ⟨S32768x1024, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ProjReferenceIdeal.lean ====
abbrev S32768x1024 : Shape := ⟨2, ![32768, 1024]⟩
abbrev S1024x1024 : Shape := ⟨2, ![1024, 1024]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S32768x1024, .f32⟩
  | .hbm, ⟨5, _⟩ => ⟨S_, .f32⟩
  | .hbm, ⟨6, _⟩ => ⟨S32768x1024, .f32⟩
  | .hbm, ⟨7, _⟩ => ⟨S32768x1024, .f32⟩
  | .hbm, ⟨8, _⟩ => ⟨S32768x1024, .bf16⟩
  | .hbm, ⟨9, _⟩ => ⟨S32768x1024, .f32⟩
  | .hbm, ⟨10, _⟩ => ⟨S32768x1024, .bf16⟩
  | .hbm, ⟨11, _⟩ => ⟨S32768x1024, .f32⟩
  | .hbm, ⟨12, _⟩ => ⟨S32768x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Proof.StickBlock.lean ====
/-
  What one step of the stick-breaking kernel leaves in its output window: the body's loop read back as the payloads
  of the diagonal block and of the earlier blocks, in turn.
-/
module

public import proofs.«01_k».proof.Proof.Gen.KernelIdeal.Frame
public import Idealize.ShloMosaic.Lib.Pipeline.Value
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.KernelIdeal.Stick

open Cert.KernelIdeal Cert.KernelIdeal.Gen

variable {F : FTy → Type} [FloatOps F] [Named F]

theorem z2 : (![0, 0] : Fin 2 → Nat) = fun _ => 0 := funext fun a => by fin_cases a <;> rfl
theorem z3 : (![0, 0, 0] : Fin 3 → Nat) = fun _ => 0 := funext fun a => by fin_cases a <;> rfl

/-- A whole-block store, last, is what a read finds. -/
theorem read_full {sig : RefSig} {κ : Kind} {sp : Space} {S : Shape} {e : EltTy} (v : View sig κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩)]
  exact View.canon_cons_unit_zero h inb w L

/-- The scratch pair: the running remainder of the stick and the accumulator. -/
abbrev St (F : FTy → Type) : Type := Vec F S512x128 .f32 × Vec F S256x128 .f32

/-- The rows of the keys (or values) that trip `k` reads. -/
abbrev rowsAt (x : Vec F S1x4096x128 .bf16) (i : grid1.Coords) (k : Fin (k1_t1_loop i).trips) : Vec F S1x256x128 .bf16 :=
  View.ld x (Rect.unit (s := S1x4096x128) (k1_off2 i k) S1x256x128.size (k1_off2_inb i k))

/-- What one trip leaves in the scratch pair, from the stacked queries `v10`, the triangle `v17`, the lane numbers
    `v18` and the trip's key and value rows. -/
def trip (v10 : FVec F S512x128 .bf16) (v17 : FVec F S256x256 .bf16) (v18 : IVec S256x128 32)
    (kb vb : Vec F S1x256x128 .bf16) (s : St F) : St F :=
  (k1_pay4 (k1_pay10 v10 kb) (k1_pay11 v10 v17 kb) s.1,
   k1_pay3 v18 (k1_pay13 v10 v17 kb vb) (k1_pay14 v10 v17 kb vb) (k1_pay15 s.1) s.2)

/-- The scratch pair before trip `n` of the loop. -/
def trips (i : grid1.Coords) (v10 : FVec F S512x128 .bf16) (v17 : FVec F S256x256 .bf16) (v18 : IVec S256x128 32)
    (x1 x2 : Vec F S1x4096x128 .bf16) (s : St F) : ℕ → St F
  | 0 => s
  | n + 1 => if h : n < (k1_t1_loop i).trips then
      trip v10 v17 v18 (rowsAt x1 i ⟨n, h⟩) (rowsAt x2 i ⟨n, h⟩) (trips i v10 v17 v18 x1 x2 s n)
    else trips i v10 v17 v18 x1 x2 s n

section
variable (𝒱 : Variants) (bd : Option 𝒱.V) (c : Dev nD) (i : grid1.Coords) (arg3 : Memref sig .tc .vmem S1x256x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x256x128 .bf16) (harg6 : arg6.IsWhole) (arg7 : Memref sig .tc .vmem S512x128 .f32) (harg7 : arg7.IsWhole) (arg8 : Memref sig .tc .vmem S256x128 .f32) (harg8 : arg8.IsWhole)
  (arg2 : BitVec 32) (v10 : FVec F S512x128 .bf16) (v17 : FVec F S256x256 .bf16) (v18 : IVec S256x128 32)
  (x1 x2 : Vec F S1x4096x128 .bf16)

/-- One trip's stores, read back: the scratch pair becomes `trip` of what it was. -/
theorem trip_read (k : Fin (k1_t1_loop i).trips) (f7 : BufTy.Contents (Elt F) arg7.view.ty) (f8 : BufTy.Contents (Elt F) arg8.view.ty)
    (L7 : List (View.Piece (Elt F) S512x128 .f32)) (L8 : List (View.Piece (Elt F) S256x128 .f32)) :
    (arg7.view.read (Elt F) (arg7.view.writes (Elt F) f7 ((tripL_k1_t1 (F := F) 𝒱 c bd i arg3 harg3 arg4 harg4 arg5 harg5 arg6 harg6 arg7 harg7 arg8 harg8 arg2 v10 v17 v18 (harg4.unread x1) (harg5.unread x2) k (arg7.view.writes (Elt F) f7 L7) (arg8.view.writes (Elt F) f8 L8)).1 ++ L7)),
     arg8.view.read (Elt F) (arg8.view.writes (Elt F) f8 ((tripL_k1_t1 (F := F) 𝒱 c bd i arg3 harg3 arg4 harg4 arg5 harg5 arg6 harg6 arg7 harg7 arg8 harg8 arg2 v10 v17 v18 (harg4.unread x1) (harg5.unread x2) k (arg7.view.writes (Elt F) f7 L7) (arg8.view.writes (Elt F) f8 L8)).2 ++ L8)))
    = trip v10 v17 v18 (rowsAt x1 i k) (rowsAt x2 i k)
        (arg7.view.read (Elt F) (arg7.view.writes (Elt F) f7 L7), arg8.view.read (Elt F) (arg8.view.writes (Elt F) f8 L8)) := by
  unfold tripL_k1_t1 trip_k1_t1
  dsimp only
  sl_unfold_words
  simp only [List.cons_append, List.nil_append]
  refine Prod.ext ?_ ?_
  · refine (read_full arg7.view f7 z2 _ _ _).trans ?_
    simp only [View.readAt_eq_ld, harg4.read_unread, harg5.read_unread, View.ld_unit_zero (S := S512x128) z2]
    rfl
  · refine (read_full arg8.view f8 z2 _ _ _).trans ?_
    simp only [View.readAt_eq_ld, harg4.read_unread, harg5.read_unread, View.ld_unit_zero (S := S256x128) z2, View.ld_unit_zero (S := S512x128) z2]
    rfl

/-- The scratch pair before trip `n`, by induction on the trips. -/
theorem pb_read (f7 : BufTy.Contents (Elt F) arg7.view.ty) (f8 : BufTy.Contents (Elt F) arg8.view.ty) : ∀ (n : ℕ), n ≤ (k1_t1_loop i).trips →
    (arg7.view.read (Elt F) (arg7.view.writes (Elt F) f7 (pb_k1_t1 (F := F) 𝒱 c bd i arg3 harg3 arg4 harg4 arg5 harg5 arg6 harg6 arg7 harg7 arg8 harg8 arg2 v10 v17 v18 (harg4.unread x1) (harg5.unread x2) f7 f8 n).1),
     arg8.view.read (Elt F) (arg8.view.writes (Elt F) f8 (pb_k1_t1 (F := F) 𝒱 c bd i arg3 harg3 arg4 harg4 arg5 harg5 arg6 harg6 arg7 harg7 arg8 harg8 arg2 v10 v17 v18 (harg4.unread x1) (harg5.unread x2) f7 f8 n).2))
    = trips i v10 v17 v18 x1 x2 (arg7.view.read (Elt F) f7, arg8.view.read (Elt F) f8) n
  | 0, _ => rfl
  | n + 1, h => by
    rw [pb_k1_t1_succ 𝒱 c bd i arg3 harg3 arg4 harg4 arg5 harg5 arg6 harg6 arg7 harg7 arg8 harg8 arg2 v10 v17 v18 (harg4.unread x1) (harg5.unread x2) f7 f8 ⟨n, h⟩]
    refine (trip_read 𝒱 bd c i arg3 harg3 arg4 harg4 arg5 harg5 arg6 harg6 arg7 harg7 arg8 harg8 arg2 v10 v17 v18 x1 x2 ⟨n, h⟩ f7 f8 _ _).trans ?_
    rw [pb_read f7 f8 n (Nat.le_of_lt h)]
    exact (show trips i v10 v17 v18 x1 x2 _ (n + 1) = _ from dif_pos (show n < (k1_t1_loop i).trips from h)).symm
end

/-- The loop runs once per earlier key block, its counted trips being the block number of the queries. -/
theorem trips1 (i : grid1.Coords) : (k1_t1_loop i).trips = (i 2).val := by
  have h : ∀ a : Fin 16, Scf.trips (0#32) (Scalar.addi (0#32) (Scalar.muli (Scalar.divsi (Scalar.subi (BitVec.ofNat 32 a.val) 0#32) 1#32) 1#32)) 1#32 = a.val := by decide +kernel
  exact h (i 2)

/-- The second counted loop runs no trip. -/
theorem trips2 (i : grid1.Coords) : (k1_t2_loop i).trips = 0 := by
  have h : ∀ a : Fin 16, Scf.trips (Scalar.addi (0#32) (Scalar.muli (Scalar.divsi (Scalar.subi (BitVec.ofNat 32 a.val) 0#32) 1#32) 1#32)) (Scalar.addi (0#32) (Scalar.subi (BitVec.ofNat 32 a.val) 0#32)) 1#32 = 0 := by decide +kernel
  exact h (i 2)

/-- The key (or value) rows of the queries' own block. -/
abbrev rowsDiag (x : Vec F S1x4096x128 .bf16) (i : grid1.Coords) : Vec F S1x256x128 .bf16 :=
  View.ld x (Rect.unit (s := S1x4096x128) (k1_off1 i) S1x256x128.size (k1_off1_inb i))

/-- The constant the diagonal block's dot product starts from. -/
abbrev zc : FVec F S512x256 .f32 := constant S512x256 .f32 0x00000000#32

/-- What the diagonal block leaves in the scratch pair. -/
def diag (v10 : FVec F S512x128 .bf16) (v17 : FVec F S256x256 .bf16) (v18 : IVec S256x128 32) (kb vb : Vec F S1x256x128 .bf16) : St F :=
  (k1_pay2 (k1_pay33 v10 (k1_pay28 kb) zc) (k1_pay34 v10 v17 (k1_pay28 kb) zc) k1_pay26,
   k1_pay1 v18 (k1_pay36 v10 v17 (k1_pay28 kb) (k1_pay29 vb) zc) (k1_pay37 v10 v17 (k1_pay28 kb) (k1_pay29 vb) zc) (k1_pay38 k1_pay26) k1_pay27 64#32)

/-- The lane numbers of the accumulator. -/
abbrev lanes : IVec S256x128 32 := iota .tc S256x128 32 [1] iota_S256x128_d1_w32

/-- What the body leaves in its output block: the accumulator after the diagonal block and every earlier key block,
    as a block of the result. -/
theorem out_eq (c : Dev nD) (i : grid1.Coords) (arg3 : Memref sig .tc .vmem S1x256x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x256x128 .bf16) (harg6 : arg6.IsWhole) (arg7 : Memref sig .tc .vmem S512x128 .f32) (harg7 : arg7.IsWhole) (arg8 : Memref sig .tc .vmem S256x128 .f32) (harg8 : arg8.IsWhole)
    (x0 : Vec F S1x256x128 .bf16) (x1 : Vec F S1x4096x128 .bf16) (x2 : Vec F S1x4096x128 .bf16) :
    out1_A_3 c i arg3 harg3 arg4 harg4 arg5 harg5 arg6 harg6 arg7 harg7 arg8 harg8 x0 x1 x2
      = k1_pay7 (trips i (k1_pay24 x0) k1_pay25 lanes x1 x2 (diag (k1_pay24 x0) k1_pay25 lanes (rowsDiag x1 i) (rowsDiag x2 i)) (i 2).val).2 := by
  unfold out1_A_3
  rw [View.read_writes_eq_canon _ _ _ (cover1_A_3 c i arg3 harg3 arg4 harg4 arg5 harg5 arg6 harg6 arg7 harg7 arg8 harg8 x0 x1 x2)]
  unfold kernelRun1_A
  dsimp only
  rw [View.canon_unit_zero z3]
  sl_unfold_words
  have e2 : Scf.trips (k1_t2_loop i).lb (k1_t2_loop i).ub (k1_t2_loop i).st = 0 := trips2 i
  have e1 : Scf.trips (k1_t1_loop i).lb (k1_t1_loop i).ub (k1_t1_loop i).st = (i 2).val := trips1 i
  rw [e1, e2]
  refine congrArg k1_pay7 ?_
  rw [View.readCov_eq_canon']
  rw [← View.readAt_writes_junk_eq_canon arg8.view, View.readAt_eq_ld, View.ld_unit_zero (S := S256x128) z2]
  simp only [View.readAt_eq_ld, harg3.read_unread, harg4.read_unread, harg5.read_unread, View.ld_unit_zero (S := S1x256x128) z3]
  rw [View.readCov_unit_zero (S := S512x128) _ z2, View.readCov_unit_zero (S := S256x128) _ z2]
  show View.read (Elt F) arg8.view (arg8.view.writes (Elt F) arg8.view.junk ([] ++ (_ ++ _))) = _
  rw [List.nil_append, View.writes_append]
  refine (congrArg Prod.snd (pb_read Variants.none none c i arg3 harg3 arg4 harg4 arg5 harg5 arg6 harg6 arg7 harg7 arg8 harg8 _ _ _ _ x1 x2 _ _ (i 2).val (trips1 i).ge)).trans ?_
  rw [read_full arg7.view _ z2, read_full arg8.view _ z2]
  rfl

end Cert.KernelIdeal.Stick
end
-- ==== Proof.StickReal.lean ====
/-
  The stick-breaking weights over the reals: the kernel's failure logarithm and weight in powers of two, sums over
  consecutive keys, and how one more block of keys extends the remainder and the accumulator.
-/
module

public import Mathlib.Data.EReal.Operations
public import Mathlib.Analysis.SpecialFunctions.Pow.Real
public import Mathlib.Analysis.SpecialFunctions.Log.Basic
public import Mathlib.Algebra.BigOperators.Intervals

@[expose] public section

noncomputable section

namespace Cert.Stick

open Finset

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- The kernel's logarithm of a failure, in units of `log 2`, of a score `z` that carries the factor `- log2 e`. -/
def lf (z : ℝ) : ℝ := min z 0 - Real.log (1 + (2 : ℝ) ^ (-|z|)) * (Real.log 2)⁻¹

/-- The weight of key `s` for a query whose earlier keys are those below `hi`, from the scores `z`: success at `s`
    after failing at every later key. -/
def wgt (z : ℕ → ℝ) (hi s : ℕ) : ℝ := (2 : ℝ) ^ (lf (z s) - z s + ∑ j ∈ Ico (s + 1) hi, lf (z j))

/-- A sum over a block's lanes below `m`, of those after lane `c`, is a sum over consecutive keys. -/
theorem sum_tail (f : ℕ → ℝ) (B m c n : ℕ) (hm : m ≤ n) :
    ∑ x : Fin n, (if x.val < m then f (B + x.val) else 0) * (if c < x.val then (1 : ℝ) else 0) = ∑ j ∈ Ico (B + (c + 1)) (B + m), f j := by
  have e : ∑ j ∈ Ico (B + (c + 1)) (B + m), f j = ∑ x ∈ Ico (c + 1) m, f (x + B) := by
    rw [Finset.sum_Ico_add', Nat.add_comm B, Nat.add_comm B]
  rw [e]
  rw [Fin.sum_univ_eq_sum_range (fun x => (if x < m then f (B + x) else 0) * (if c < x then (1 : ℝ) else 0)) n]
  rw [Finset.range_eq_Ico]
  have h : ∀ x ∈ Ico 0 n, (if x < m then f (B + x) else 0) * (if c < x then (1 : ℝ) else 0) = if x ∈ Ico (c + 1) m then f (x + B) else 0 := by
    intro x _
    by_cases h1 : x < m <;> by_cases h2 : c < x
    · rw [if_pos h1, if_pos h2, if_pos (by simp; omega), mul_one, Nat.add_comm]
    · rw [if_neg h2, mul_zero, if_neg (by simp; omega)]
    · rw [if_neg h1, zero_mul, if_neg (by simp; omega)]
    · rw [if_neg h1, zero_mul, if_neg (by simp; omega)]
  rw [Finset.sum_congr rfl h, Finset.sum_ite_mem, Finset.inter_eq_right.mpr]
  intro x; simp; omega

/-- A sum over a block's lanes is a sum over consecutive keys. -/
theorem sum_block (f : ℕ → ℝ) (B m n : ℕ) (hm : m ≤ n) :
    ∑ x : Fin n, (if x.val < m then f (B + x.val) else 0) = ∑ j ∈ Ico B (B + m), f j := by
  rw [Fin.sum_univ_eq_sum_range (fun x => (if x < m then f (B + x) else 0)) n, Finset.sum_ite, Finset.sum_const_zero, add_zero]
  have e : ∑ j ∈ Ico B (B + m), f j = ∑ x ∈ Ico 0 m, f (x + B) := by
    rw [Finset.sum_Ico_add', Nat.zero_add, Nat.add_comm B]
  rw [e]
  refine Finset.sum_congr ?_ fun x _ => by rw [Nat.add_comm]
  ext x; simp; omega

/-- The remainder after one more block: the later keys' logarithms and the block's first two parts add up. -/
theorem rem_step (f : ℕ → ℝ) (B C hi : ℕ) (h : B + 1 ≤ C) (h' : C ≤ hi) :
    ∑ j ∈ Ico C hi, f j + (∑ j ∈ Ico (B + (0 + 1)) C, f j + f B) = ∑ j ∈ Ico B hi, f j := by
  rw [← Finset.sum_Ico_consecutive f (by omega : B ≤ C) h', Finset.sum_eq_sum_Ico_succ_bot (by omega : B < C) f]
  ring

/-- One more block of weighted values: the block's weights times the power of the remainder are the weights. -/
theorem acc_step (z v : ℕ → ℝ) (B n hi : ℕ) (h' : B + n ≤ hi) :
    ∑ s ∈ Ico (B + n) hi, wgt z hi s * v s
      + (2 : ℝ) ^ (∑ j ∈ Ico (B + n) hi, lf (z j)) * ∑ x : Fin n, (2 : ℝ) ^ (lf (z (B + x.val)) - z (B + x.val) + ∑ j ∈ Ico (B + (x.val + 1)) (B + n), lf (z j)) * v (B + x.val)
    = ∑ s ∈ Ico B hi, wgt z hi s * v s := by
  rw [← Finset.sum_Ico_consecutive (fun s => wgt z hi s * v s) (by omega : B ≤ B + n) h', add_comm]
  congr 1
  rw [← sum_block (fun s => wgt z hi s * v s) B n n le_rfl, Finset.mul_sum]
  refine Finset.sum_congr rfl fun x _ => ?_
  rw [if_pos x.isLt, ← mul_assoc, wgt, ← Real.rpow_add (by norm_num)]
  congr 2
  have := Finset.sum_Ico_consecutive (fun j => lf (z j)) (by have := x.isLt; omega : B + (x.val + 1) ≤ B + n) h'
  rw [show B + x.val + 1 = B + (x.val + 1) from rfl, ← this]
  ring

end Cert.Stick
end
-- ==== Proof.StickPay.lean ====
/-
  The payloads of the stick-breaking kernel at an index: the scores, the failure logarithms, the suffix sums, the
  weights and the products of one block, and what one trip of the loop over the earlier blocks does to the scratch arrays.
-/
module

public import proofs.«01_k».proof.Proof.StickBlock
public import proofs.«01_k».proof.Proof.StickReal
public import Idealize.ShloMosaic.Lib.Pointwise
public import Idealize.ShloMosaic.Lib.WordCmp

@[expose] public section

set_option maxRecDepth 16384

noncomputable section

open Idealize.ShloMosaic Idealize.ShloMosaic.TcCoe Idealize.SL.Sem Idealize.ShloMosaic.WordCmp

namespace Cert.KernelIdeal.Stick

open Cert.KernelIdeal Cert.KernelIdeal.Gen Cert.Stick

/-- The base-two logarithm of `e`, as the certificate's table gives it. -/
theorem log2e : Named.named (F := Ideal) Cert.KernelIdeal.κ "log2e" (φ := .f32) 0x3FB8AA3B#32 = (((Real.log 2)⁻¹ : ℝ) : EReal) :=
  IdealRules.named_const.ideal_named_scalar _ _ _ _ rfl

/-- The absolute value of a real. -/
theorem absf_coe (z : ℝ) : FloatOps.absf (F := Ideal) (φ := .f32) (z : EReal) = ((|z| : ℝ) : EReal) := by
  change max (z : EReal) (-(z : EReal)) = _
  rw [← EReal.coe_neg, ← EReal.coe_strictMono.monotone.map_max]
  rfl

/-- The kernel's failure logarithm at a real score. -/
theorem lf_coe (z : ℝ) : min (z : EReal) 0 - Ideal.log (1 + FloatOps.exp2 (F := Ideal) (φ := .f32) (0 - FloatOps.absf (F := Ideal) (φ := .f32) (z : EReal))) * (((Real.log 2)⁻¹ : ℝ) : EReal)
    = ((lf z : ℝ) : EReal) := by
  rw [absf_coe, zero_sub, ← EReal.coe_neg]
  change min (z : EReal) 0 - Ideal.log (1 + Ideal.exp2 ((-|z| : ℝ) : EReal)) * _ = _
  rw [Ideal.exp2_coe, ← EReal.coe_one, ← EReal.coe_add, Ideal.log_coe, if_neg (by
    have : (0:ℝ) < Real.rpow 2 (-|z|) := Real.rpow_pos_of_pos (by norm_num) _
    linarith), ← EReal.coe_mul, ← EReal.coe_zero, ← EReal.coe_strictMono.monotone.map_min, ← EReal.coe_sub]
  rfl

section
variable (q : FVec Ideal S512x128 .bf16) (kb vb : Vec Ideal S1x256x128 .bf16) (Q : Fin 512 → Fin 128 → ℝ) (K V : ℕ → Fin 128 → ℝ) (B : ℕ)

/-- The score of a stacked query row against a key. -/
def score (Q : Fin 512 → Fin 128 → ℝ) (K : ℕ → Fin 128 → ℝ) (r : Fin 512) (s : ℕ) : ℝ := ∑ d, Q r d * K s d

variable (hq : ∀ r d, q (ix2 r d) = ((Q r d : ℝ) : EReal)) (hk : ∀ (s : Fin 256) d, kb (ix3 0 s d) = ((K (B + s.val) d : ℝ) : EReal))
  (hv : ∀ (s : Fin 256) d, vb (ix3 0 s d) = ((V (B + s.val) d : ℝ) : EReal))

include hq hk in
theorem pay9 (r : Fin 512) (s : Fin 256) : k1_pay9 (F := Ideal) q kb (ix2 r s) = ((score Q K r (B + s.val) : ℝ) : EReal) := by
  pointwise [k1_pay9]
  rw [score, coe_sum]
  refine Finset.sum_congr rfl fun d _ => ?_
  rw [hq, hk, EReal.coe_mul]

include hq hk in
theorem pay10 (r : Fin 512) (s : Fin 256) : k1_pay10 (F := Ideal) q kb (ix2 r s) = ((lf (score Q K r (B + s.val)) : ℝ) : EReal) := by
  pointwise [k1_pay10]
  rw [pay9 q kb Q K B hq hk, log2e, lf_coe]

/-- The triangle: one strictly below the diagonal. -/
theorem tri (x s : Fin 256) : k1_pay25 (F := Ideal) (ix2 x s) = (((if s.val < x.val then (1 : ℝ) else 0) : ℝ) : EReal) := by
  pointwise [k1_pay25]
  rw [cmpi_sgt_ofNat (by omega) (by omega), select_ofBool]
  by_cases h : s.val < x.val
  · simp only [h, decide_true, if_true, EReal.coe_one]
  · simp only [h, decide_false, if_false, EReal.coe_zero, Bool.false_eq_true]

include hq hk in
theorem pay11 (r : Fin 512) (s : Fin 256) : k1_pay11 (F := Ideal) q (k1_pay25 (F := Ideal)) kb (ix2 r s)
    = ((∑ j ∈ Finset.Ico (B + (s.val + 1)) (B + 256), lf (score Q K r j) : ℝ) : EReal) := by
  pointwise [k1_pay11]
  rw [← sum_tail (fun j => lf (score Q K r j)) B 256 s.val 256 le_rfl, coe_sum]
  rw [← add_zero (∑ x : Fin 256, (((if x.val < 256 then lf (score Q K r (B + x.val)) else 0) * (if s.val < x.val then (1 : ℝ) else 0) : ℝ) : EReal))]
  refine congrArg₂ (· + ·) (Finset.sum_congr rfl fun x _ => ?_) (Finset.sum_eq_zero fun x _ => ?_)
  · rw [pay10 q kb Q K B hq hk, tri, if_pos x.isLt, EReal.coe_mul]
  · rw [pay10 q kb Q K B hq hk, ← EReal.coe_sub, sub_self, EReal.coe_zero, zero_mul]

include hq hk in
theorem pay12 (r : Fin 512) (s : Fin 256) : k1_pay12 (F := Ideal) q (k1_pay25 (F := Ideal)) kb (ix2 r s)
    = (((2 : ℝ) ^ (lf (score Q K r (B + s.val)) - score Q K r (B + s.val) + ∑ j ∈ Finset.Ico (B + (s.val + 1)) (B + 256), lf (score Q K r j)) : ℝ) : EReal) := by
  pointwise [k1_pay12]
  rw [pay9 q kb Q K B hq hk, pay10 q kb Q K B hq hk, pay11 q kb Q K B hq hk, ← EReal.coe_sub, ← EReal.coe_add]
  exact Ideal.exp2_coe _

/-- A block's values under its weights, for one row of the stack. -/
def part (Q : Fin 512 → Fin 128 → ℝ) (K V : ℕ → Fin 128 → ℝ) (B : ℕ) (r : Fin 512) (l : Fin 128) : ℝ :=
  ∑ x : Fin 256, (2 : ℝ) ^ (lf (score Q K r (B + x.val)) - score Q K r (B + x.val) + ∑ j ∈ Finset.Ico (B + (x.val + 1)) (B + 256), lf (score Q K r j)) * V (B + x.val) l

include hq hk hv in
theorem pay13 (t : Fin 256) (l : Fin 128) : k1_pay13 (F := Ideal) q (k1_pay25 (F := Ideal)) kb vb (ix2 t l)
    = ((part Q K V B ⟨t.val, by omega⟩ l : ℝ) : EReal) := by
  pointwise [k1_pay13, k1_pay8]
  rw [part, coe_sum]
  refine Finset.sum_congr rfl fun x _ => ?_
  rw [hv, EReal.coe_mul]
  exact congrArg (· * _) (pay12 q kb Q K B hq hk ⟨t.val, by omega⟩ x)

include hq hk hv in
theorem pay14 (t : Fin 256) (l : Fin 128) : k1_pay14 (F := Ideal) q (k1_pay25 (F := Ideal)) kb vb (ix2 t l)
    = ((part Q K V B ⟨256 + t.val, by omega⟩ l : ℝ) : EReal) := by
  pointwise [k1_pay14, k1_pay8]
  rw [part, coe_sum]
  refine Finset.sum_congr rfl fun x _ => ?_
  rw [hv, EReal.coe_mul]
  exact congrArg (· * _) (pay12 q kb Q K B hq hk ⟨256 + t.val, by omega⟩ x)

/-- The stack row whose stream lane `l` of query `t` belongs to. -/
def rowOf (t : Fin 256) (l : Fin 128) : Fin 512 := if l.val < 64 then ⟨t.val, by omega⟩ else ⟨256 + t.val, by omega⟩

theorem rowOf_mod (t : Fin 256) (l : Fin 128) : (rowOf t l).val % 256 = t.val := by
  unfold rowOf; split <;> dsimp only <;> omega

/-- What the scratch pair holds once the keys from `lo` on are taken in, `D` the queries' first row: the remainders and
    the weighted values. -/
structure Holds (Q : Fin 512 → Fin 128 → ℝ) (K V : ℕ → Fin 128 → ℝ) (D lo : ℕ) (s : St Ideal) : Prop where
  rem : ∀ r l, s.1 (ix2 r l) = ((∑ j ∈ Finset.Ico lo (D + r.val % 256), lf (score Q K r j) : ℝ) : EReal)
  acc : ∀ t l, s.2 (ix2 t l) = ((∑ j ∈ Finset.Ico lo (D + t.val), wgt (score Q K (rowOf t l)) (D + t.val) j * V j l : ℝ) : EReal)

include hq hk hv in
/-- One trip takes in one more block of keys. -/
theorem trip_holds (D : ℕ) (hD : B + 256 ≤ D) (s : St Ideal) (h : Holds Q K V D (B + 256) s) :
    Holds Q K V D B (trip q (k1_pay25 (F := Ideal)) lanes kb vb s) where
  rem r l := by
    show k1_pay4 (F := Ideal) _ _ _ _ = _
    pointwise [k1_pay4]
    rw [h.rem, pay10 q kb Q K B hq hk, pay11 q kb Q K B hq hk, ← EReal.coe_add, ← EReal.coe_add]
    exact congrArg _ (rem_step (fun j => lf (score Q K r j)) B (B + 256) (D + r.val % 256) (by omega) (by omega))
  acc t l := by
    show k1_pay3 (F := Ideal) _ _ _ _ _ _ = _
    pointwise [k1_pay3, lanes]
    rw [pay13 q kb vb Q K V B hq hk hv, pay14 q kb vb Q K V B hq hk hv, h.acc, cmpi_slt_ofNat (b := 64) (by omega) (by omega), select_ofBool]
    refine Eq.trans ?_ (congrArg _ (acc_step (score Q K (rowOf t l)) (fun j => V j l) B 256 (D + t.val) (by omega)))
    rw [EReal.coe_add, EReal.coe_mul]
    refine congrArg (_ + ·) ?_
    have hp : ∀ r : Fin 512, r.val % 256 = t.val → k1_pay15 (F := Ideal) s.1 (ix2 r l)
        = (((2 : ℝ) ^ (∑ j ∈ Finset.Ico (B + 256) (D + t.val), lf (score Q K r j)) : ℝ) : EReal) := by
      intro r hr
      pointwise [k1_pay15]
      rw [h.rem, hr]
      exact Ideal.exp2_coe _
    by_cases hl : l.val < 64
    · simp only [hl, decide_true, if_true, rowOf]
      rw [hp _ (by dsimp only; omega)]
      rfl
    · simp only [hl, decide_false, if_false, rowOf, Bool.false_eq_true]
      rw [hp _ (by dsimp only; omega)]
      rfl

end

end Cert.KernelIdeal.Stick
end
-- ==== Proof.StickSum.lean ====
module

public import proofs.«01_k».proof.Proof.StickPay
public import Idealize.ShloMosaic.Lib.Pipeline.ValueKit.Tiles

/-!
# One block of queries, as a sum over its earlier keys

`block_apply`: on real queries, keys and values the output block of a grid point is, at query `t` and lane `l`, the
sum over every earlier key of its stick-breaking weight times the key's value.
-/

@[expose] public section

set_option maxRecDepth 16384

noncomputable section

open Idealize.ShloMosaic Idealize.ShloMosaic.TcCoe Idealize.SL.Sem Idealize.ShloMosaic.WordCmp

namespace Cert.KernelIdeal.Stick

open Cert.KernelIdeal Cert.KernelIdeal.Gen Cert.Stick

section
variable (q : FVec Ideal S512x128 .bf16) (kb vb : Vec Ideal S1x256x128 .bf16) (Q : Fin 512 → Fin 128 → ℝ) (K V : ℕ → Fin 128 → ℝ) (B : ℕ)

variable (hq : ∀ r d, q (ix2 r d) = ((Q r d : ℝ) : EReal)) (hk : ∀ (s : Fin 256) d, kb (ix3 0 s d) = ((K (B + s.val) d : ℝ) : EReal))
  (hv : ∀ (s : Fin 256) d, vb (ix3 0 s d) = ((V (B + s.val) d : ℝ) : EReal))

/-- The mask of the diagonal block: a key before the row's query. -/
theorem mask (r : Fin 512) (s : Fin 256) : k1_pay32 (ix2 r s) = BitVec.ofBool (decide (s.val < r.val % 256)) := by
  pointwise [k1_pay32]
  have h : Scalar.select (IntOp.cmpi .sge (BitVec.ofNat 32 r.val) 256#32) (IntOp.subi (BitVec.ofNat 32 r.val) 256#32) (BitVec.ofNat 32 r.val)
      = BitVec.ofNat 32 (r.val % 256) := by
    revert r; decide +kernel
  rw [h, cmpi_slt_ofNat (by omega) (by omega)]

include hq hk in
theorem pay30 (r : Fin 512) (s : Fin 256) : k1_pay30 (F := Ideal) q (k1_pay28 kb) zc (ix2 r s) = ((score Q K r (B + s.val) : ℝ) : EReal) := by
  pointwise [k1_pay30, k1_pay28, zc]
  rw [score, coe_sum]
  refine Finset.sum_congr rfl fun d _ => ?_
  rw [hq, hk, EReal.coe_mul]

include hq hk in
theorem pay31 (r : Fin 512) (s : Fin 256) : k1_pay31 (F := Ideal) q (k1_pay28 kb) zc (ix2 r s) = ((lf (score Q K r (B + s.val)) : ℝ) : EReal) := by
  pointwise [k1_pay31]
  rw [pay30 q kb Q K B hq hk, log2e, lf_coe]

include hq hk in
theorem pay33 (r : Fin 512) (s : Fin 256) : k1_pay33 (F := Ideal) q (k1_pay28 kb) zc (ix2 r s)
    = ((if s.val < r.val % 256 then lf (score Q K r (B + s.val)) else 0 : ℝ) : EReal) := by
  pointwise [k1_pay33]
  rw [pay31 q kb Q K B hq hk, mask, select_ofBool]
  by_cases h : s.val < r.val % 256
  · simp only [h, decide_true, if_true]
  · simp only [h, decide_false, if_false, EReal.coe_zero, Bool.false_eq_true]

include hq hk in
theorem pay34 (r : Fin 512) (s : Fin 256) : k1_pay34 (F := Ideal) q (k1_pay25 (F := Ideal)) (k1_pay28 kb) zc (ix2 r s)
    = ((∑ j ∈ Finset.Ico (B + (s.val + 1)) (B + r.val % 256), lf (score Q K r j) : ℝ) : EReal) := by
  pointwise [k1_pay34]
  rw [← sum_tail (fun j => lf (score Q K r j)) B (r.val % 256) s.val 256 (by omega), coe_sum,
    ← add_zero (∑ x : Fin 256, (((if x.val < r.val % 256 then lf (score Q K r (B + x.val)) else 0) * (if s.val < x.val then (1 : ℝ) else 0) : ℝ) : EReal))]
  refine congrArg₂ (· + ·) (Finset.sum_congr rfl fun x _ => ?_) (Finset.sum_eq_zero fun x _ => ?_)
  · rw [pay33 q kb Q K B hq hk, tri, EReal.coe_mul]
  · rw [pay33 q kb Q K B hq hk, ← EReal.coe_sub, sub_self, EReal.coe_zero, zero_mul]

include hq hk in
theorem pay35 (r : Fin 512) (s : Fin 256) : k1_pay35 (F := Ideal) q (k1_pay25 (F := Ideal)) (k1_pay28 kb) zc (ix2 r s)
    = ((if s.val < r.val % 256 then wgt (score Q K r) (B + r.val % 256) (B + s.val) else 0 : ℝ) : EReal) := by
  pointwise [k1_pay35]
  rw [pay30 q kb Q K B hq hk, pay31 q kb Q K B hq hk, pay34 q kb Q K B hq hk, mask, select_ofBool]
  by_cases h : s.val < r.val % 256
  · simp only [h, decide_true, if_true]
    rw [← EReal.coe_sub, ← EReal.coe_add]
    exact Ideal.exp2_coe _
  · simp only [h, decide_false, if_false, EReal.coe_zero, Bool.false_eq_true]

include hq hk hv in
theorem pay36 (t : Fin 256) (l : Fin 128) : k1_pay36 (F := Ideal) q (k1_pay25 (F := Ideal)) (k1_pay28 kb) (k1_pay29 vb) zc (ix2 t l)
    = ((∑ j ∈ Finset.Ico B (B + t.val), wgt (score Q K ⟨t.val, by omega⟩) (B + t.val) j * V j l : ℝ) : EReal) := by
  pointwise [k1_pay36, k1_pay29]
  rw [← sum_block (fun j => wgt (score Q K ⟨t.val, by omega⟩) (B + t.val) j * V j l) B t.val 256 (by omega), coe_sum]
  refine Finset.sum_congr rfl fun x _ => ?_
  rw [hv]
  refine (congrArg (· * _) (pay35 q kb Q K B hq hk ⟨t.val, by omega⟩ x)).trans ?_
  rw [← EReal.coe_mul, ite_mul, zero_mul, Nat.mod_eq_of_lt t.isLt]

include hq hk hv in
theorem pay37 (t : Fin 256) (l : Fin 128) : k1_pay37 (F := Ideal) q (k1_pay25 (F := Ideal)) (k1_pay28 kb) (k1_pay29 vb) zc (ix2 t l)
    = ((∑ j ∈ Finset.Ico B (B + t.val), wgt (score Q K ⟨256 + t.val, by omega⟩) (B + t.val) j * V j l : ℝ) : EReal) := by
  pointwise [k1_pay37, k1_pay29]
  rw [← sum_block (fun j => wgt (score Q K ⟨256 + t.val, by omega⟩) (B + t.val) j * V j l) B t.val 256 (by omega), coe_sum]
  refine Finset.sum_congr rfl fun x _ => ?_
  rw [hv]
  refine (congrArg (· * _) (pay35 q kb Q K B hq hk ⟨256 + t.val, by omega⟩ x)).trans ?_
  have e : (256 + t.val) % 256 = t.val := by omega
  rw [← EReal.coe_mul, ite_mul, zero_mul]
  simp only [e]

include hq hk hv in
/-- The diagonal block leaves the keys of the queries' own block taken in. -/
theorem diag_holds : Holds Q K V B B (diag q (k1_pay25 (F := Ideal)) lanes kb vb) where
  rem r l := by
    show k1_pay2 (F := Ideal) _ _ _ _ = _
    pointwise [k1_pay2, k1_pay26]
    rw [pay33 q kb Q K B hq hk, pay34 q kb Q K B hq hk, ← EReal.coe_add]
    refine congrArg _ ?_
    by_cases h : 0 < r.val % 256
    · have h0 : ((0 : Fin 256).val) < r.val % 256 := h
      rw [if_pos h0, add_comm]
      exact (Finset.sum_eq_sum_Ico_succ_bot (by omega : B < B + r.val % 256) (fun j => lf (score Q K r j))).symm
    · have h0 : ¬ ((0 : Fin 256).val) < r.val % 256 := h
      rw [if_neg h0, add_zero, Finset.Ico_eq_empty (by omega), Finset.Ico_eq_empty (by omega)]
  acc t l := by
    show k1_pay1 (F := Ideal) _ _ _ _ _ _ _ = _
    have hp : ∀ r : Fin 512, k1_pay38 (F := Ideal) (k1_pay26 (F := Ideal)) (ix2 r l) = 1 := by
      intro r
      pointwise [k1_pay38, k1_pay26]
      exact (Ideal.exp2_coe 0).trans (by rw [show Real.rpow 2 0 = 1 from Real.rpow_zero 2, EReal.coe_one])
    pointwise [k1_pay1, lanes, k1_pay27]
    rw [pay36 q kb vb Q K V B hq hk hv, pay37 q kb vb Q K V B hq hk hv, cmpi_slt_ofNat (b := 64) (by omega) (by omega), select_ofBool, hp, hp]
    by_cases hl : l.val < 64
    · simp only [hl, decide_true, if_true, rowOf, one_mul]
    · simp only [hl, decide_false, if_false, rowOf, Bool.false_eq_true, one_mul]

end

/-- The diagonal block's rows start at the queries' own block. -/
theorem off1 (i : grid1.Coords) : k1_off1 i = ![0, 256 * (i 2).val, 0] := by
  have h : ∀ a : Fin 16, (Scalar.indexCast (Scalar.muli (BitVec.ofNat 32 a.val) 256#32) : Index).toNat = 256 * a.val := by decide +kernel
  show ![0, _, 0] = _
  rw [h (i 2)]

/-- Trip `n` reads the `n`-th block before the queries' own. -/
theorem off2 (i : grid1.Coords) (n : Fin (k1_t1_loop i).trips) : k1_off2 i n = ![0, 256 * ((i 2).val - 1 - n.val), 0] := by
  have h : ∀ a b : Fin 16, b.val < a.val → (Scalar.indexCast (Scalar.muli (Scalar.subi (Scalar.subi (BitVec.ofNat 32 a.val) 1#32) (Scf.iv 0#32 1#32 b.val)) 256#32) : Index).toNat = 256 * (a.val - 1 - b.val) := by decide +kernel
  have hn : n.val < (i 2).val := (trips1 i) ▸ n.isLt
  have hi : (i 2).val < 16 := (i 2).isLt
  show ![0, _, 0] = _
  exact congrArg (fun z => ![0, z, 0]) (h (i 2) ⟨n.val, by omega⟩ hn)

section
variable (i : grid1.Coords) (x1 x2 : Vec Ideal S1x4096x128 .bf16) (q : FVec Ideal S512x128 .bf16)
  (Q : Fin 512 → Fin 128 → ℝ) (K V : ℕ → Fin 128 → ℝ)
  (hq : ∀ r d, q (ix2 r d) = ((Q r d : ℝ) : EReal))

theorem rowsAt_apply (x : Vec Ideal S1x4096x128 .bf16) (K : ℕ → Fin 128 → ℝ) (hk : ∀ (s : Fin 4096) d, x (ix3 0 s d) = ((K s.val d : ℝ) : EReal))
    (n : Fin (k1_t1_loop i).trips) (s : Fin 256) (d : Fin 128) :
    rowsAt x i n (ix3 0 s d) = ((K (256 * ((i 2).val - 1 - n.val) + s.val) d : ℝ) : EReal) := by
  have hi : (i 2).val < 16 := (i 2).isLt
  refine (View.ld_unit_apply_of _ _ _ _ _ (ix3 0 ⟨256 * ((i 2).val - 1 - n.val) + s.val, by omega⟩ d) ?_).trans (hk _ _)
  intro a
  refine Eq.trans ?_ (congrArg (· + _) (congrFun (off2 i n) a).symm)
  fin_cases a
  · rfl
  · rfl
  · exact (Nat.zero_add _).symm

theorem rowsDiag_apply (x : Vec Ideal S1x4096x128 .bf16) (K : ℕ → Fin 128 → ℝ) (hk : ∀ (s : Fin 4096) d, x (ix3 0 s d) = ((K s.val d : ℝ) : EReal))
    (s : Fin 256) (d : Fin 128) :
    rowsDiag x i (ix3 0 s d) = ((K (256 * (i 2).val + s.val) d : ℝ) : EReal) := by
  have hi : (i 2).val < 16 := (i 2).isLt
  refine (View.ld_unit_apply_of _ _ _ _ _ (ix3 0 ⟨256 * (i 2).val + s.val, by omega⟩ d) ?_).trans (hk _ _)
  intro a
  refine Eq.trans ?_ (congrArg (· + _) (congrFun (off1 i) a).symm)
  fin_cases a
  · rfl
  · rfl
  · exact (Nat.zero_add _).symm

variable (hk : ∀ (s : Fin 4096) d, x1 (ix3 0 s d) = ((K s.val d : ℝ) : EReal))
  (hv : ∀ (s : Fin 4096) d, x2 (ix3 0 s d) = ((V s.val d : ℝ) : EReal))

include hq hk hv in
/-- Before trip `n` the keys of the own block and of the `n` blocks before it are taken in. -/
theorem trips_holds (n : ℕ) (hn : n ≤ (i 2).val) :
    Holds Q K V (256 * (i 2).val) (256 * ((i 2).val - n))
      (trips i q (k1_pay25 (F := Ideal)) lanes x1 x2 (diag q (k1_pay25 (F := Ideal)) lanes (rowsDiag x1 i) (rowsDiag x2 i)) n) := by
  induction n with
  | zero => exact diag_holds q _ _ Q K V _ hq (rowsDiag_apply i x1 K hk) (rowsDiag_apply i x2 V hv)
  | succ n ih =>
    have h : n < (k1_t1_loop i).trips := by rw [trips1]; omega
    rw [trips, dif_pos h]
    have e : 256 * ((i 2).val - (n + 1)) = 256 * ((i 2).val - 1 - n) := by omega
    rw [e]
    refine trip_holds q _ _ Q K V _ hq (rowsAt_apply i x1 K hk ⟨n, h⟩) (rowsAt_apply i x2 V hv ⟨n, h⟩) _ (by omega) _ ?_
    rw [show 256 * ((i 2).val - 1 - n) + 256 = 256 * ((i 2).val - n) by omega]
    exact ih (by omega)

/-- The stacked queries: each head's lanes kept in its half of the rows. -/
def stack (Q : Fin 256 → Fin 128 → ℝ) (r : Fin 512) (d : Fin 128) : ℝ :=
  if r.val < 256 then (if d.val < 64 then Q ⟨r.val % 256, by omega⟩ d else 0) else (if 64 ≤ d.val then Q ⟨r.val % 256, by omega⟩ d else 0)

theorem pay24 (x0 : Vec Ideal S1x256x128 .bf16) (Q : Fin 256 → Fin 128 → ℝ) (h0 : ∀ t d, x0 (ix3 0 t d) = ((Q t d : ℝ) : EReal))
    (r : Fin 512) (d : Fin 128) : k1_pay24 (F := Ideal) x0 (ix2 r d) = ((stack Q r d : ℝ) : EReal) := by
  pointwise [k1_pay24]
  unfold stack
  rw [cmpi_slt_ofNat (b := 64) (by omega) (by omega), cmpi_sge_ofNat (b := 64) (by omega) (by omega)]
  by_cases h : r.val < 256
  · rw [dif_pos h, if_pos h, h0, select_ofBool]
    by_cases hd : d.val < 64
    · simp only [hd, decide_true, if_true, Nat.mod_eq_of_lt h]
    · simp only [hd, decide_false, if_false, EReal.coe_zero, Bool.false_eq_true]
  · have e : r.val % 256 = r.val - 256 := by omega
    rw [dif_neg h, if_neg h, h0, select_ofBool]
    by_cases hd : 64 ≤ d.val
    · simp only [hd, decide_true, if_true, e]
    · simp only [hd, decide_false, if_false, EReal.coe_zero, Bool.false_eq_true]

/-- The score of query `t` against key `s` in the head that lane `l` belongs to. -/
def headScore (Q : Fin 256 → Fin 128 → ℝ) (K : ℕ → Fin 128 → ℝ) (t : Fin 256) (l : Fin 128) (s : ℕ) : ℝ :=
  ∑ d : Fin 128, if (d.val < 64 ↔ l.val < 64) then Q t d * K s d else 0

theorem score_stack (Q : Fin 256 → Fin 128 → ℝ) (K : ℕ → Fin 128 → ℝ) (t : Fin 256) (l : Fin 128) :
    score (stack Q) K (rowOf t l) = headScore Q K t l := by
  funext s
  refine Finset.sum_congr rfl fun d _ => ?_
  unfold stack rowOf
  have e : (256 + t.val) % 256 = t.val := by omega
  by_cases hl : l.val < 64 <;> by_cases hd : d.val < 64 <;>
    simp [hl, hd, Nat.mod_eq_of_lt t.isLt, t.isLt, e]

include hk hv in
/-- The output block of a grid point at query `t` and lane `l`: the values of all earlier keys under their weights. -/
theorem block_apply (x0 : Vec Ideal S1x256x128 .bf16) (Q : Fin 256 → Fin 128 → ℝ) (h0 : ∀ t d, x0 (ix3 0 t d) = ((Q t d : ℝ) : EReal))
    (t : Fin 256) (l : Fin 128) :
    k1_pay7 (trips i (k1_pay24 x0) k1_pay25 lanes x1 x2 (diag (k1_pay24 x0) k1_pay25 lanes (rowsDiag x1 i) (rowsDiag x2 i)) (i 2).val).2 (ix3 0 t l)
      = ((∑ j ∈ Finset.range (256 * (i 2).val + t.val), wgt (headScore Q K t l) (256 * (i 2).val + t.val) j * V j l : ℝ) : EReal) := by
  pointwise [k1_pay7]
  rw [(trips_holds i x1 x2 (k1_pay24 x0) (stack Q) K V (pay24 x0 Q h0) hk hv (i 2).val le_rfl).acc, score_stack, Nat.sub_self, Nat.mul_zero,
    Finset.range_eq_Ico]

end

end Cert.KernelIdeal.Stick
-- ==== Proof.StickRegion.lean ====
module

public import proofs.«01_k».proof.Proof.StickSum
public import Idealize.ShloMosaic.Lib.Pipeline.ValueKit.Geometry
public import Idealize.ShloMosaic.Lib.Pipeline.ValueKit.Acc
public import Idealize.ShloMosaic.Lib.Pipeline.ValueKit.Point

/-!
# The arrays the two calls leave

`final_q`, `final_k`, `final_v`: the projections.  `final_o`: the attention's result.
-/

@[expose] public section

set_option maxRecDepth 16384

noncomputable section

open Idealize.ShloMosaic Idealize.ShloMosaic.TcCoe Idealize.SL.Sem Idealize.ShloMosaic.WordCmp
open Idealize.ShloMosaic.Pipeline (Dat)

namespace Cert.KernelIdeal.Stick

open Cert.KernelIdeal Cert.KernelIdeal.Gen Cert.Stick

variable (V : (c : Dev nD) → (b : Ref sig .tc) → Buf (Elt Ideal) ((c : Thread nD τ).loc b))

/-- Rows times a matrix. -/
def proj (X : Vec Ideal S32768x1024 .f32) (W : Vec Ideal S1024x1024 .bf16) (i : Fin 32768) (j : Fin 1024) : EReal :=
  ∑ d : Fin 1024, X (ix2 i d) * W (ix2 d j)

theorem ix_t0 (t : Fin cfg0.N) : win0_0.index t = ![t.val, 0] := (by decide +kernel : ∀ t : Fin grid0.N, win0_0.index t = ![t.val, 0]) t
theorem ix_w1 (t : Fin cfg0.N) : win0_1.index t = ![0, 0] := (by decide +kernel : ∀ t : Fin grid0.N, win0_1.index t = ![0, 0]) t
theorem ix_w2 (t : Fin cfg0.N) : win0_2.index t = ![0, 0] := (by decide +kernel : ∀ t : Fin grid0.N, win0_2.index t = ![0, 0]) t
theorem ix_w3 (t : Fin cfg0.N) : win0_3.index t = ![0, 0] := (by decide +kernel : ∀ t : Fin grid0.N, win0_3.index t = ![0, 0]) t
theorem ix_t4 (t : Fin cfg0.N) : win0_4.index t = ![t.val, 0] := (by decide +kernel : ∀ t : Fin grid0.N, win0_4.index t = ![t.val, 0]) t
theorem ix_t5 (t : Fin cfg0.N) : win0_5.index t = ![t.val, 0] := (by decide +kernel : ∀ t : Fin grid0.N, win0_5.index t = ![t.val, 0]) t
theorem ix_t6 (t : Fin cfg0.N) : win0_6.index t = ![t.val, 0] := (by decide +kernel : ∀ t : Fin grid0.N, win0_6.index t = ![t.val, 0]) t

/-- The named scale of the queries. -/
theorem scale : Named.named (F := Ideal) Cert.KernelIdeal.κ "neg_scale_log2e" (φ := .f32) 0xBE38AA3B#32 = ((-((1/8) * (Real.log 2)⁻¹) : ℝ) : EReal) :=
  IdealRules.named_const.ideal_named_scalar _ _ _ _ rfl

/-- The first call leaves the scaled query projection in its first output, -/
theorem final_q (c : Dev nD) : (dat0 (F := Ideal) V c).arrAt 4 cfg0.N = fun j => proj (V c main_v0) (V c main_v4) (j 0) (j 1) * ((-((1/8) * (Real.log 2)⁻¹) : ℝ) : EReal) := by
  refine (dat0 V c).arrAt_eq_of_covers 4 _ (by decide +kernel) fun t hf y => ?_
  blk_simp
  rw [after0_4]; frame_out
  idx_vars y
  pointwise [k0_pay2, k0_pay1]
  rw [scale]
  refine congrArg (· * _) ?_
  refine Finset.sum_congr rfl fun x _ => congrArg₂ (· * ·) ?_ ?_
  · blk_simp [iblk0]
    exact congrArg (V c main_v0) (by blk_ext [ix_t0, ix_t4])
  · blk_simp [iblk0]
    exact congrArg (V c main_v4) (by blk_ext [ix_w1, ix_t4])

/-- the key projection in its second, -/
theorem final_k (c : Dev nD) : (dat0 (F := Ideal) V c).arrAt 5 cfg0.N = fun j => proj (V c main_v0) (V c main_v5) (j 0) (j 1) := by
  refine (dat0 V c).arrAt_eq_of_covers 5 _ (by decide +kernel) fun t hf y => ?_
  blk_simp
  rw [after0_5]; frame_out
  idx_vars y
  pointwise [k0_pay3, k0_pay1]
  show @Eq EReal _ _
  refine Finset.sum_congr rfl fun x _ => congrArg₂ (· * ·) ?_ ?_
  · blk_simp [iblk0]
    exact congrArg (V c main_v0) (by blk_ext [ix_t0, ix_t5])
  · blk_simp [iblk0]
    exact congrArg (V c main_v5) (by blk_ext [ix_w2, ix_t5])

/-- and the value projection in its third. -/
theorem final_v (c : Dev nD) : (dat0 (F := Ideal) V c).arrAt 6 cfg0.N = fun j => proj (V c main_v0) (V c main_v6) (j 0) (j 1) := by
  refine (dat0 V c).arrAt_eq_of_covers 6 _ (by decide +kernel) fun t hf y => ?_
  blk_simp
  rw [after0_6]; frame_out
  idx_vars y
  pointwise [k0_pay4, k0_pay1]
  show @Eq EReal _ _
  refine Finset.sum_congr rfl fun x _ => congrArg₂ (· * ·) ?_ ?_
  · blk_simp [iblk0]
    exact congrArg (V c main_v0) (by blk_ext [ix_t0, ix_t6])
  · blk_simp [iblk0]
    exact congrArg (V c main_v6) (by blk_ext [ix_w3, ix_t6])

/-- A grid point's batch, head pair and query block. -/
theorem coords1 (t : Fin cfg1.N) : (grid1.coords t 0).val = t.val / 128 ∧ (grid1.coords t 1).val = t.val / 16 % 8 ∧ (grid1.coords t 2).val = t.val % 16 :=
  (by decide +kernel : ∀ t : Fin grid1.N, (grid1.coords t 0).val = t.val / 128 ∧ (grid1.coords t 1).val = t.val / 16 % 8 ∧ (grid1.coords t 2).val = t.val % 16) t
theorem ix1_0 (t : Fin cfg1.N) : win1_0.index t = ![t.val / 128, t.val % 16, t.val / 16 % 8] :=
  (by decide +kernel : ∀ t : Fin grid1.N, win1_0.index t = ![t.val / 128, t.val % 16, t.val / 16 % 8]) t
theorem ix1_1 (t : Fin cfg1.N) : win1_1.index t = ![t.val / 128, 0, t.val / 16 % 8] :=
  (by decide +kernel : ∀ t : Fin grid1.N, win1_1.index t = ![t.val / 128, 0, t.val / 16 % 8]) t
theorem ix1_2 (t : Fin cfg1.N) : win1_2.index t = ![t.val / 128, 0, t.val / 16 % 8] :=
  (by decide +kernel : ∀ t : Fin grid1.N, win1_2.index t = ![t.val / 128, 0, t.val / 16 % 8]) t
theorem ix1_3 (t : Fin cfg1.N) : win1_3.index t = ![t.val / 128, t.val % 16, t.val / 16 % 8] :=
  (by decide +kernel : ∀ t : Fin grid1.N, win1_3.index t = ![t.val / 128, t.val % 16, t.val / 16 % 8]) t

/-- Batch `b`'s score of query `t` against key `s` in the head of column `h` (sixty-four columns a head). -/
def hsc (Q K : ℕ → ℕ → ℕ → ℝ) (b t h s : ℕ) : ℝ := ∑ e : Fin 64, Q b t (64 * (h / 64) + e.val) * K b s (64 * (h / 64) + e.val)

/-- The pair's masked sum over its lanes is the head's sum over its columns. -/
theorem headScore_eq (Q : Fin 256 → Fin 128 → ℝ) (K : ℕ → Fin 128 → ℝ) (f : ℕ → ℝ) (t : Fin 256) (l : Fin 128) (s p : ℕ)
    (hf : ∀ d : Fin 128, Q t d * K s d = f (128 * p + d.val)) :
    headScore Q K t l s = ∑ e : Fin 64, f (64 * ((128 * p + l.val) / 64) + e.val) := by
  unfold headScore
  simp only [hf]
  rw [Fin.sum_univ_eq_sum_range (fun d => if (d < 64 ↔ l.val < 64) then f (128 * p + d) else 0) 128,
    Fin.sum_univ_eq_sum_range (fun e => f (64 * ((128 * p + l.val) / 64) + e)) 64, Finset.range_eq_Ico,
    ← Finset.sum_Ico_consecutive _ (by omega : 0 ≤ 64) (by omega : 64 ≤ 128)]
  by_cases hl : l.val < 64
  · have e0 : 64 * ((128 * p + l.val) / 64) = 128 * p := by omega
    rw [e0, Finset.sum_eq_zero (s := Finset.Ico 64 128), add_zero, Finset.range_eq_Ico]
    · refine Finset.sum_congr rfl fun d hd => ?_
      rw [if_pos (by simp only [Finset.mem_Ico] at hd; simp [hl, hd.2])]
    · intro d hd
      rw [if_neg (by simp only [Finset.mem_Ico] at hd; simp [hl, hd.1])]
  · have e0 : 64 * ((128 * p + l.val) / 64) = 128 * p + 64 := by omega
    rw [e0, Finset.sum_eq_zero (s := Finset.Ico 0 64), zero_add, Finset.range_eq_Ico]
    · refine (Finset.sum_congr rfl fun d hd => ?_).trans (Finset.sum_Ico_add (fun d => f (128 * p + d)) 0 64 64).symm |>.trans ?_
      · rw [if_pos (by simp only [Finset.mem_Ico] at hd; simp [hl]; omega)]
      · exact Finset.sum_congr rfl fun d _ => by rw [Nat.add_assoc]
    · intro d hd
      rw [if_neg (by simp only [Finset.mem_Ico] at hd; simp [hl, hd.2])]

/-- The second call leaves in its output, for each batch, query and column, the values of all earlier keys under
    their stick-breaking weights. -/
theorem final_o (c : Dev nD) (Q K U : ℕ → ℕ → ℕ → ℝ)
    (hq : ∀ (b : Fin 8) (t : Fin 4096) (h : Fin 1024), V c main_v8 (ix3 b t h) = ((Q b.val t.val h.val : ℝ) : EReal))
    (hk : ∀ (b : Fin 8) (t : Fin 4096) (h : Fin 1024), V c main_v9 (ix3 b t h) = ((K b.val t.val h.val : ℝ) : EReal))
    (hv : ∀ (b : Fin 8) (t : Fin 4096) (h : Fin 1024), V c main_v10 (ix3 b t h) = ((U b.val t.val h.val : ℝ) : EReal)) :
    (dat1 (F := Ideal) V c).arrAt 3 cfg1.N = fun j =>
      ((∑ s ∈ Finset.range (j 1).val, wgt (hsc Q K (j 0).val (j 1).val (j 2).val) (j 1).val s * U (j 0).val s (j 2).val : ℝ) : EReal) := by
  refine (dat1 V c).arrAt_eq_of_covers 3 _ (by decide +kernel) fun t hf y => ?_
  blk_simp
  rw [after1_3, outsAt1, out_eq]
  obtain ⟨h0, h1, h2⟩ := coords1 t
  have ht : t.val < 1024 := t.isLt
  idx_vars y
  obtain rfl : y0 = 0 := Subsingleton.elim _ _
  rw [block_apply (grid1.coords t) (iblk1 V c 1 t) (iblk1 V c 2 t)
    (fun s l => K (t.val / 128) s (128 * (t.val / 16 % 8) + l.val)) (fun s l => U (t.val / 128) s (128 * (t.val / 16 % 8) + l.val))
    (by
      intro s d
      blk_simp [iblk1]
      refine (congrArg (V c main_v9) (?_ : _ = ix3 ⟨t.val / 128, by omega⟩ s ⟨128 * (t.val / 16 % 8) + d.val, by omega⟩)).trans (hk _ _ _)
      blk_ext [ix1_1])
    (by
      intro s d
      blk_simp [iblk1]
      refine (congrArg (V c main_v10) (?_ : _ = ix3 ⟨t.val / 128, by omega⟩ s ⟨128 * (t.val / 16 % 8) + d.val, by omega⟩)).trans (hv _ _ _)
      blk_ext [ix1_2])
    (iblk1 V c 0 t) (fun r l => Q (t.val / 128) (256 * (t.val % 16) + r.val) (128 * (t.val / 16 % 8) + l.val))
    (by
      intro r d
      blk_simp [iblk1]
      refine (congrArg (V c main_v8) (?_ : _ = ix3 ⟨t.val / 128, by omega⟩ ⟨256 * (t.val % 16) + r.val, by omega⟩ ⟨128 * (t.val / 16 % 8) + d.val, by omega⟩)).trans (hq _ _ _)
      blk_ext [ix1_0])]
  rw [ix1_3, h2]
  show ((_ : ℝ) : EReal) = ((_ : ℝ) : EReal)
  refine congrArg _ ?_
  show _ = ∑ x ∈ Finset.range (t.val % 16 * 256 + y1.val), wgt (hsc Q K (t.val / 128) (t.val % 16 * 256 + y1.val) (t.val / 16 % 8 * 128 + y2.val)) (t.val % 16 * 256 + y1.val) x * U (t.val / 128) x (t.val / 16 % 8 * 128 + y2.val)
  rw [Nat.mul_comm (t.val % 16) 256, Nat.mul_comm (t.val / 16 % 8) 128]
  refine Finset.sum_congr rfl fun x _ => congrArg (· * _) (congrArg (wgt · _ _) (funext fun s => ?_))
  exact headScore_eq _ _ (fun h => Q (t.val / 128) (256 * (t.val % 16) + y1.val) h * K (t.val / 128) s h) y1 y2 s (t.val / 16 % 8) (fun d => rfl)

end Cert.KernelIdeal.Stick
-- ==== Proof.StickRun.lean ====
module

public import proofs.«01_k».proof.Proof.StickRegion
public import Idealize.ShloMosaic.Lib.StableHlo.ReadAt

/-!
# The joined program's result

`result_eq`: on real arguments the result of the two calls, each read through the host's reshapes, at every batch,
query and column.  `run`: every execution ends with that array and the arguments as launched.
-/

@[expose] public section

set_option maxRecDepth 16384

noncomputable section

open Idealize.ShloMosaic Idealize.ShloMosaic.TcCoe Idealize.ShloMosaic.Tactic Idealize.ShloMosaic.WordCmp
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.KernelIdeal.Stick

open Cert.KernelIdeal Cert.KernelIdeal.Gen Cert.Stick

section
variable (m : (ℓ : Loc nD τ sig) → Buf (Elt Ideal) ℓ) (ρ : Dev nD → PrngReg) (c : Dev nD)

theorem v0_at (i : Fin 32768) (j : Fin 1024) : V1 m ρ c main_v0 (ix2 i j) = m ((c : Thread nD τ).loc main_arg0) (ix3 ⟨i.val / 4096, by omega⟩ ⟨i.val % 4096, by omega⟩ j) := by
  show StableHlo.after hostOps0 _ _ _ = _
  after_reads_at
theorem v4_at (i j : Fin 1024) : V1 m ρ c main_v4 (ix2 i j) = m ((c : Thread nD τ).loc main_arg1) (ix3 0 i j) := by
  show StableHlo.after hostOps0 _ _ _ = _
  after_reads_at
theorem v5_at (i j : Fin 1024) : V1 m ρ c main_v5 (ix2 i j) = m ((c : Thread nD τ).loc main_arg2) (ix3 0 i j) := by
  show StableHlo.after hostOps0 _ _ _ = _
  after_reads_at
theorem v6_at (i j : Fin 1024) : V1 m ρ c main_v6 (ix2 i j) = m ((c : Thread nD τ).loc main_arg3) (ix3 0 i j) := by
  show StableHlo.after hostOps0 _ _ _ = _
  after_reads_at
theorem v8_at (b : Fin 8) (t : Fin 4096) (h : Fin 1024) : V3 m ρ c main_v8 (ix3 b t h) = W2 m ρ c (Proc.devRef .tc main_v7_0) (ix2 ⟨b.val * 4096 + t.val, by omega⟩ h) := by
  show StableHlo.after hostOps1 _ _ _ = _
  after_reads_at
theorem v9_at (b : Fin 8) (t : Fin 4096) (h : Fin 1024) : V3 m ρ c main_v9 (ix3 b t h) = W2 m ρ c (Proc.devRef .tc main_v7_1) (ix2 ⟨b.val * 4096 + t.val, by omega⟩ h) := by
  show StableHlo.after hostOps1 _ _ _ = _
  after_reads_at
theorem v10_at (b : Fin 8) (t : Fin 4096) (h : Fin 1024) : V3 m ρ c main_v10 (ix3 b t h) = W2 m ρ c (Proc.devRef .tc main_v7_2) (ix2 ⟨b.val * 4096 + t.val, by omega⟩ h) := by
  show StableHlo.after hostOps1 _ _ _ = _
  after_reads_at

variable (x : ℕ → ℕ → ℕ → ℝ) (wq wk wv : ℕ → ℕ → ℝ)
  (hx : ∀ (b : Fin 8) (t : Fin 4096) (d : Fin 1024), m ((c : Thread nD τ).loc main_arg0) (ix3 b t d) = ((x b.val t.val d.val : ℝ) : EReal))
  (hwq : ∀ (d h : Fin 1024), m ((c : Thread nD τ).loc main_arg1) (ix3 0 d h) = ((wq d.val h.val : ℝ) : EReal))
  (hwk : ∀ (d h : Fin 1024), m ((c : Thread nD τ).loc main_arg2) (ix3 0 d h) = ((wk d.val h.val : ℝ) : EReal))
  (hwv : ∀ (d h : Fin 1024), m ((c : Thread nD τ).loc main_arg3) (ix3 0 d h) = ((wv d.val h.val : ℝ) : EReal))

/-- A projection's entry: row `t` of batch `b` against column `h`. -/
def pr (x : ℕ → ℕ → ℕ → ℝ) (w : ℕ → ℕ → ℝ) (b t h : ℕ) : ℝ := ∑ d : Fin 1024, x b t d.val * w d.val h

/-- The scale of the queries, with the change of the base of the logarithm in it. -/
def scl : ℝ := -((1/8) * (Real.log 2)⁻¹)

include hx in
theorem proj_at (W : Vec Ideal S1024x1024 .bf16) (w : ℕ → ℕ → ℝ) (hw : ∀ d h : Fin 1024, W (ix2 d h) = ((w d.val h.val : ℝ) : EReal))
    (b : Fin 8) (t : Fin 4096) (h : Fin 1024) :
    proj (V1 m ρ c main_v0) W ⟨b.val * 4096 + t.val, by omega⟩ h = ((pr x w b.val t.val h.val : ℝ) : EReal) := by
  rw [proj, pr, coe_sum]
  refine Finset.sum_congr rfl fun d _ => ?_
  rw [hw, v0_at, EReal.coe_mul]
  refine congrArg (· * _) ((congrArg (m ((c : Thread nD τ).loc main_arg0)) ?_).trans (hx b t d))
  have e1 : (b.val * 4096 + t.val) / 4096 = b.val := by omega
  have e2 : (b.val * 4096 + t.val) % 4096 = t.val := by omega
  simp only [e1, e2, Fin.eta]

/-- The result, entry by entry. -/
def out (x : ℕ → ℕ → ℕ → ℝ) (wq wk wv : ℕ → ℕ → ℝ) (b t h : ℕ) : ℝ :=
  ∑ s ∈ Finset.range t, wgt (hsc (fun b t h => pr x wq b t h * scl) (pr x wk) b t h) t s * pr x wv b s h

include hx hwq hwk hwv in
/-- The program's result on real arguments. -/
theorem result_eq : W4 m ρ c (Proc.devRef .tc main_v11) = fun j => ((out x wq wk wv (j 0).val (j 1).val (j 2).val : ℝ) : EReal) := by
  refine (W4_arr m ρ c 3).trans (final_o (V3 m ρ) c _ _ _ ?_ ?_ ?_)
  · intro b t h
    rw [v8_at]
    refine (congrFun ((W2_arr m ρ c 4).trans (final_q (V1 m ρ) c)) _).trans ?_
    refine (congrArg (· * _) (proj_at m ρ c x hx _ wq (fun d h => (v4_at m ρ c d h).trans (hwq d h)) b t h)).trans (EReal.coe_mul _ _).symm
  · intro b t h
    rw [v9_at]
    refine (congrFun ((W2_arr m ρ c 5).trans (final_k (V1 m ρ) c)) _).trans ?_
    exact proj_at m ρ c x hx _ wk (fun d h => (v5_at m ρ c d h).trans (hwk d h)) b t h
  · intro b t h
    rw [v10_at]
    refine (congrFun ((W2_arr m ρ c 6).trans (final_v (V1 m ρ) c)) _).trans ?_
    exact proj_at m ρ c x hx _ wv (fun d h => (v6_at m ρ c d h).trans (hwv d h)) b t h

end

section
variable {F : FTy → Type} [FloatOps F] [Named F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- Every execution ends with the result array at the last boundary's contents and the arguments as launched. -/
theorem run : θ_run defs (onTc (τ := τ) (main (F := F))) ⟨m, fun _ => 0, ρ⟩ (fun r => ∀ c : Dev nD,
      r.2.mem ((c.tc : Thread nD τ).loc main_v11) = W4 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨h c _ (mem_uc main_v11 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end

end Cert.KernelIdeal.Stick
-- ==== Proof.StickSoft.lean ====
/-
  The reference's weights over the reals: `exp` of a softplus and of a sum of softplus values. They are the kernel's
  weights, which are powers of two of scores carrying the factor `- log2 e`.
-/
module

public import proofs.«01_k».proof.Proof.StickReal

@[expose] public section

noncomputable section

namespace Cert.Stick

open Finset

/-- The softplus `log (1 + exp r)`, as the reference computes it. -/
def sp (r : ℝ) : ℝ := max r 0 + Real.log (1 + Real.exp (-|r|))

/-- The kernel's failure logarithm at the scaled score is the reference's, up to the change of base. -/
theorem lf_scaled (x : ℝ) : Real.log 2 * lf (-x * (Real.log 2)⁻¹) = -(sp x) := by
  have hl : 0 < Real.log 2 := Real.log_pos (by norm_num)
  have hi : 0 < (Real.log 2)⁻¹ := inv_pos.mpr hl
  have h1 : Real.log 2 * min (-x * (Real.log 2)⁻¹) 0 = -(max x 0) := by
    rw [mul_min_of_nonneg _ _ hl.le, mul_zero, mul_comm (-x), ← mul_assoc, mul_inv_cancel₀ hl.ne', one_mul]
    rcases le_total x 0 with h | h
    · rw [max_eq_right h, min_eq_right (by linarith), neg_zero]
    · rw [max_eq_left h, min_eq_left (by linarith)]
  have h2 : (2 : ℝ) ^ (-|(-x) * (Real.log 2)⁻¹|) = Real.exp (-|x|) := by
    rw [Real.rpow_def_of_pos (by norm_num), abs_mul, abs_neg, abs_of_pos hi]
    congr 1
    field_simp
  rw [lf, mul_sub, h1, h2, sp]
  field_simp
  ring

/-- The success logarithm likewise. -/
theorem sp_neg (x : ℝ) : -(sp (-x)) = -(sp x) + x := by
  simp only [sp, abs_neg]
  rcases le_total x 0 with h | h
  · rw [max_eq_left (by linarith), max_eq_right h]; ring
  · rw [max_eq_right (by linarith : -x ≤ 0), max_eq_left h]; ring

/-- The kernel's weight is the reference's. -/
theorem wgt_eq (x : ℕ → ℝ) (t s : ℕ) :
    wgt (fun j => -(x j) * (Real.log 2)⁻¹) t s = Real.exp (-(sp (-(x s))) + ∑ j ∈ Ico (s + 1) t, -(sp (x j))) := by
  have hl : 0 < Real.log 2 := Real.log_pos (by norm_num)
  rw [wgt, Real.rpow_def_of_pos (by norm_num), mul_add, mul_sub, mul_sum]
  congr 1
  rw [sp_neg, lf_scaled]
  congr 1
  · field_simp; ring
  · exact sum_congr rfl fun j _ => lf_scaled (x j)

/-- A masked sum over the keys from `s` on is the sum over the keys from `s` below `t`. -/
theorem sum_masked (f : ℕ → ℝ) (n s t : ℕ) (ht : t ≤ n) :
    ∑ w : Fin n, (if s + w.val < n then (if s + w.val < t then f (s + w.val) else 0) else 0) = ∑ j ∈ Ico s t, f j := by
  rw [Fin.sum_univ_eq_sum_range (fun w => if s + w < n then (if s + w < t then f (s + w) else 0) else 0) n, Finset.sum_Ico_eq_sum_range,
    ← Finset.sum_filter_add_sum_filter_not (range n) (fun w => w < t - s)]
  rw [Finset.sum_eq_zero (s := (range n).filter fun w => ¬ w < t - s) fun w hw => ?_, add_zero]
  · refine Finset.sum_congr ?_ fun w hw => ?_
    · ext w; simp; omega
    · have : w < t - s := by simpa using hw
      rw [if_pos (by omega), if_pos (by omega)]
  · have : ¬ w < t - s := (Finset.mem_filter.mp hw).2
    rw [if_neg (by omega : ¬ s + w < t)]; simp

/-- From the keys from `s` on, taking key `s` away leaves the keys after it. -/
theorem sum_after (f : ℕ → ℝ) (s t : ℕ) (h : s < t) : ∑ j ∈ Ico s t, f j - f s = ∑ j ∈ Ico (s + 1) t, f j := by
  rw [Finset.sum_eq_sum_Ico_succ_bot h]; ring

end Cert.Stick
-- ==== Proof.StickRef.lean ====
/-
  The reference program read over the reals, stage by stage: the projections, the scaled scores, the mask, the softplus,
  the sum over the later keys, the weights and the weighted values.
-/
module

public import proofs.«01_k».proof.Proof.StickSoft
public import proofs.«01_k».proof.Proof.Gen.ReferenceIdeal.Run
public import Idealize.ShloMosaic.Lib.Pointwise
public import Idealize.ShloMosaic.Lib.WordCmp

@[expose] public section

set_option maxRecDepth 16384

noncomputable section

open Idealize.ShloMosaic Idealize.ShloMosaic.TcCoe Idealize.SL.Sem Idealize.ShloMosaic.WordCmp

namespace Cert.ReferenceIdeal.Stick

open Cert.ReferenceIdeal Cert.ReferenceIdeal.Gen Cert.Stick

/-- A projection of the tokens, its columns split into heads. -/
def proj (x0 : FVec Ideal S8x4096x1024 .f32) (w : FVec Ideal S1x1024x1024 .f32) : FVec Ideal S8x4096x16x64 .f32 :=
  shapeCast _ (Host.dotGeneral dot_S8x4096x1024_S1024x1024_S8x4096x1024_2_0_01_1_n_n none x0 (shapeCast _ w shapeCasts_S1x1024x1024_S1024x1024 : FVec Ideal S1024x1024 .f32)) shapeCasts_S8x4096x1024_S8x4096x16x64

/-- Zero, everywhere. -/
def O : FVec Ideal S8x16x4096x4096 .f32 := broadcastInDim S8x16x4096x4096 ![] bcast_S_S8x16x4096x4096 (constant (F := Ideal) S_ .f32 0x00000000#32)

/-- The scores. -/
def sc (Q K : FVec Ideal S8x4096x16x64 .f32) : FVec Ideal S8x16x4096x4096 .f32 :=
  mulf (Host.dotGeneral dot_S8x4096x16x64_S8x4096x16x64_S8x16x4096x4096_3_3_1_1_02_02 none Q K) (broadcastInDim S8x16x4096x4096 ![] bcast_S_S8x16x4096x4096 (constant (F := Ideal) S_ .f32 0x3E000000#32))

/-- The mask of the keys before a query. -/
def msk : IVec S8x16x4096x4096 1 :=
  broadcastInDim S8x16x4096x4096 ![2, 3] bcast_S4096x4096_S8x16x4096x4096_2_3 (cmpi .slt (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))

/-- The softplus, entry by entry. -/
def soft (a : FVec Ideal S8x16x4096x4096 .f32) : FVec Ideal S8x16x4096x4096 .f32 :=
  select (cmpf .une (subf a O) (subf a O)) (addf a O) (addf (maximumf a O) (Host.log1p (Host.exp (Host.negf (Host.absf (subf a O))))))

/-- The logarithms of failing at a key, zero at the keys that are masked. -/
def fail (Z : FVec Ideal S8x16x4096x4096 .f32) : FVec Ideal S8x16x4096x4096 .f32 :=
  select msk (Host.negf (soft (Host.negf (Host.negf Z)))) (broadcastInDim S8x16x4096x4096 ![] bcast_S_S8x16x4096x4096 (id (constant (F := Ideal) S_ .f32 0x00000000#32)))

/-- The sum of an array over the keys from each key on. -/
def from_ (G : FVec Ideal S8x16x4096x4096 .f32) : FVec Ideal S8x16x4096x4096 .f32 :=
  Host.reduceWindowAdd ![1, 1, 1, 4096] ![1, 1, 1, 1] ![0, 0, 0, 0] ![0, 0, 0, 4095] G (broadcastInDim S_ ![] bcast_S_S_ (constant (F := Ideal) S_ .f32 0x00000000#32)) reduceWindows_S8x16x4096x4096_S8x16x4096x4096_w1s1p0_0_w1s1p0_0_w1s1p0_0_w4096s1p0_4095 h_S_

/-- The weights of the keys. -/
def att (Z : FVec Ideal S8x16x4096x4096 .f32) : FVec Ideal S8x16x4096x4096 .f32 :=
  select msk (Host.exp (addf (Host.negf (soft (Host.negf Z))) (subf (from_ (fail Z)) (fail Z)))) (broadcastInDim S8x16x4096x4096 ![] bcast_S_S8x16x4096x4096 (id (constant (F := Ideal) S_ .f32 0x00000000#32)))

/-- The values under the weights, the heads side by side. -/
def mix (V : FVec Ideal S8x4096x16x64 .f32) (A : FVec Ideal S8x16x4096x4096 .f32) : FVec Ideal S8x4096x1024 .bf16 :=
  truncf .bf16 (shapeCast _ (transpose S8x4096x16x64 [0, 3, 1, 2] (Host.dotGeneral dot_S8x4096x16x64_S8x16x4096x4096_S8x16x64x4096_1_3_3_2_02_01 none V A) transposes_S8x16x64x4096_S8x4096x16x64_0_3_1_2) shapeCasts_S8x4096x16x64_S8x4096x1024) bitsLt_bf16_f32

/-- The result the generated run names is the composition of the stages. -/
theorem res_eq (m : (ℓ : Loc nD τ sig) → Buf (Elt Ideal) ℓ) (c : Dev nD) : Value.res_out0 (F := Ideal) m c =
    mix (proj (m ((c.tc : Thread nD τ).loc main_arg0)) (m ((c.tc : Thread nD τ).loc main_arg3)))
      (att (sc (proj (m ((c.tc : Thread nD τ).loc main_arg0)) (m ((c.tc : Thread nD τ).loc main_arg1)))
        (proj (m ((c.tc : Thread nD τ).loc main_arg0)) (m ((c.tc : Thread nD τ).loc main_arg2))))) := by
  unfold Value.res_out0 Value.res_main_v30
  rfl

section
variable (x0 : FVec Ideal S8x4096x1024 .f32) (w : FVec Ideal S1x1024x1024 .f32) (x : ℕ → ℕ → ℕ → ℝ) (u : ℕ → ℕ → ℝ)
  (hx : ∀ (b : Fin 8) (t : Fin 4096) (d : Fin 1024), x0 (ix3 b t d) = ((x b.val t.val d.val : ℝ) : EReal))
  (hw : ∀ d h : Fin 1024, w (ix3 0 d h) = ((u d.val h.val : ℝ) : EReal))

include hx hw in
/-- A projection over the reals. -/
theorem proj_apply (b : Fin 8) (t : Fin 4096) (h : Fin 16) (e : Fin 64) :
    proj x0 w (ix4 b t h e) = ((∑ d : Fin 1024, x b.val t.val d.val * u d.val (64 * h.val + e.val) : ℝ) : EReal) := by
  pointwise [proj]
  rw [coe_sum]
  refine Finset.sum_congr rfl fun d _ => ?_
  rw [hx, hw, EReal.coe_mul]
  exact congrArg (fun n => ((x b.val t.val d.val : ℝ) : EReal) * ((u d.val n : ℝ) : EReal)) (by simp only []; omega)

end

/-- Zero at an index. -/
theorem O_apply (i : S8x16x4096x4096.Idx) : O i = 0 := by
  pointwise [O]

/-- The mask at an index. -/
theorem msk_apply (b : Fin 8) (h : Fin 16) (t s : Fin 4096) : msk (ix4 b h t s) = BitVec.ofBool (decide (s.val < t.val)) := by
  pointwise [msk]
  rw [cmpi_slt_ofNat (by omega) (by omega)]

/-- The softplus at an entry that is a real. -/
theorem soft_apply (a : FVec Ideal S8x16x4096x4096 .f32) (i : S8x16x4096x4096.Idx) (r : ℝ) (h : a i = (r : EReal)) : soft a i = ((sp r : ℝ) : EReal) := by
  pointwise [soft]
  rw [O_apply, h, if_neg (by simp), sub_zero, ← EReal.coe_zero, ← EReal.coe_strictMono.monotone.map_max]
  have e : FloatOps.absf (F := Ideal) (φ := .f32) (r : EReal) = ((|r| : ℝ) : EReal) := by
    change max (r : EReal) (-(r : EReal)) = _
    rw [← EReal.coe_neg, ← EReal.coe_strictMono.monotone.map_max]
    rfl
  rw [e, ← EReal.coe_neg, Ideal.exp_coe]
  change _ + Ideal.log (1 + _) = _
  rw [← EReal.coe_one, ← EReal.coe_add, Ideal.log_coe, if_neg (by
    have := Real.exp_pos (-|r|)
    linarith), ← EReal.coe_add]
  rfl

/-- The score's scale. -/
theorem eighth : Ideal.ofBits .f32 0x3E000000#32 = ((1 / 8 : ℝ) : EReal) := by
  simp [Ideal.ofBits, Ideal.ieee, -EReal.coe_mul]
  norm_num

section
variable (Q K V : FVec Ideal S8x4096x16x64 .f32) (q k v : ℕ → ℕ → ℕ → ℝ)
  (hq : ∀ (b : Fin 8) (t : Fin 4096) (h : Fin 16) (e : Fin 64), Q (ix4 b t h e) = ((q b.val t.val (64 * h.val + e.val) : ℝ) : EReal))
  (hk : ∀ (b : Fin 8) (t : Fin 4096) (h : Fin 16) (e : Fin 64), K (ix4 b t h e) = ((k b.val t.val (64 * h.val + e.val) : ℝ) : EReal))
  (hv : ∀ (b : Fin 8) (t : Fin 4096) (h : Fin 16) (e : Fin 64), V (ix4 b t h e) = ((v b.val t.val (64 * h.val + e.val) : ℝ) : EReal))

include hq hk in
/-- The scores, over the reals. -/
theorem sc_apply (b : Fin 8) (h : Fin 16) (t s : Fin 4096) :
    sc Q K (ix4 b h t s) = (((∑ e : Fin 64, q b.val t.val (64 * h.val + e.val) * k b.val s.val (64 * h.val + e.val)) * (1 / 8) : ℝ) : EReal) := by
  pointwise [sc]
  rw [eighth, EReal.coe_mul, coe_sum]
  refine congrArg (· * _) (Finset.sum_congr rfl fun e _ => ?_)
  rw [hq, hk, EReal.coe_mul]

include hv in
/-- The values under real weights, over the reals. -/
theorem mix_apply (A : FVec Ideal S8x16x4096x4096 .f32) (a : ℕ → ℕ → ℕ → ℕ → ℝ)
    (ha : ∀ (b : Fin 8) (h : Fin 16) (t s : Fin 4096), A (ix4 b h t s) = ((a b.val h.val t.val s.val : ℝ) : EReal))
    (b : Fin 8) (t : Fin 4096) (l : Fin 1024) :
    mix V A (ix3 b t l) = ((∑ s : Fin 4096, v b.val s.val l.val * a b.val (l.val / 64) t.val s.val : ℝ) : EReal) := by
  pointwise [mix]
  rw [coe_sum]
  refine Finset.sum_congr rfl fun s _ => ?_
  rw [hv, ha, EReal.coe_mul]
  exact congrArg (fun n => ((v b.val s.val n : ℝ) : EReal) * ((a b.val (l.val / 64) t.val s.val : ℝ) : EReal)) (by simp only []; omega)

end

/-- A window sum of extended reals from zero is the sum over the window's positions that lie in the array. -/
theorem window_sum {s t u : Shape} (window strides lo hi : Fin s.rank → ℕ) (x : s.Idx → EReal) (init : u.Idx → EReal)
    (h : s.ReduceWindows window strides lo hi t) (hu : 0 < u.numel) (hi0 : init (Shape.Idx.first hu) = 0) (j : t.Idx) :
    Host.reduceWindow (· + ·) window strides lo hi x init h hu j = ∑ k : (⟨s.rank, window⟩ : Shape).Idx,
      if hin : ∀ a, lo a ≤ (j (a.cast h.1.symm)).val * strides a + (k a).val ∧ (j (a.cast h.1.symm)).val * strides a + (k a).val - lo a < s.size a
        then x (fun a => ⟨(j (a.cast h.1.symm)).val * strides a + (k a).val - lo a, (hin a).2⟩) else 0 := by
  unfold Host.reduceWindow
  rw [hi0]
  refine Eq.trans ?_ (sum_idx_eq_foldl (M := EReal) (⟨s.rank, window⟩ : Shape) _).symm
  refine congrArg (fun f => List.foldl f 0 _) (funext fun r => funext fun n => congrArg (r + ·) ?_)
  by_cases hin : ∀ a, lo a ≤ (j (a.cast h.1.symm)).val * strides a + ((⟨s.rank, window⟩ : Shape).rowMajor.symm n a).val
      ∧ (j (a.cast h.1.symm)).val * strides a + ((⟨s.rank, window⟩ : Shape).rowMajor.symm n a).val - lo a < s.size a
  · rw [dif_pos hin, dif_pos hin]
  · rw [dif_neg hin, dif_neg hin]

/-- A sum from each key on is a sum over the keys that lie in the array. -/
theorem from_apply (G : FVec Ideal S8x16x4096x4096 .f32) (b : Fin 8) (h : Fin 16) (t s : Fin 4096) :
    from_ G (ix4 b h t s) = ∑ w : Fin 4096, if hs : s.val + w.val < 4096 then G (ix4 b h t ⟨s.val + w.val, hs⟩) else 0 := by
  have z : (broadcastInDim S_ ![] bcast_S_S_ (constant (F := Ideal) S_ .f32 0x00000000#32)) (Shape.Idx.first h_S_) = (0 : EReal) := by
    pointwise
  unfold from_ Host.reduceWindowAdd
  rw [Ideal.hostReduceWindowAdd_def]
  unfold Ideal.hostReduceWindowAdd
  rw [z, window_sum _ _ _ _ _ _ _ _ rfl]
  refine (Fintype.sum_bijective (fun w : Fin 4096 => (ix4 0 0 0 w : (⟨4, ![1, 1, 1, 4096]⟩ : Shape).Idx)) ⟨fun x y e => ?_, fun k => ⟨k 3, ?_⟩⟩ _ _ fun w => ?_).symm
  · exact ((ix4_inj _ _ _ _ _ _ _ _).mp e).2.2.2
  · funext a
    fin_cases a
    · exact Subsingleton.elim (α := Fin 1) _ _
    · exact Subsingleton.elim (α := Fin 1) _ _
    · exact Subsingleton.elim (α := Fin 1) _ _
    · rfl
  · by_cases hs : s.val + w.val < 4096
    · rw [dif_pos hs, dif_pos (by
        intro a
        fin_cases a
        · simpa using b.isLt
        · simpa using h.isLt
        · simpa using t.isLt
        · simpa using hs)]
      refine congrArg G (funext fun a => ?_)
      fin_cases a
      · exact Fin.ext (by simp)
      · exact Fin.ext (by simp)
      · exact Fin.ext (by simp)
      · exact Fin.ext (by simp)
    · rw [dif_neg hs, dif_neg]
      intro hin
      have := (hin 3).2
      simp at this
      omega

section
variable (Z : FVec Ideal S8x16x4096x4096 .f32) (z : ℕ → ℕ → ℕ → ℕ → ℝ)
  (hz : ∀ (b : Fin 8) (h : Fin 16) (t s : Fin 4096), Z (ix4 b h t s) = ((z b.val h.val t.val s.val : ℝ) : EReal))

include hz in
/-- The logarithms of failing, over the reals. -/
theorem fail_apply (b : Fin 8) (h : Fin 16) (t s : Fin 4096) :
    fail Z (ix4 b h t s) = (((if s.val < t.val then -(sp (z b.val h.val t.val s.val)) else 0 : ℝ)) : EReal) := by
  have e : Host.negf (Host.negf Z) (ix4 b h t s) = ((z b.val h.val t.val s.val : ℝ) : EReal) := by
    pointwise
    rw [hz, neg_neg]
  have o : (id (constant (F := Ideal) S_ .f32 0x00000000#32)) ix0 = (0 : EReal) := Ideal.ofBits_zero_f32
  pointwise [fail]
  rw [msk_apply, select_ofBool, soft_apply _ _ _ e, o]
  by_cases hs : s.val < t.val
  · simp only [hs, decide_true, if_true, EReal.coe_neg]
  · simp only [hs, decide_false, if_false, EReal.coe_zero, Bool.false_eq_true]

include hz in
/-- The weights, over the reals. -/
theorem att_apply (b : Fin 8) (h : Fin 16) (t s : Fin 4096) :
    att Z (ix4 b h t s) = (((if s.val < t.val then Real.exp (-(sp (-(z b.val h.val t.val s.val)))
      + ∑ j ∈ Finset.Ico (s.val + 1) t.val, -(sp (z b.val h.val t.val j))) else 0 : ℝ)) : EReal) := by
  have e : Host.negf Z (ix4 b h t s) = ((-(z b.val h.val t.val s.val) : ℝ) : EReal) := by
    pointwise
    rw [hz, EReal.coe_neg]
  have o : (id (constant (F := Ideal) S_ .f32 0x00000000#32)) ix0 = (0 : EReal) := Ideal.ofBits_zero_f32
  have f : from_ (fail Z) (ix4 b h t s) = ((∑ j ∈ Finset.Ico s.val t.val, -(sp (z b.val h.val t.val j)) : ℝ) : EReal) := by
    rw [from_apply, ← sum_masked (fun j => -(sp (z b.val h.val t.val j))) 4096 s.val t.val t.isLt.le, coe_sum]
    refine Finset.sum_congr rfl fun w _ => ?_
    by_cases hs : s.val + w.val < 4096
    · rw [dif_pos hs, if_pos hs, fail_apply Z z hz]
    · rw [dif_neg hs, if_neg hs, EReal.coe_zero]
  pointwise [att]
  rw [msk_apply, select_ofBool, soft_apply _ _ _ e, o, f, fail_apply Z z hz]
  by_cases hs : s.val < t.val
  · simp only [hs, decide_true, if_true]
    rw [← EReal.coe_sub, sum_after _ _ _ hs, ← EReal.coe_neg, ← EReal.coe_add, Ideal.exp_coe]
  · simp only [hs, decide_false, if_false, EReal.coe_zero, Bool.false_eq_true]

end
end Cert.ReferenceIdeal.Stick
-- ==== Proof.StickMeet.lean ====
/-
  The kernel's result and the reference's are one real number at every index, from arguments that are all finite.
-/
module

public import proofs.«01_k».proof.Defs
public import proofs.«01_k».proof.Proof.StickRun
public import proofs.«01_k».proof.Proof.StickRef
public import proofs.«01_k».proof.Proof.Gen.Pre_finite
public import Idealize.ShloMosaic.Lib.ReduceAll
public import Idealize.ShloMosaic.Lib.Affine

@[expose] public section

set_option maxRecDepth 16384

noncomputable section

open Idealize.ShloMosaic Idealize.ShloMosaic.TcCoe Idealize.SL.Sem

namespace Cert.Meet

open Cert.Stick

/-- The pattern of positive infinity denotes it. -/
theorem inf_eq : Ideal.ofBits .f32 0x7F800000#32 = (⊤ : EReal) := by
  simp [Ideal.ofBits, Ideal.ieee]

/-- A value whose absolute value is below infinity is a real. -/
theorem real_of_lt (a : EReal) (h : Ideal.cmp .olt (max a (-a)) (⊤ : EReal) = 1#1) : a = ((a.toReal : ℝ) : EReal) := by
  have h' : max a (-a) < ⊤ := by
    by_contra hn
    simp [Ideal.cmp, hn] at h
  obtain ⟨h1, h2⟩ := max_lt_iff.mp h'
  refine (EReal.coe_toReal h1.ne fun hb => ?_).symm
  rw [hb] at h2
  simp at h2

/-- The precondition says that every entry of every argument is a real. -/
theorem finite_of (a0 : FVec Ideal Cert.Pre_finite.S8x4096x1024 .f32) (a1 a2 a3 : FVec Ideal Cert.Pre_finite.S1x1024x1024 .f32)
    (h : Cert.Pre_finite.fn (F := Ideal) a0 a1 a2 a3 = fun _ => 1#1) :
    (∀ i, a0 i = (((a0 i).toReal : ℝ) : EReal)) ∧ (∀ i, a1 i = (((a1 i).toReal : ℝ) : EReal)) ∧ (∀ i, a2 i = (((a2 i).toReal : ℝ) : EReal))
      ∧ (∀ i, a3 i = (((a3 i).toReal : ℝ) : EReal)) := by
  have e := congrFun h (fun a => a.elim0)
  dsimp only [Cert.Pre_finite.fn, Cert.Pre_finite.fn_part1] at e
  obtain ⟨e, e3⟩ := IntOp.andi_eq_one.1 e
  obtain ⟨e, e2⟩ := IntOp.andi_eq_one.1 e
  obtain ⟨e0, e1⟩ := IntOp.andi_eq_one.1 e
  haveI : Subsingleton Cert.Pre_finite.S_.Idx := ⟨fun a b => funext fun i => i.elim0⟩
  refine ⟨fun i => ?_, fun i => ?_, fun i => ?_, fun i => ?_⟩
  · exact real_of_lt _ ((congrArg (fun z => Ideal.cmp .olt _ z) inf_eq).symm.trans (Host.reduce_andi_all _ _ _ _ _ e0 i))
  · exact real_of_lt _ ((congrArg (fun z => Ideal.cmp .olt _ z) inf_eq).symm.trans (Host.reduce_andi_all _ _ _ _ _ e1 i))
  · exact real_of_lt _ ((congrArg (fun z => Ideal.cmp .olt _ z) inf_eq).symm.trans (Host.reduce_andi_all _ _ _ _ _ e2 i))
  · exact real_of_lt _ ((congrArg (fun z => Ideal.cmp .olt _ z) inf_eq).symm.trans (Host.reduce_andi_all _ _ _ _ _ e3 i))

/-- The tokens as reals, by their coordinates. -/
def tok (a : FVec Ideal Cert.KernelIdeal.S8x4096x1024 .f32) (b t d : ℕ) : ℝ :=
  if h : b < 8 ∧ t < 4096 ∧ d < 1024 then (a (ix3 ⟨b, h.1⟩ ⟨t, h.2.1⟩ ⟨d, h.2.2⟩)).toReal else 0

/-- A weight matrix as reals, by its coordinates. -/
def mat (a : FVec Ideal Cert.KernelIdeal.S1x1024x1024 .f32) (d h : ℕ) : ℝ :=
  if e : d < 1024 ∧ h < 1024 then (a (ix3 0 ⟨d, e.1⟩ ⟨h, e.2⟩)).toReal else 0

theorem tok_eq (a : FVec Ideal Cert.KernelIdeal.S8x4096x1024 .f32) (h : ∀ i, a i = (((a i).toReal : ℝ) : EReal)) (b : Fin 8) (t : Fin 4096) (d : Fin 1024) :
    a (ix3 b t d) = ((tok a b.val t.val d.val : ℝ) : EReal) := by
  rw [tok, dif_pos ⟨b.isLt, t.isLt, d.isLt⟩]
  exact h _

theorem mat_eq (a : FVec Ideal Cert.KernelIdeal.S1x1024x1024 .f32) (h : ∀ i, a i = (((a i).toReal : ℝ) : EReal)) (d e : Fin 1024) :
    a (ix3 0 d e) = ((mat a d.val e.val : ℝ) : EReal) := by
  rw [mat, dif_pos ⟨d.isLt, e.isLt⟩]
  exact h _

open Cert.KernelIdeal.Stick in
/-- The reference's result from real arguments is the kernel's. -/
theorem ref_eq (a0 : FVec Ideal Cert.ReferenceIdeal.S8x4096x1024 .f32) (a1 a2 a3 : FVec Ideal Cert.ReferenceIdeal.S1x1024x1024 .f32)
    (x : ℕ → ℕ → ℕ → ℝ) (wq wk wv : ℕ → ℕ → ℝ)
    (hx : ∀ (b : Fin 8) (t : Fin 4096) (d : Fin 1024), a0 (ix3 b t d) = ((x b.val t.val d.val : ℝ) : EReal))
    (hq : ∀ d h : Fin 1024, a1 (ix3 0 d h) = ((wq d.val h.val : ℝ) : EReal))
    (hk : ∀ d h : Fin 1024, a2 (ix3 0 d h) = ((wk d.val h.val : ℝ) : EReal))
    (hv : ∀ d h : Fin 1024, a3 (ix3 0 d h) = ((wv d.val h.val : ℝ) : EReal)) (b : Fin 8) (t : Fin 4096) (l : Fin 1024) :
    Cert.ReferenceIdeal.Stick.mix (Cert.ReferenceIdeal.Stick.proj a0 a3) (Cert.ReferenceIdeal.Stick.att
      (Cert.ReferenceIdeal.Stick.sc (Cert.ReferenceIdeal.Stick.proj a0 a1) (Cert.ReferenceIdeal.Stick.proj a0 a2))) (ix3 b t l)
      = ((out x wq wk wv b.val t.val l.val : ℝ) : EReal) := by
  let z : ℕ → ℕ → ℕ → ℕ → ℝ := fun b h t s => (∑ e : Fin 64, pr x wq b t (64 * h + e.val) * pr x wk b s (64 * h + e.val)) * (1 / 8)
  rw [Cert.ReferenceIdeal.Stick.mix_apply _ (pr x wv) (Cert.ReferenceIdeal.Stick.proj_apply a0 a3 x wv hx hv) _
    (fun b h t s => if s < t then Real.exp (-(sp (-(z b h t s))) + ∑ j ∈ Finset.Ico (s + 1) t, -(sp (z b h t j))) else 0)
    (Cert.ReferenceIdeal.Stick.att_apply _ z (Cert.ReferenceIdeal.Stick.sc_apply _ _ (pr x wq) (pr x wk)
      (Cert.ReferenceIdeal.Stick.proj_apply a0 a1 x wq hx hq) (Cert.ReferenceIdeal.Stick.proj_apply a0 a2 x wk hx hk)))]
  refine congrArg (fun r : ℝ => (r : EReal)) ?_
  rw [Fin.sum_univ_eq_sum_range (fun s => pr x wv b.val s l.val * (if s < t.val then Real.exp (-(sp (-(z b.val (l.val / 64) t.val s)))
    + ∑ j ∈ Finset.Ico (s + 1) t.val, -(sp (z b.val (l.val / 64) t.val j))) else 0)) 4096, out]
  rw [← Finset.sum_subset (Finset.range_mono t.isLt.le : Finset.range t.val ⊆ Finset.range 4096)]
  · refine Finset.sum_congr rfl fun s hs => ?_
    rw [if_pos (Finset.mem_range.mp hs), mul_comm]
    refine congrArg (· * _) ?_
    rw [← wgt_eq (fun j => z b.val (l.val / 64) t.val j)]
    refine congrArg (fun f => wgt f t.val s) (funext fun j => ?_)
    simp only [hsc, z, scl]
    rw [Finset.sum_mul, ← Finset.sum_neg_distrib, Finset.sum_mul]
    exact Finset.sum_congr rfl fun e _ => by ring
  · intro s _ hs
    rw [if_neg (by simpa using hs), mul_zero]

end Cert.Meet
-- ==== Proof.MoeRun.lean ====
/-
  The expert layer's kernel run on the TensorCore: the body's triple in its two cases (the tile's number
  below the count of used tiles or not), the pipeline's proof data, and the run of the whole program.
-/
module

public import proofs.«01_k».proof.Proof.Gen.MoeKernelIdeal.Launch
public import proofs.«01_k».proof.Proof.Gen.MoeKernelIdeal.Skeleton
public import Idealize.ShloMosaic.Lib.Pipeline.FrameBody
public import Idealize.ShloMosaic.Lib.Pipeline.TableIdle
public import Idealize.ShloMosaic.Lib.Pipeline.Value
public import Idealize.ShloMosaic.Lib.Ring
public import Idealize.ShloMosaic.Lib.Tactic
public import Idealize.ShloMosaic.Lib.WordCmp
public import Idealize.ShloMosaic.Lib.Claim
public import Idealize.ShloMosaic.Lib.WholeRead
public import Idealize.ShloMosaic.Lib.WritesUnit
public import Idealize.ShloMosaic.Lib.ValueIdxCore
public import Idealize.ShloMosaic.Lib.StableHlo.ReadAt

@[expose] public section

set_option maxRecDepth 16384

noncomputable section

namespace Cert.MoeKernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MoeKernelIdeal.Gen

variable {F : FTy → Type} [FloatOps F]

local notation "𝕄" => MT nD τ sig Unit (Elt F) ℕ (UR sig nD τ) ℕ

/-! ## The two conditions of the body -/

/-- The first store is made exactly where the second is not. -/
theorem cond_compl (i : grid0.Coords) (w : BitVec 32) : k0_cond2 i w = 1#1 ↔ ¬ k0_cond1 i w = 1#1 := by
  unfold k0_cond1 k0_cond2
  simp only [Scalar.cmpi, Scalar.extui, IntOp.cmpi]
  by_cases h : (BitVec.ofNat 32 (i 0).val).slt w
  · have h' : w.sle (BitVec.ofNat 32 (i 0).val) = false := by
      simpa [BitVec.slt, BitVec.sle] using h
    simp [h, h']
  · have h' : w.sle (BitVec.ofNat 32 (i 0).val) = true := by
      simpa [BitVec.slt, BitVec.sle] using h
    simp [h, h']

/-- Each table as the body is handed it. -/
abbrev tb0 : Memref sig .tc .smem S288 .i32 := Memref.whole main_arg0
abbrev htb0 : tb0.IsWhole := Memref.isWhole_whole _
abbrev tb1 : Memref sig .tc .smem S1 .i32 := Memref.whole main_arg1
abbrev htb1 : tb1.IsWhole := Memref.isWhole_whole _

/-- A table's buffer on core `c`, and half of it held at contents `f`. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- The count of used tiles in the second table. -/
abbrev used (c : Dev nD) (xt1 : TbBuf (F := F) c tb1) : BitVec 32 := xt1 (ValueIdx.ix1 (0 : Fin 1) : S1.Idx)

/-- What the body leaves in the output's block: the expert's output where the tile is used, zeros where it is not. -/
def outBlock (i : grid0.Coords) (w : BitVec 32) (x0 : Vec F S256x1024 .f32) (x1 : Vec F S1x1024x512 .bf16)
    (x2 : Vec F S1x1024x512 .bf16) (x3 : Vec F S1x512x1024 .bf16) : Vec F S256x1024 .f32 :=
  if k0_cond1 i w = 1#1 then k0_pay1 x0 x1 x2 x3 else k0_pay2

/-- A whole load is the buffer read. -/
theorem load_whole2 {a b : ℕ} {e : EltTy} (M : Memref sig .tc .vmem ⟨2, ![a, b]⟩ e) (f : M.view.ty.Contents (Elt F))
    (inb : ∀ j, (![0, 0] : Fin 2 → ℕ) j + (⟨2, ![a, b]⟩ : Shape).size j ≤ (⟨2, ![a, b]⟩ : Shape).size j) :
    View.readAt (Elt F) M.view (Rect.unit (s := ⟨2, ![a, b]⟩) ![0, 0] (⟨2, ![a, b]⟩ : Shape).size inb).toLoadRect f
      = M.view.read (Elt F) f :=
  View.ld_unit_zero (funext fun j => by fin_cases j <;> rfl) inb _
theorem load_whole3 {a b d : ℕ} {e : EltTy} (M : Memref sig .tc .vmem ⟨3, ![a, b, d]⟩ e) (f : M.view.ty.Contents (Elt F))
    (inb : ∀ j, (![0, 0, 0] : Fin 3 → ℕ) j + (⟨3, ![a, b, d]⟩ : Shape).size j ≤ (⟨3, ![a, b, d]⟩ : Shape).size j) :
    View.readAt (Elt F) M.view (Rect.unit (s := ⟨3, ![a, b, d]⟩) ![0, 0, 0] (⟨3, ![a, b, d]⟩ : Shape).size inb).toLoadRect f
      = M.view.read (Elt F) f :=
  View.ld_unit_zero (funext fun j => by fin_cases j <;> rfl) inb _
/-- A whole store leaves what it stored. -/
theorem read_store_whole {a b : ℕ} {e : EltTy} (M : Memref sig .tc .vmem ⟨2, ![a, b]⟩ e) (f : M.view.ty.Contents (Elt F))
    (inb : ∀ j, (![0, 0] : Fin 2 → ℕ) j + (⟨2, ![a, b]⟩ : Shape).size j ≤ (⟨2, ![a, b]⟩ : Shape).size j)
    (x : (⟨2, ![a, b]⟩ : Shape).Idx → Elt F e) :
    M.view.read (Elt F) (M.view.writes (Elt F) f [⟨Rect.unit (s := ⟨2, ![a, b]⟩) ![0, 0] (⟨2, ![a, b]⟩ : Shape).size inb, x⟩]) = x := by
  funext y
  exact View.read_writes_cons_unit_of_mem M.view f inb x [] y y (off' := fun _ => 0)
    (funext fun j => by fin_cases j <;> rfl) (fun j => (Nat.zero_add _).symm)

set_option maxHeartbeats 1000000 in
/-- The body on whole staging buffers: the inputs' stay as they were, the output's ends at `outBlock`. -/
theorem run_body (c : Dev nD) (i : grid0.Coords) (arg3 : Memref sig .tc .vmem S256x1024 .f32) (harg3 : arg3.IsWhole) (arg4 : Memref sig .tc .vmem S1x1024x512 .bf16) (harg4 : arg4.IsWhole) (arg5 : Memref sig .tc .vmem S1x1024x512 .bf16) (harg5 : arg5.IsWhole) (arg6 : Memref sig .tc .vmem S1x512x1024 .bf16) (harg6 : arg6.IsWhole) (arg7 : Memref sig .tc .vmem S256x1024 .f32) (harg7 : arg7.IsWhole)
    (x0 : Vec F S256x1024 .f32) (x1 : Vec F S1x1024x512 .bf16) (x2 : Vec F S1x1024x512 .bf16) (x3 : Vec F S1x512x1024 .bf16) (xt0 : TbBuf (F := F) c tb0) (xt1 : TbBuf (F := F) c tb1)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ tbPt c tb0 xt0 ∗ tbPt c tb1 xt1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (outBlock i (used c xt1) x0 x1 x2 x3) ∗ tbPt c tb0 xt0 ∗ tbPt c tb1 xt1) -∗ K ⟨⟩))
      ⊢ wp frame (wpE (defs₀ (F := F)) Variants.none c none) E (cc0_moe_experts i tb0 htb0 tb1 htb1 arg3 harg3 arg4 harg4 arg5 harg5 arg6 harg6 arg7 harg7) K := by
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%d4, %f4, -, H4⟩, HT0, HT1, Hk⟩
  subst hf0 hf1 hf2 hf3
  sl_exec
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr
    swap; · iexact H4
    ipureintro
    have hw : run_body.sl.r c xt1 = used c xt1 := by
      unfold run_body.sl.r used
      refine congrArg xt1 (funext fun a => ?_)
      match a with
      | ⟨0, _⟩ => exact Subsingleton.elim (α := Fin 1) _ _
    rw [hw]
    unfold outBlock
    by_cases h1 : k0_cond1 i (used c xt1) = 1#1
    · have h2 : ¬ k0_cond2 i (used c xt1) = 1#1 := fun h => (cond_compl i _).1 h h1
      rw [dif_neg h2, dif_pos h1, if_pos h1]
      refine (read_store_whole arg7 f4 _ _).trans ?_
      rw [load_whole2 arg3, load_whole3 arg4, load_whole3 arg5, load_whole3 arg6]
    · have h2 : k0_cond2 i (used c xt1) = 1#1 := (cond_compl i _).2 h1
      rw [dif_pos h2, if_neg h1]
      exact read_store_whole arg7 _ _ _
  isplitl [HT0]; · iexact HT0
  iexact HT1

variable (m : (ℓ : Loc nD τ sig) → Buf (Elt F) ℓ) (ρ : Dev nD → PrngReg)

/-! ## The program up to the kernel -/

/-- Core `c`'s buffers when the kernel is launched: the three weight arrays rounded, the rest as at the start. -/
abbrev V (c : Dev nD) (b : Ref sig .tc) : Buf (Elt F) ((c : Thread nD τ).loc b) :=
  StableHlo.after hostOps0 (fun b => m (c, b)) b

theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub ⟨rfl, rfl, rfl⟩ main_chain

/-- A buffer no host operation writes is as at the start. -/
theorem keeps (c : Dev nD) (b : Ref sig .tc) (h0 : b ≠ main_v0) (h1 : b ≠ main_v1) (h2 : b ≠ main_v2) :
    V m c b = m ((c : Thread nD τ).loc b) :=
  StableHlo.after_of_forall_not_mem (b := Proc.devRef .tc b) _ _ (List.forall_iff_forall_mem.mp
    ⟨fun hm => StableHlo.devRef_ne_of_ne h0 (Finset.mem_singleton.mp hm),
      fun hm => StableHlo.devRef_ne_of_ne h1 (Finset.mem_singleton.mp hm),
      fun hm => StableHlo.devRef_ne_of_ne h2 (Finset.mem_singleton.mp hm)⟩)

theorem V_arg0 (c : Dev nD) : V m c main_arg0 = m ((c : Thread nD τ).loc main_arg0) :=
  keeps m c main_arg0 (by decide) (by decide) (by decide)
theorem V_arg1 (c : Dev nD) : V m c main_arg1 = m ((c : Thread nD τ).loc main_arg1) :=
  keeps m c main_arg1 (by decide) (by decide) (by decide)
theorem V_arg2 (c : Dev nD) : V m c main_arg2 = m ((c : Thread nD τ).loc main_arg2) :=
  keeps m c main_arg2 (by decide) (by decide) (by decide)
theorem V_arg3 (c : Dev nD) : V m c main_arg3 = m ((c : Thread nD τ).loc main_arg3) :=
  keeps m c main_arg3 (by decide) (by decide) (by decide)
theorem V_arg4 (c : Dev nD) : V m c main_arg4 = m ((c : Thread nD τ).loc main_arg4) :=
  keeps m c main_arg4 (by decide) (by decide) (by decide)
theorem V_arg5 (c : Dev nD) : V m c main_arg5 = m ((c : Thread nD τ).loc main_arg5) :=
  keeps m c main_arg5 (by decide) (by decide) (by decide)

/-! ## The two tables -/

/-- The tables as the kernel finds them (there is one device). -/
def tbl : pre0.Contents (Elt F) := fun j => m (((0 : Dev nD) : Thread nD τ).loc (pre0.ref j))
theorem V_pre (c : Dev nD) (j : Fin 2) : V m c (pre0.ref j) = tbl m j := by
  obtain rfl : c = 0 := Subsingleton.elim _ _
  fin_cases j
  · exact V_arg0 m 0
  · exact V_arg1 m 0
/-- Every block the tables name lies inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

theorem PhiT_eq (c : Dev nD) : (Pipeline.ΦT pre0 (tbl m) c : sProp 𝕄) = iprop(tbPt c tb0 (tbl m 0) ∗ tbPt c tb1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- No point leaves the output untouched. -/
theorem never_idle (hO : Ok m) (w : Fin 5) (i : grid0.Coords) : (cfgM m hO).idle w i = false := by
  fin_cases w
  · rfl
  · rfl
  · rfl
  · rfl
  · show (!(k0_cond1 i ((tbl m).atD 1 ![0]) == 1#1) && !(k0_cond2 i ((tbl m).atD 1 ![0]) == 1#1)) = false
    have h := cond_compl i ((tbl m).atD 1 ![0])
    by_cases h1 : k0_cond1 i ((tbl m).atD 1 ![0]) = 1#1
    · simp [h1]
    · simp [h.2 h1]

/-! ## The proof data -/

/-- Window `w`'s block at point `t` of its array as the kernel finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- What the output's block holds after point `t`. -/
def tileOut (hO : Ok m) (c : Dev nD) (t : Fin (cfgM m hO).N) : Vec F S256x1024 .f32 :=
  outBlock (grid0.coords t) (tbl m 1 (ValueIdx.ix1 (0 : Fin 1) : S1.Idx)) (iblk m hO c 0 t) (iblk m hO c 1 t) (iblk m hO c 2 t) (iblk m hO c 3 t)

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => tileOut m hO c t
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = tileOut m hO c t := by dsimp only [dats]; try rfl

/-- Each input's staging buffer holds its block at every point. -/
theorem before_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl)
    (fun t => by rw [after_0]; unfold Dat.blockOf iblk; rw [A_eq]; try rfl) t d).trans (by unfold Dat.fetched Dat.blockOf iblk; rw [A_eq]; try rfl)
theorem before_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl)
    (fun t => by rw [after_1]; unfold Dat.blockOf iblk; rw [A_eq]; try rfl) t d).trans (by unfold Dat.fetched Dat.blockOf iblk; rw [A_eq]; try rfl)
theorem before_2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl)
    (fun t => by rw [after_2]; unfold Dat.blockOf iblk; rw [A_eq]; try rfl) t d).trans (by unfold Dat.fetched Dat.blockOf iblk; rw [A_eq]; try rfl)
theorem before_3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl)
    (fun t => by rw [after_3]; unfold Dat.blockOf iblk; rw [A_eq]; try rfl) t d).trans (by unfold Dat.fetched Dat.blockOf iblk; rw [A_eq]; try rfl)

/-! ## The body at a point -/

abbrev stM0 (hO : Ok m) (t : Fin (cfgM m hO).N) : Memref sig .tc .vmem S256x1024 .f32 := spec0_0.stage ((cfgM m hO).slots t 0)
abbrev stM1 (hO : Ok m) (t : Fin (cfgM m hO).N) : Memref sig .tc .vmem S1x1024x512 .bf16 := spec0_1.stage ((cfgM m hO).slots t 1)
abbrev stM2 (hO : Ok m) (t : Fin (cfgM m hO).N) : Memref sig .tc .vmem S1x1024x512 .bf16 := spec0_2.stage ((cfgM m hO).slots t 2)
abbrev stM3 (hO : Ok m) (t : Fin (cfgM m hO).N) : Memref sig .tc .vmem S1x512x1024 .bf16 := spec0_3.stage ((cfgM m hO).slots t 3)
abbrev stM4 (hO : Ok m) (t : Fin (cfgM m hO).N) : Memref sig .tc .vmem S256x1024 .f32 := spec0_4.stage ((cfgM m hO).slots t 4)

/-- The kernel's body as the pipeline calls it at point `t`. -/
abbrev bodyAt (hO : Ok m) (t : Fin (cfgM m hO).N) : Prog (TpuEff nD τ sig (Elt F) Λ₀ .tc) PUnit :=
  cc0_moe_experts (grid0.coords t) tb0 htb0 tb1 htb1 (stM0 m hO t) (hstage0_0 (((cfgM m hO).slots t 0).cast nbuf0_0)) (stM1 m hO t) (hstage0_1 (((cfgM m hO).slots t 1).cast nbuf0_1)) (stM2 m hO t) (hstage0_2 (((cfgM m hO).slots t 2).cast nbuf0_2)) (stM3 m hO t) (hstage0_3 (((cfgM m hO).slots t 3).cast nbuf0_3)) (stM4 m hO t) (hstage0_4 (((cfgM m hO).slots t 4).cast nbuf0_4))

/-- What the body is called with, window by window, and what it returns. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (stM0 m hO t) fullShare ((dats m hO 0 c).before 0 t d))
    ∗ (∃ d, owns (c : Thread nD τ) (stM1 m hO t) fullShare ((dats m hO 0 c).before 1 t d))
    ∗ (∃ d, owns (c : Thread nD τ) (stM2 m hO t) fullShare ((dats m hO 0 c).before 2 t d))
    ∗ (∃ d, owns (c : Thread nD τ) (stM3 m hO t) fullShare ((dats m hO 0 c).before 3 t d))
    ∗ (∃ d, owns (c : Thread nD τ) (stM4 m hO t) fullShare ((dats m hO 0 c).before 4 t d)))
def bodyPost (hO : Ok m) (c : Dev nD) (t : Fin (cfgM m hO).N) : sProp 𝕄 :=
  iprop((dats m hO 0 c).Φ t.succ ∗ (dats m hO 0 c).owesAt () t.succ
    ∗ owns (c : Thread nD τ) (stM0 m hO t) fullShare ((dats m hO 0 c).after 0 t)
    ∗ owns (c : Thread nD τ) (stM1 m hO t) fullShare ((dats m hO 0 c).after 1 t)
    ∗ owns (c : Thread nD τ) (stM2 m hO t) fullShare ((dats m hO 0 c).after 2 t)
    ∗ owns (c : Thread nD τ) (stM3 m hO t) fullShare ((dats m hO 0 c).after 3 t)
    ∗ owns (c : Thread nD τ) (stM4 m hO t) fullShare ((dats m hO 0 c).after 4 t))

theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before_0, before_1, before_2, before_3]
  rw [show (dats m hO 0 c).Φ t.succ = (dats m hO 0 c).Φ t.castSucc from rfl,
    show (dats m hO 0 c).owesAt () t.succ = (dats m hO 0 c).owesAt () t.castSucc from rfl,
    after_0, after_1, after_2, after_3, after_4]
  rw [show (dats m hO 0 c).Φ t.castSucc = iprop(Pipeline.ΦA spec0 c ∗ Pipeline.ΦT pre0 (tbl m) c) from rfl, PhiT_eq]
  unfold tileOut
  iintro ⟨⟨HΦ, ⟨HT0, HT1⟩⟩, Ho, ⟨%d0, H0⟩, ⟨%d1, H1⟩, ⟨%d2, H2⟩, ⟨%d3, H3⟩, ⟨%d4, H4⟩⟩
  iapply (run_body c (grid0.coords t) _ _ _ _ _ _ _ _ _ _ (iblk m hO c 0 t) (iblk m hO c 1 t) (iblk m hO c 2 t) (iblk m hO c 3 t) (tbl m 0) (tbl m 1) Set.univ _)
  isplitl [H0]; · iexact H0
  isplitl [H1]; · iexact H1
  isplitl [H2]; · iexact H2
  isplitl [H3]; · iexact H3
  isplitl [H4]; · iexists _; iexact H4
  isplitl [HT0]; · iexact HT0
  isplitl [HT1]; · iexact HT1
  iintro ⟨H0, H1, H2, H3, H4, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  iexact H4

theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, defs₀_row m hO]
  rewrite [never_idle m hO 4]
  exact triple_restated (sound_body m hO c t) rfl .rfl fun _ => .rfl

/-! ## The run -/

set_option backward.isDefEq.respectTransparency.types false in
/-- The program runs to the end, its arrays at what the proof data says, every counter at zero. -/
theorem run_main (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- The run from the launch: the result at what the proof data computes, every argument as it was, counters at zero. -/
theorem run (hO : Ok m) : θ_run defs (onTc (τ := τ) (main (F := F))) ⟨m, fun _ => 0, ρ⟩ (fun r => (∀ c : Dev nD,
      r.2.mem ((c.tc : Thread nD τ).loc main_v3) = (dats m hO 0 c).arrAt 4 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 4,
      ((h.1 c).2 main_arg0 (by decide : main_arg0 ∈ Pipeline.restRefs sig spec0)).trans (V_arg0 m c),
      ((h.1 c).2 main_arg1 (by decide : main_arg1 ∈ Pipeline.restRefs sig spec0)).trans (V_arg1 m c),
      ((h.1 c).1 0).trans (((dats m hO 0 c).arrAt_in 0 rfl _).trans ((A_eq m hO c 0).trans (V_arg2 m c))),
      ((h.1 c).2 main_arg3 (by decide : main_arg3 ∈ Pipeline.restRefs sig spec0)).trans (V_arg3 m c),
      ((h.1 c).2 main_arg4 (by decide : main_arg4 ∈ Pipeline.restRefs sig spec0)).trans (V_arg4 m c),
      ((h.1 c).2 main_arg5 (by decide : main_arg5 ∈ Pipeline.restRefs sig spec0)).trans (V_arg5 m c)⟩, h.2⟩) (run_main m ρ hO)

end Cert.MoeKernelIdeal.Moe

end
-- ==== Proof.MoeSame.lean ====
module

public import proofs.«01_k».proof.Proof.MoeRun
public import proofs.«01_k».proof.Proof.Gen.MoeKernel.Launch

@[expose] public section

noncomputable section

namespace Cert.MoeKernel.Moe

open Idealize.ShloMosaic Idealize.ShloMosaic.TcCoe Idealize.SL.Sem

variable {F : FTy → Type} [FloatOps F]

theorem sig_eq : Cert.MoeKernel.sig = Cert.MoeKernelIdeal.sig := rfl
theorem lam_eq : Cert.MoeKernel.Λ₀ = Cert.MoeKernelIdeal.Λ₀ := rfl
set_option maxHeartbeats 1000000 in
theorem body_eq (i : Cert.MoeKernel.grid0.Coords) (arg1 h1 arg2 h2 arg3 h3 arg4 h4 arg5 h5 arg6 h6 arg7 h7) : @Cert.MoeKernel.cc0_moe_experts F _ Cert.MoeKernel.Gen.facts i arg1 h1 arg2 h2 arg3 h3 arg4 h4 arg5 h5 arg6 h6 arg7 h7 = @Cert.MoeKernelIdeal.cc0_moe_experts F _ Cert.MoeKernelIdeal.Gen.facts i arg1 h1 arg2 h2 arg3 h3 arg4 h4 arg5 h5 arg6 h6 arg7 h7 := rfl
set_option maxHeartbeats 1000000 in
theorem defs0_eq : Cert.MoeKernel.defs₀ (F := F) = Cert.MoeKernelIdeal.defs₀ (F := F) := by
  unfold Cert.MoeKernel.defs₀ Cert.MoeKernelIdeal.defs₀
  refine congrArg _ (funext fun l => ?_)
  match l with
  | ⟨0, _⟩ =>
    funext ⟨t, s⟩
    exact body_eq _ _ _ _ _ _ _ _ _ _ _ _ _ _ _
  | ⟨_ + 1, h⟩ => exact absurd h (Nat.not_lt.2 (Nat.le_add_left _ _))

set_option maxHeartbeats 1000000 in
theorem pcfgs_eq : Cert.MoeKernel.pcfgs (F := F) = Cert.MoeKernelIdeal.pcfgs (F := F) := rfl
set_option maxHeartbeats 1000000 in
theorem defs_eq : Cert.MoeKernel.defs (F := F) = Cert.MoeKernelIdeal.defs (F := F) :=
  congrArg (Pipeline.defs (Cert.MoeKernelIdeal.pcfgs (F := F))) defs0_eq
set_option maxHeartbeats 1000000 in
theorem main_eq : Cert.MoeKernel.main (F := F) = Cert.MoeKernelIdeal.main (F := F) := rfl

variable (m : (ℓ : Loc Cert.MoeKernel.nD Cert.MoeKernel.τ Cert.MoeKernel.sig) → Buf (Elt F) ℓ) (ρ : Dev Cert.MoeKernel.nD → PrngReg)

set_option maxHeartbeats 1000000 in
theorem run_eq : θ_run (Cert.MoeKernel.defs (F := F)) (onTc (τ := Cert.MoeKernel.τ) Cert.MoeKernel.main) ⟨m, fun _ => 0, ρ⟩
    = θ_run (Cert.MoeKernelIdeal.defs (F := F)) (onTc (τ := Cert.MoeKernelIdeal.τ) Cert.MoeKernelIdeal.main) ⟨m, fun _ => 0, ρ⟩ := by
  rw [defs_eq]
  rfl

/-- The run of the program as printed for bits, its tables being in order: it ends, quiescent, its arguments as they were. -/
theorem run (hO : Cert.MoeKernelIdeal.Moe.Ok (F := F) m) :
    θ_run (Cert.MoeKernel.defs (F := F)) (onTc (τ := Cert.MoeKernel.τ) Cert.MoeKernel.main) ⟨m, fun _ => 0, ρ⟩ (fun r => (∀ c : Dev Cert.MoeKernel.nD,
      r.2.mem ((c.tc : Thread Cert.MoeKernel.nD Cert.MoeKernel.τ).loc Cert.MoeKernel.main_arg0) = m ((c.tc : Thread Cert.MoeKernel.nD Cert.MoeKernel.τ).loc Cert.MoeKernel.main_arg0)
      ∧ r.2.mem ((c.tc : Thread Cert.MoeKernel.nD Cert.MoeKernel.τ).loc Cert.MoeKernel.main_arg1) = m ((c.tc : Thread Cert.MoeKernel.nD Cert.MoeKernel.τ).loc Cert.MoeKernel.main_arg1)
      ∧ r.2.mem ((c.tc : Thread Cert.MoeKernel.nD Cert.MoeKernel.τ).loc Cert.MoeKernel.main_arg2) = m ((c.tc : Thread Cert.MoeKernel.nD Cert.MoeKernel.τ).loc Cert.MoeKernel.main_arg2)
      ∧ r.2.mem ((c.tc : Thread Cert.MoeKernel.nD Cert.MoeKernel.τ).loc Cert.MoeKernel.main_arg3) = m ((c.tc : Thread Cert.MoeKernel.nD Cert.MoeKernel.τ).loc Cert.MoeKernel.main_arg3)
      ∧ r.2.mem ((c.tc : Thread Cert.MoeKernel.nD Cert.MoeKernel.τ).loc Cert.MoeKernel.main_arg4) = m ((c.tc : Thread Cert.MoeKernel.nD Cert.MoeKernel.τ).loc Cert.MoeKernel.main_arg4)
      ∧ r.2.mem ((c.tc : Thread Cert.MoeKernel.nD Cert.MoeKernel.τ).loc Cert.MoeKernel.main_arg5) = m ((c.tc : Thread Cert.MoeKernel.nD Cert.MoeKernel.τ).loc Cert.MoeKernel.main_arg5))
      ∧ r.2.sem = fun _ => 0) := by
  rw [run_eq]
  exact (θ_run Cert.MoeKernelIdeal.defs _ _).mono (fun _ h => ⟨fun c => (h.1 c).2, h.2⟩) (Cert.MoeKernelIdeal.Moe.run m ρ hO)

end Cert.MoeKernel.Moe

end
-- ==== Proof.MoeTables.lean ====
/-
  The two tables of the expert layer's kernel: what the precondition says of them, and that the blocks they
  name lie inside their arrays.
-/
module

public import proofs.«01_k».proof.Proof.MoeRun
public import proofs.«01_k».proof.Proof.Gen.Pre_planned
public import Idealize.ShloMosaic.Lib.Affine
public import Idealize.ShloMosaic.Lib.ReduceAll

@[expose] public section

set_option maxRecDepth 16384

noncomputable section

namespace Cert.MoeKernelIdeal.Moe

open Idealize.ShloMosaic Idealize.ShloMosaic.TcCoe Idealize.SL.Sem
open Cert.MoeKernelIdeal.Gen

variable {F : FTy → Type} [FloatOps F]

/-! ## The index maps read off the tables -/

/-- The expert of tile `i`, and the number of used tiles, as the tables hold them. -/
abbrev teW (pf : pre0.Contents (Elt F)) (i : Fin 288) : BitVec 32 := pf 0 (ValueIdx.ix1 i : S288.Idx)
abbrev nuW (pf : pre0.Contents (Elt F)) : BitVec 32 := pf 1 (ValueIdx.ix1 (0 : Fin 1) : S1.Idx)

theorem at_te (pf : pre0.Contents (Elt F)) (i : grid0.Coords) (n : ℕ) (hn : n = (i 0).val)
    (inb : ∀ a, (![n] : Fin 1 → ℕ) a + S1.size a ≤ S288.size a) (h1 : S1.numel = 1) :
    pf.at 0 (Rect.unit (s := S288) ![n] S1.size inb) h1 = teW pf (i 0) := by
  refine congrArg (pf 0) (funext fun a => ?_)
  match a with
  | ⟨0, _⟩ =>
    refine Fin.ext ?_
    show n + 1 * 0 = (i 0).val
    omega

theorem at_nu (pf : pre0.Contents (Elt F)) (inb : ∀ a, (![0] : Fin 1 → ℕ) a + S1.size a ≤ S1.size a) (h1 : S1.numel = 1) :
    pf.at 1 (Rect.unit (s := S1) ![0] S1.size inb) h1 = nuW pf := by
  refine congrArg (pf 1) (funext fun a => ?_)
  match a with
  | ⟨0, _⟩ => exact Subsingleton.elim (α := Fin 1) _ _

theorem point_val (i : grid0.Coords) : (Scalar.indexCast (BitVec.ofNat 32 (i 0).val) : BitVec 32).toNat = (i 0).val := by
  have h : (i 0).val < 288 := (i 0).isLt
  simp [Scalar.indexCast, BitVec.toNat_ofNat]
  omega

/-- The row block fetched at tile `i` is `min i (used - 1)`. -/
theorem minsi_val (w : BitVec 32) (hw : 1 ≤ w.toInt) (n : ℕ) (hn : n < 288) :
    (Scalar.minsi (BitVec.ofNat 32 n) (Scalar.subi w 1#32)).toNat = min n (w.toNat - 1) := by
  have hlt := w.isLt
  have hw' : 1 ≤ w.toNat ∧ w.toNat < 2 ^ 31 := by
    rw [BitVec.toInt_eq_toNat_cond] at hw
    split at hw <;> omega
  have h1 : (w - 1#32).toNat = w.toNat - 1 := by
    rw [BitVec.toNat_sub]
    simp
    omega
  have h2 : (BitVec.ofNat 32 n).toNat = n := by
    rw [BitVec.toNat_ofNat]; omega
  have hs : (BitVec.ofNat 32 n).slt (w - 1#32) = decide (n < w.toNat - 1) := by
    rw [BitVec.slt, BitVec.toInt_eq_toNat_cond, BitVec.toInt_eq_toNat_cond, h1, h2, if_pos (by omega), if_pos (by omega)]
    simp only [Nat.cast_lt]
  simp only [Scalar.minsi, Scalar.subi, IntOp.minsi, IntOp.subi, hs]
  by_cases h : n < w.toNat - 1
  · rw [decide_eq_true h, if_pos rfl, h2]; omega
  · rw [decide_eq_false h, if_neg (by simp), h1]; omega

theorem t0_eq (pf : pre0.Contents (Elt F)) (hw : 1 ≤ (nuW pf).toInt) (i : grid0.Coords) (inb) (h1) :
    cc0_transform_0 inb h1 pf i = ![min (i 0).val ((nuW pf).toNat - 1), 0] := by
  unfold cc0_transform_0
  dsimp only
  rw [at_nu, minsi_val _ hw _ (i 0).isLt]
  rfl

theorem t1_eq (pf : pre0.Contents (Elt F)) (i : grid0.Coords) (inb) (h1) :
    cc0_transform_1 inb h1 pf i = ![(teW pf (i 0)).toNat, 0, 0] :=
  congrArg (fun w : BitVec 32 => (![w.toNat, 0, 0] : Fin 3 → ℕ)) (at_te pf i _ (point_val i) (inb i) h1)
theorem t2_eq (pf : pre0.Contents (Elt F)) (i : grid0.Coords) (inb) (h1) :
    cc0_transform_2 inb h1 pf i = ![(teW pf (i 0)).toNat, 0, 0] :=
  congrArg (fun w : BitVec 32 => (![w.toNat, 0, 0] : Fin 3 → ℕ)) (at_te pf i _ (point_val i) (inb i) h1)
theorem t3_eq (pf : pre0.Contents (Elt F)) (i : grid0.Coords) (inb) (h1) :
    cc0_transform_3 inb h1 pf i = ![(teW pf (i 0)).toNat, 0, 0] :=
  congrArg (fun w : BitVec 32 => (![w.toNat, 0, 0] : Fin 3 → ℕ)) (at_te pf i _ (point_val i) (inb i) h1)

/-- The tables name blocks inside their arrays: every expert below 32, a tile at least in use. -/
theorem ok_of (pf : pre0.Contents (Elt F)) (hte : ∀ i : Fin 288, (teW pf i).toNat < 32) (hw : 1 ≤ (nuW pf).toInt) :
    ok0 (F := F) pf := by
  have e3 (i : grid0.Coords) (f : Fin 3 → ℕ) (hf : f = ![(teW pf (i 0)).toNat, 0, 0]) (A B : ℕ) :
      ∀ a, (f a + 1) * (⟨3, ![1, A, B]⟩ : Shape).size a ≤ (⟨3, ![32, A, B]⟩ : Shape).size a := by
    subst hf
    have h := hte (i 0)
    intro a
    match a with
    | ⟨0, _⟩ => show ((teW pf (i 0)).toNat + 1) * 1 ≤ 32; omega
    | ⟨1, _⟩ => show (0 + 1) * A ≤ A; omega
    | ⟨2, _⟩ => show (0 + 1) * B ≤ B; omega
  refine ⟨fun i => ⟨?_, .inl rfl⟩,
    fun i => ⟨e3 i _ (t1_eq pf i _ _) 1024 512, .inr (Affine.block_words_rows (by decide) rfl)⟩,
    fun i => ⟨e3 i _ (t2_eq pf i _ _) 1024 512, .inr (Affine.block_words_rows (by decide) rfl)⟩,
    fun i => ⟨e3 i _ (t3_eq pf i _ _) 512 1024, .inr (Affine.block_words_rows (by decide) rfl)⟩⟩
  rw [t0_eq pf hw]
  have h : (i 0).val < 288 := (i 0).isLt
  intro a
  match a with
  | ⟨0, _⟩ => show (min (i 0).val ((nuW pf).toNat - 1) + 1) * 256 ≤ 73728; omega
  | ⟨1, _⟩ => show (0 + 1) * 1024 ≤ 1024; omega

/-! ## The precondition -/

theorem ofBool_eq_one (p : Bool) : (BitVec.ofBool p = 1#1) ↔ p = true := by
  cases p <;> decide

/-- What the precondition says of the two tables, decoded. -/
theorem planned_facts (a0 : IVec Cert.Pre_planned.S288 32) (a1 : IVec Cert.Pre_planned.S1 32)
    (a2 : FVec F Cert.Pre_planned.S73728x1024 .f32) (a3 a4 : FVec F Cert.Pre_planned.S32x1024x512 .f32)
    (a5 : FVec F Cert.Pre_planned.S32x512x1024 .f32)
    (h : Cert.Pre_planned.fn (F := F) a0 a1 a2 a3 a4 a5 = fun _ => 1#1) :
    (∀ i : Fin 288, (a0 (ValueIdx.ix1 i)).toNat < 32) ∧ 1 ≤ (a1 (ValueIdx.ix1 (0 : Fin 1))).toInt := by
  have e := congrFun h (fun a => a.elim0)
  dsimp only [Cert.Pre_planned.fn] at e
  obtain ⟨e1, e2⟩ := IntOp.andi_eq_one.1 e
  haveI : Subsingleton Cert.Pre_planned.S_.Idx := ⟨fun a b => funext fun k => k.elim0⟩
  constructor
  · intro i
    have hi := Host.reduce_andi_all _ _ _ _ _ e1 (ValueIdx.ix1 i)
    obtain ⟨l, u⟩ := IntOp.andi_eq_one.1 hi
    have l' : IntOp.cmpi .sge (a0 (ValueIdx.ix1 i)) 0#32 = 1#1 := l
    have u' : IntOp.cmpi .slt (a0 (ValueIdx.ix1 i)) 32#32 = 1#1 := u
    simp only [ofBool_eq_one, IntOp.cmpi, BitVec.sle, BitVec.slt, decide_eq_true_eq, BitVec.toInt, BitVec.toNat_ofNat] at l' u'
    have hlt := (a0 (ValueIdx.ix1 i)).isLt
    omega
  · have e2' : IntOp.cmpi .sge (a1 (ValueIdx.ix1 (0 : Fin 1))) 1#32 = 1#1 := by
      refine Eq.trans (congrArg (fun w => IntOp.cmpi .sge w 1#32) (congrArg a1 (funext fun a => ?_))) e2
      match a with
      | ⟨0, _⟩ => exact Subsingleton.elim (α := Fin 1) _ _
    simp only [ofBool_eq_one, IntOp.cmpi, BitVec.sle, decide_eq_true_eq, BitVec.toNat_ofNat] at e2'
    exact e2'

/-- The call's tables under the precondition. -/
theorem planned_tables (m : (ℓ : Loc nD τ sig) → Buf (Elt F) ℓ)
    (h : Cert.Pre_planned.fn (F := F) (m (((0 : Dev nD) : Thread nD τ).loc main_arg0)) (m (((0 : Dev nD) : Thread nD τ).loc main_arg1))
      (m (((0 : Dev nD) : Thread nD τ).loc main_arg2)) (m (((0 : Dev nD) : Thread nD τ).loc main_arg3)) (m (((0 : Dev nD) : Thread nD τ).loc main_arg4))
      (m (((0 : Dev nD) : Thread nD τ).loc main_arg5)) = fun _ => 1#1) :
    (∀ i : Fin 288, (teW (tbl m) i).toNat < 32) ∧ 1 ≤ (nuW (tbl m)).toInt :=
  planned_facts (m (((0 : Dev nD) : Thread nD τ).loc main_arg0)) (m (((0 : Dev nD) : Thread nD τ).loc main_arg1))
    (m (((0 : Dev nD) : Thread nD τ).loc main_arg2)) (m (((0 : Dev nD) : Thread nD τ).loc main_arg3))
    (m (((0 : Dev nD) : Thread nD τ).loc main_arg4)) (m (((0 : Dev nD) : Thread nD τ).loc main_arg5)) h

theorem ok_of_tables (m : (ℓ : Loc nD τ sig) → Buf (Elt F) ℓ)
    (h : (∀ i : Fin 288, (teW (tbl m) i).toNat < 32) ∧ 1 ≤ (nuW (tbl m)).toInt) : Ok m :=
  ok_of _ h.1 h.2

end Cert.MoeKernelIdeal.Moe

end
-- ==== Proof.MoeValue.lean ====
/-
  What the expert layer's kernel leaves in its result, entry by entry: the output of the row's expert where
  the row's tile is used, zero where it is not.
-/
module

public import proofs.«01_k».proof.Proof.MoeTables
public import Idealize.ShloMosaic.Lib.Pointwise
public import Idealize.ShloMosaic.Lib.Pipeline.ValueKit.Tiles
public import Idealize.ShloMosaic.Lib.Pipeline.ValueKit.Geometry
public import Idealize.ShloMosaic.Lib.Pipeline.ValueKit.Acc
public import Idealize.ShloMosaic.Lib.Pipeline.ValueKit.Point

@[expose] public section

set_option maxRecDepth 16384

noncomputable section

open Idealize.ShloMosaic Idealize.ShloMosaic.TcCoe Idealize.SL.Sem Idealize.ShloMosaic.WordCmp

namespace Cert.Moe

/-! ## The layer as a formula -/

/-- A row of tokens against a column of one expert's matrix. -/
def up (x : (⟨2, ![73728, 1024]⟩ : Shape).Idx → EReal) (w : (⟨3, ![32, 1024, 512]⟩ : Shape).Idx → EReal) (r : Fin 73728) (e : Fin 32) (k : Fin 512) : EReal :=
  ∑ d : Fin 1024, x (ix2 r d) * w (ix3 e d k)

/-- The gated product at a hidden column. -/
def hid (x : (⟨2, ![73728, 1024]⟩ : Shape).Idx → EReal) (w1 w3 : (⟨3, ![32, 1024, 512]⟩ : Shape).Idx → EReal) (r : Fin 73728) (e : Fin 32) (k : Fin 512) : EReal :=
  up x w1 r e k * Ideal.logistic (up x w1 r e k) * up x w3 r e k

/-- One expert's output for a row. -/
def expert (x : (⟨2, ![73728, 1024]⟩ : Shape).Idx → EReal) (w1 w3 : (⟨3, ![32, 1024, 512]⟩ : Shape).Idx → EReal)
    (w2 : (⟨3, ![32, 512, 1024]⟩ : Shape).Idx → EReal) (r : Fin 73728) (e : Fin 32) (j : Fin 1024) : EReal :=
  ∑ k : Fin 512, hid x w1 w3 r e k * w2 (ix3 e k j)

/-- The tile of a row, and the expert a word names. -/
def tileOf (r : Fin 73728) : Fin 288 := ⟨r.val / 256, by omega⟩
def expertOf (w : BitVec 32) : Fin 32 := ⟨w.toNat % 32, Nat.mod_lt _ (by decide)⟩

/-- The layer: each row of a used tile through its tile's expert, zero elsewhere. -/
def layer (te : (⟨1, ![288]⟩ : Shape).Idx → BitVec 32) (nu : (⟨1, ![1]⟩ : Shape).Idx → BitVec 32) (x : (⟨2, ![73728, 1024]⟩ : Shape).Idx → EReal)
    (w1 w3 : (⟨3, ![32, 1024, 512]⟩ : Shape).Idx → EReal) (w2 : (⟨3, ![32, 512, 1024]⟩ : Shape).Idx → EReal) (r : Fin 73728) (j : Fin 1024) : EReal :=
  if r.val / 256 < (nu (ValueIdx.ix1 (0 : Fin 1))).toNat then expert x w1 w3 w2 r (expertOf (te (ValueIdx.ix1 (tileOf r)))) j else 0

end Cert.Moe

namespace Cert.MoeKernelIdeal.Moe

open Cert.MoeKernelIdeal.Gen Cert.Moe

/-- One tile's payload at an index. -/
theorem pay_apply (x0 : Vec Ideal S256x1024 .f32) (x1 x2 : Vec Ideal S1x1024x512 .bf16) (x3 : Vec Ideal S1x512x1024 .bf16) (p : Fin 256) (j : Fin 1024) :
    k0_pay1 (F := Ideal) x0 x1 x2 x3 (ix2 p j) = ∑ k : Fin 512,
      ((∑ d : Fin 1024, x0 (ix2 p d) * x1 (ix3 0 d k)) * Ideal.logistic (∑ d : Fin 1024, x0 (ix2 p d) * x1 (ix3 0 d k))
        * (∑ d : Fin 1024, x0 (ix2 p d) * x2 (ix3 0 d k))) * x3 (ix3 0 k j) := by
  pointwise [k0_pay1]

/-- A tile's payload from blocks that are its rows and its expert's matrices is that expert's output. -/
theorem pay_eq (x0 : Vec Ideal S256x1024 .f32) (x1 x2 : Vec Ideal S1x1024x512 .bf16) (x3 : Vec Ideal S1x512x1024 .bf16)
    (x : (⟨2, ![73728, 1024]⟩ : Shape).Idx → EReal) (w1 w3 : (⟨3, ![32, 1024, 512]⟩ : Shape).Idx → EReal)
    (w2 : (⟨3, ![32, 512, 1024]⟩ : Shape).Idx → EReal) (p : Fin 256) (j : Fin 1024) (r : Fin 73728) (e : Fin 32)
    (h0 : ∀ d : Fin 1024, x0 (ix2 p d) = x (ix2 r d)) (h1 : ∀ (d : Fin 1024) (k : Fin 512), x1 (ix3 0 d k) = w1 (ix3 e d k))
    (h2 : ∀ (d : Fin 1024) (k : Fin 512), x2 (ix3 0 d k) = w3 (ix3 e d k)) (h3 : ∀ (k : Fin 512) (j : Fin 1024), x3 (ix3 0 k j) = w2 (ix3 e k j)) :
    k0_pay1 (F := Ideal) x0 x1 x2 x3 (ix2 p j) = expert x w1 w3 w2 r e j := by
  rw [pay_apply]
  unfold expert hid up
  simp only [h0, h1, h2, h3]

theorem zero_apply (y : S256x1024.Idx) : k0_pay2 (F := Ideal) y = 0 := by
  pointwise [k0_pay2]

section
variable (m : (ℓ : Loc nD τ sig) → Buf (Elt Ideal) ℓ) (c : Dev nD)

theorem v0_at (e : Fin 32) (d : Fin 1024) (k : Fin 512) : V m c main_v0 (ix3 e d k) = m ((c : Thread nD τ).loc main_arg3) (ix3 e d k) := by
  show StableHlo.after hostOps0 _ _ _ = _
  after_reads_at
theorem v1_at (e : Fin 32) (d : Fin 1024) (k : Fin 512) : V m c main_v1 (ix3 e d k) = m ((c : Thread nD τ).loc main_arg4) (ix3 e d k) := by
  show StableHlo.after hostOps0 _ _ _ = _
  after_reads_at
theorem v2_at (e : Fin 32) (k : Fin 512) (j : Fin 1024) : V m c main_v2 (ix3 e k j) = m ((c : Thread nD τ).loc main_arg5) (ix3 e k j) := by
  show StableHlo.after hostOps0 _ _ _ = _
  after_reads_at

variable (hO : Ok m) (hte : ∀ i : Fin 288, (teW (tbl m) i).toNat < 32) (hw : 1 ≤ (nuW (tbl m)).toInt)

/-! ## The blocks a tile reads -/

theorem coord_eq : ∀ t : Fin grid0.N, (grid0.coords t 0).val = t.val := by decide +kernel

include hw in
/-- A used tile reads its own rows. -/
theorem iblk0_at (t : Fin (cfgM m hO).N) (ht : (grid0.coords t 0).val < (nuW (tbl m)).toNat) (p : Fin 256) (d : Fin 1024) (r : Fin 73728)
    (hr : r.val = (grid0.coords t 0).val * 256 + p.val) :
    iblk m hO c 0 t (ix2 p d) = m ((c : Thread nD τ).loc main_arg2) (ix2 r d) := by
  refine Eq.trans ?_ (congrFun (V_arg2 m c) _)
  have e := t0_eq (tbl m) hw (grid0.coords t) inb_S1_S1_0 numel1_S1
  refine congrArg (V m c main_arg2) (funext fun a => Fin.ext ?_)
  match a with
  | ⟨0, _⟩ =>
    show cc0_transform_0 inb_S1_S1_0 numel1_S1 (tbl m) (grid0.coords t) 0 * 256 + 1 * p.val = r.val
    rw [e]
    show min (grid0.coords t 0).val ((nuW (tbl m)).toNat - 1) * 256 + 1 * p.val = r.val
    rw [min_eq_left (by omega), hr, one_mul]
  | ⟨1, _⟩ =>
    show cc0_transform_0 inb_S1_S1_0 numel1_S1 (tbl m) (grid0.coords t) 1 * 1024 + 1 * d.val = d.val
    rw [e]
    show 0 * 1024 + 1 * d.val = d.val
    omega

include hte in
/-- A tile reads its expert's matrices. -/
theorem iblk1_at (t : Fin (cfgM m hO).N) (d : Fin 1024) (k : Fin 512) :
    iblk m hO c 1 t (ix3 0 d k) = m ((c : Thread nD τ).loc main_arg3) (ix3 (expertOf (teW (tbl m) (grid0.coords t 0))) d k) := by
  refine Eq.trans ?_ (v0_at m c _ d k)
  have e := t1_eq (tbl m) (grid0.coords t) k0_off1_inb numel1_S1
  have h := hte (grid0.coords t 0)
  refine congrArg (V m c main_v0) (funext fun a => Fin.ext ?_)
  match a with
  | ⟨0, _⟩ =>
    show cc0_transform_1 k0_off1_inb numel1_S1 (tbl m) (grid0.coords t) 0 * 1 + 1 * 0 = (teW (tbl m) (grid0.coords t 0)).toNat % 32
    rw [e, Nat.mod_eq_of_lt h]
    exact (Nat.mul_one _)
  | ⟨1, _⟩ =>
    show cc0_transform_1 k0_off1_inb numel1_S1 (tbl m) (grid0.coords t) 1 * 1024 + 1 * d.val = d.val
    rw [e]
    show 0 * 1024 + 1 * d.val = d.val
    omega
  | ⟨2, _⟩ =>
    show cc0_transform_1 k0_off1_inb numel1_S1 (tbl m) (grid0.coords t) 2 * 512 + 1 * k.val = k.val
    rw [e]
    show 0 * 512 + 1 * k.val = k.val
    omega

include hte in
theorem iblk2_at (t : Fin (cfgM m hO).N) (d : Fin 1024) (k : Fin 512) :
    iblk m hO c 2 t (ix3 0 d k) = m ((c : Thread nD τ).loc main_arg4) (ix3 (expertOf (teW (tbl m) (grid0.coords t 0))) d k) := by
  refine Eq.trans ?_ (v1_at m c _ d k)
  have e := t2_eq (tbl m) (grid0.coords t) k0_off1_inb numel1_S1
  have h := hte (grid0.coords t 0)
  refine congrArg (V m c main_v1) (funext fun a => Fin.ext ?_)
  match a with
  | ⟨0, _⟩ =>
    show cc0_transform_2 k0_off1_inb numel1_S1 (tbl m) (grid0.coords t) 0 * 1 + 1 * 0 = (teW (tbl m) (grid0.coords t 0)).toNat % 32
    rw [e, Nat.mod_eq_of_lt h]
    exact (Nat.mul_one _)
  | ⟨1, _⟩ =>
    show cc0_transform_2 k0_off1_inb numel1_S1 (tbl m) (grid0.coords t) 1 * 1024 + 1 * d.val = d.val
    rw [e]
    show 0 * 1024 + 1 * d.val = d.val
    omega
  | ⟨2, _⟩ =>
    show cc0_transform_2 k0_off1_inb numel1_S1 (tbl m) (grid0.coords t) 2 * 512 + 1 * k.val = k.val
    rw [e]
    show 0 * 512 + 1 * k.val = k.val
    omega

include hte in
theorem iblk3_at (t : Fin (cfgM m hO).N) (k : Fin 512) (j : Fin 1024) :
    iblk m hO c 3 t (ix3 0 k j) = m ((c : Thread nD τ).loc main_arg5) (ix3 (expertOf (teW (tbl m) (grid0.coords t 0))) k j) := by
  refine Eq.trans ?_ (v2_at m c _ k j)
  have e := t3_eq (tbl m) (grid0.coords t) k0_off1_inb numel1_S1
  have h := hte (grid0.coords t 0)
  refine congrArg (V m c main_v2) (funext fun a => Fin.ext ?_)
  match a with
  | ⟨0, _⟩ =>
    show cc0_transform_3 k0_off1_inb numel1_S1 (tbl m) (grid0.coords t) 0 * 1 + 1 * 0 = (teW (tbl m) (grid0.coords t 0)).toNat % 32
    rw [e, Nat.mod_eq_of_lt h]
    exact (Nat.mul_one _)
  | ⟨1, _⟩ =>
    show cc0_transform_3 k0_off1_inb numel1_S1 (tbl m) (grid0.coords t) 1 * 512 + 1 * k.val = k.val
    rw [e]
    show 0 * 512 + 1 * k.val = k.val
    omega
  | ⟨2, _⟩ =>
    show cc0_transform_3 k0_off1_inb numel1_S1 (tbl m) (grid0.coords t) 2 * 1024 + 1 * j.val = j.val
    rw [e]
    show 0 * 1024 + 1 * j.val = j.val
    omega

/-! ## The result -/

/-- The body computes a tile exactly where it is used. -/
theorem cond1_iff (i : grid0.Coords) (w : BitVec 32) (hw : 1 ≤ w.toInt) : k0_cond1 i w = 1#1 ↔ (i 0).val < w.toNat := by
  have hi : (i 0).val < 288 := (i 0).isLt
  have hlt := w.isLt
  have hw' : w.toNat < 2 ^ 31 := by
    rw [BitVec.toInt_eq_toNat_cond] at hw
    split at hw <;> omega
  have h2 : (BitVec.ofNat 32 (i 0).val).toNat = (i 0).val := by
    rw [BitVec.toNat_ofNat]; omega
  have hs : (BitVec.ofNat 32 (i 0).val).slt w = decide ((i 0).val < w.toNat) := by
    rw [BitVec.slt, BitVec.toInt_eq_toNat_cond, BitVec.toInt_eq_toNat_cond, h2, if_pos (by omega), if_pos (by omega)]
    simp only [Nat.cast_lt]
  unfold k0_cond1
  simp only [Scalar.cmpi, Scalar.extui, IntOp.cmpi, hs]
  by_cases h : (i 0).val < w.toNat <;> simp [h]

/-- The layer on the kernel's arguments. -/
def val : Buf (Elt Ideal) ((c : Thread nD τ).loc main_v3) := fun i =>
  layer (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (i 0) (i 1)

include hte hw in
/-- What a tile leaves in the output's block. -/
theorem tile_at (t : Fin (cfgM m hO).N) (p : Fin 256) (j : Fin 1024) (r : Fin 73728) (hr : r.val = (grid0.coords t 0).val * 256 + p.val) :
    tileOut m hO c t (ix2 p j) = val m c (ix2 r j) := by
  obtain rfl : c = 0 := Subsingleton.elim _ _
  have hd : r.val / 256 = (grid0.coords t 0).val := by omega
  have ht : tileOf r = grid0.coords t 0 := Fin.ext hd
  unfold tileOut outBlock
  show _ = layer _ _ _ _ _ _ r j
  unfold layer
  rw [hd, ht]
  by_cases h : (grid0.coords t 0).val < (nuW (tbl m)).toNat
  · rw [if_pos ((cond1_iff _ _ hw).2 h)]
    refine Eq.trans ?_ (if_pos h).symm
    exact pay_eq _ _ _ _ _ _ _ _ p j r _ (fun d => iblk0_at m 0 hO hw t h p d r hr) (iblk1_at m 0 hO hte t) (iblk2_at m 0 hO hte t) (iblk3_at m 0 hO hte t)
  · rw [if_neg (fun e => h ((cond1_iff _ _ hw).1 e)), zero_apply]
    exact (if_neg h).symm

include hte hw in
theorem flushed_eq (t : Fin (cfgM m hO).N) :
    (dats m hO 0 c).flushed 4 t = (((cfgM m hO).win 4).blk t).view.read (Elt Ideal) (val m c) := by
  show ((cfgM m hO).win 4).cut (grid0.coords t) ((dats m hO 0 c).after 4 t) = _
  rw [after_4]
  funext (y : S256x1024.Idx)
  idx_vars y
  have hc : (grid0.coords t 0).val < 288 := (grid0.coords t 0).isLt
  refine (tile_at m c hO hte hw t y0 y1 ⟨(grid0.coords t 0).val * 256 + y0.val, by omega⟩ rfl).trans ?_
  refine congrArg (val m c) (funext fun a => Fin.ext ?_)
  have e : (BitVec.ofNat 32 (grid0.coords t 0).val).toNat = (grid0.coords t 0).val := by
    rw [BitVec.toNat_ofNat]; omega
  match a with
  | ⟨0, _⟩ =>
    show (grid0.coords t 0).val * 256 + y0.val = (BitVec.ofNat 32 (grid0.coords t 0).val).toNat * 256 + 1 * y0.val
    rw [e, one_mul]
  | ⟨1, _⟩ =>
    show y1.val = 0 * 1024 + 1 * y1.val
    omega

/-- Every tile is written back. -/
theorem flush_4 (t : Fin (cfgM m hO).N) : ((cfgM m hO).win 4).flush t = true :=
  (Pipeline.Window.flushOf_reads cc0_transform_4 reads0_4 hreads0_4 0 (by decide) (by decide)
    (Pipeline.Window.sep_of_coord cc0_transform_4 0 0 (fun _ => rfl) (by decide)) (P := 1) (m := 0) (by decide) rfl t).mpr (Nat.mod_one _)

/-- The tiles cover the result. -/
theorem cover (i : S73728x1024.Idx) :
    ∃ t : Fin (cfgM m hO).N, ((cfgM m hO).win 4).flush t = true ∧ i ∈ (((cfgM m hO).win 4).blk t).view.set := by
  have h0 : (i 0).val < 73728 := (i 0).isLt
  have hN : grid0.N = 288 := by decide +kernel
  let t : Fin grid0.N := ⟨(i 0).val / 256, by omega⟩
  refine ⟨t, flush_4 m hO t, ?_⟩
  show i ∈ ((View.whole main_v3).slice (((cfgM m hO).win 4).rect t)).set
  erw [View.set_slice_whole]
  refine (Pipeline.Window.mem_rect_iff ((cfgM m hO).win 4) t i (by rfl)).mpr fun a => ?_
  have e : (BitVec.ofNat 32 (grid0.coords t 0).val).toNat = (i 0).val / 256 := by
    rw [coord_eq, BitVec.toNat_ofNat]
    show (i 0).val / 256 % 2 ^ 32 = _
    omega
  match a with
  | ⟨0, _⟩ =>
    show (BitVec.ofNat 32 (grid0.coords t 0).val).toNat * 256 ≤ (i 0).val ∧ (i 0).val < (BitVec.ofNat 32 (grid0.coords t 0).val).toNat * 256 + 256
    rw [e]
    omega
  | ⟨1, _⟩ =>
    show 0 * 1024 ≤ (i 1).val ∧ (i 1).val < 0 * 1024 + 1024
    have h1 : (i 1).val < 1024 := (i 1).isLt
    omega

include hte hw in
/-- The kernel's result is the layer on its arguments. -/
theorem final : (dats m hO 0 c).arrAt 4 (cfgM m hO).N = val m c :=
  (dats m hO 0 c).arrAt_eq_of_cover 4 (val m c) (fun t _ => flushed_eq m c hO hte hw t) (cover m hO)

end
end Cert.MoeKernelIdeal.Moe

end
-- ==== Proof.MoeRef.lean ====
/-
  The reference's expert layer read entry by entry: the gate of a row and an expert, the experts' outputs, and
  the sum over the experts, which leaves the output of the row's own expert.
-/
module

public import proofs.«01_k».proof.Proof.MoeValue
public import proofs.«01_k».proof.Proof.Gen.MoeReferenceIdeal.Run
public import Idealize.ShloMosaic.Lib.Pointwise
public import Idealize.ShloMosaic.Lib.WordCmp

@[expose] public section

set_option maxRecDepth 16384

noncomputable section

open Idealize.ShloMosaic Idealize.ShloMosaic.TcCoe Idealize.SL.Sem Idealize.ShloMosaic.WordCmp

namespace Cert.MoeReferenceIdeal.Moe

open Cert.MoeReferenceIdeal Cert.MoeReferenceIdeal.Gen Cert.Moe

/-- The expert's mark in a tile's row of the table, as a number. -/
def mark (te : IVec S288 32) : FVec Ideal S288x32 .f32 :=
  uitofp .f32 (cmpi .eq (broadcastInDim S288x32 ![0, 1] bcast_S288x1_S288x32_0_1 (broadcastInDim S288x1 ![0] bcast_S288_S288x1_0 te)) (broadcastInDim S288x32 ![0, 1] bcast_S1x32_S288x32_0_1 (iotaInDim S1x32 32 1)))

/-- The tiles in use, one bit for each tile and expert. -/
def inUse (nu : IVec S1 32) : IVec S288x32 1 :=
  broadcastInDim S288x32 ![0, 1] bcast_S288x1_S288x32_0_1 (broadcastInDim S288x1 ![0] bcast_S288_S288x1_0 (cmpi .slt (iotaInDim S288 32 0) (broadcastInDim S288 ![] bcast_S_S288 (shapeCast _ nu shapeCasts_S1_S_))))

/-- The gate of a row and an expert. -/
def gate (te : IVec S288 32) (nu : IVec S1 32) : FVec Ideal S73728x32 .f32 :=
  shapeCast _ (broadcastInDim S288x256x32 ![0, 2] bcast_S288x32_S288x256x32_0_2 (select (inUse nu) (mark te) (broadcastInDim S288x32 ![] bcast_S_S288x32 (id (constant (F := Ideal) S_ .f32 0x00000000#32))))) shapeCasts_S288x256x32_S73728x32

/-- A row against a column of each expert's matrix. -/
def upR (x : FVec Ideal S73728x1024 .f32) (w : FVec Ideal S32x1024x512 .f32) : FVec Ideal S73728x32x512 .f32 :=
  Host.dotGeneral dot_S73728x1024_S32x1024x512_S73728x32x512_1_1_0_02_n_n none x w

/-- The smooth step of an array, entry by entry. -/
def step (a : FVec Ideal S73728x32x512 .f32) : FVec Ideal S73728x32x512 .f32 :=
  mulf a (Host.divf (broadcastInDim S73728x32x512 ![] bcast_S_S73728x32x512 (constant (F := Ideal) S_ .f32 0x3F800000#32)) (addf (broadcastInDim S73728x32x512 ![] bcast_S_S73728x32x512 (constant (F := Ideal) S_ .f32 0x3F800000#32)) (Host.exp (Host.negf a))))

/-- Every expert's output for every row. -/
def outR (w2 : FVec Ideal S32x512x1024 .f32) (h : FVec Ideal S73728x32x512 .f32) : FVec Ideal S73728x32x1024 .f32 :=
  transpose S73728x32x1024 [2, 0, 1] (Host.dotGeneral dot_S32x512x1024_S73728x32x512_S32x1024x73728_1_2_2_0_0_1 none w2 h) transposes_S32x1024x73728_S73728x32x1024_2_0_1

/-- The gated sum over the experts. -/
def mixR (g : FVec Ideal S73728x32 .f32) (y : FVec Ideal S73728x32x1024 .f32) : FVec Ideal S73728x1024 .f32 :=
  Host.reduceAdd (mulf (broadcastInDim S73728x32x1024 ![0, 1, 2] bcast_S73728x32x1_S73728x32x1024_0_1_2 (broadcastInDim S73728x32x1 ![0, 1] bcast_S73728x32_S73728x32x1_0_1 g)) y) (constant (F := Ideal) S_ .f32 0x00000000#32) reducesTo_S73728x32x1024_S73728x1024_d1 h_S_

/-- A tile's number compared with the count of used tiles. -/
theorem slt_word (n : ℕ) (W : BitVec 32) (hn : n < 288) (hw : 1 ≤ W.toInt) :
    IntOp.cmpi .slt (BitVec.ofNat 32 n) W = BitVec.ofBool (decide (n < W.toNat)) := by
  have hlt := W.isLt
  have hw' : W.toNat < 2 ^ 31 := by
    rw [BitVec.toInt_eq_toNat_cond] at hw
    split at hw <;> omega
  have h2 : (BitVec.ofNat 32 n).toNat = n := by
    rw [BitVec.toNat_ofNat]; omega
  simp only [IntOp.cmpi]
  rw [BitVec.slt, BitVec.toInt_eq_toNat_cond, BitVec.toInt_eq_toNat_cond, h2, if_pos (by omega), if_pos (by omega)]
  simp only [Nat.cast_lt]

/-- The mark of an expert against a word that names one. -/
theorem mark_word (T : BitVec 32) (ht : T.toNat < 32) (e : Fin 32) :
    FloatOps.uitofp (F := Ideal) .f32 (IntOp.cmpi CmpIPredicate.eq T (BitVec.ofNat 32 e.val)) = if e = expertOf T then (1 : EReal) else 0 := by
  have he : (T = BitVec.ofNat 32 e.val) ↔ e = expertOf T := by
    constructor
    · intro h
      refine Fin.ext ?_
      show e.val = T.toNat % 32
      rw [h, BitVec.toNat_ofNat]
      omega
    · intro h
      refine BitVec.eq_of_toNat_eq ?_
      rw [h, BitVec.toNat_ofNat]
      show T.toNat = T.toNat % 32 % 2 ^ 32
      omega
  simp only [IntOp.cmpi]
  by_cases h : e = expertOf T
  · rw [if_pos h, beq_iff_eq.2 (he.2 h)]
    show (((BitVec.ofBool true).toNat : ℝ) : EReal) = 1
    simp
  · rw [if_neg h, beq_false_of_ne (fun h' => h (he.1 h'))]
    show (((BitVec.ofBool false).toNat : ℝ) : EReal) = 0
    simp

theorem gate_apply (te : IVec S288 32) (nu : IVec S1 32) (hte : ∀ i : Fin 288, (te (ValueIdx.ix1 i)).toNat < 32) (hw : 1 ≤ (nu (ValueIdx.ix1 (0 : Fin 1))).toInt)
    (r : Fin 73728) (e : Fin 32) :
    gate te nu (ix2 r e) = if r.val / 256 < (nu (ValueIdx.ix1 (0 : Fin 1))).toNat ∧ e = expertOf (te (ValueIdx.ix1 (tileOf r))) then 1 else 0 := by
  pointwise [gate, inUse, mark]
  have e1 : (ix1 (0 : Fin 1) : S1.Idx) = ValueIdx.ix1 (0 : Fin 1) := funext fun a => by fin_cases a; rfl
  have e2 : (ix1 (tileOf r) : S288.Idx) = ValueIdx.ix1 (tileOf r) := funext fun a => by fin_cases a; rfl
  have o : (id (constant (F := Ideal) S_ .f32 0x00000000#32)) ix0 = (0 : EReal) := Ideal.ofBits_zero_f32
  rw [o, e1]
  show Scalar.select _ (FloatOps.uitofp .f32 (IntOp.cmpi CmpIPredicate.eq (te (ix1 (tileOf r))) (BitVec.ofNat 32 e.val))) _ = _
  rw [e2]
  have ht := hte (tileOf r)
  generalize te (ValueIdx.ix1 (tileOf r)) = T at ht ⊢
  generalize nu (ValueIdx.ix1 (0 : Fin 1)) = W at hw ⊢
  have hr : r.val / 256 < 288 := (tileOf r).isLt
  rw [slt_word _ W hr hw, select_ofBool, mark_word T ht]
  by_cases h : r.val / 256 < W.toNat <;> simp [h]

theorem step_apply (a : FVec Ideal S73728x32x512 .f32) (i : S73728x32x512.Idx) : step a i = a i * Ideal.logistic (a i) := by
  pointwise [step]
  rfl

theorem upR_apply (x : FVec Ideal S73728x1024 .f32) (w : FVec Ideal S32x1024x512 .f32) (r : Fin 73728) (e : Fin 32) (k : Fin 512) :
    upR x w (ix3 r e k) = up x w r e k := by
  pointwise [upR]
  rfl

theorem outR_apply (w2 : FVec Ideal S32x512x1024 .f32) (h : FVec Ideal S73728x32x512 .f32) (r : Fin 73728) (e : Fin 32) (j : Fin 1024) :
    outR w2 h (ix3 r e j) = ∑ k : Fin 512, h (ix3 r e k) * w2 (ix3 e k j) := by
  pointwise [outR]
  exact Finset.sum_congr rfl fun k _ => mul_comm _ _

theorem mixR_apply (g : FVec Ideal S73728x32 .f32) (y : FVec Ideal S73728x32x1024 .f32) (r : Fin 73728) (j : Fin 1024) :
    mixR g y (ix2 r j) = ∑ e : Fin 32, g (ix2 r e) * y (ix3 r e j) := by
  pointwise [mixR]

/-- The reference's result is the layer. -/
theorem res_apply (te : IVec S288 32) (nu : IVec S1 32) (x : FVec Ideal S73728x1024 .f32) (w1 w3 : FVec Ideal S32x1024x512 .f32) (w2 : FVec Ideal S32x512x1024 .f32)
    (hte : ∀ i : Fin 288, (te (ValueIdx.ix1 i)).toNat < 32) (hw : 1 ≤ (nu (ValueIdx.ix1 (0 : Fin 1))).toInt) (r : Fin 73728) (j : Fin 1024) :
    mixR (gate te nu) (outR w2 (mulf (step (upR x w1)) (upR x w3))) (ix2 r j) = layer te nu x w1 w3 w2 r j := by
  rw [mixR_apply]
  simp only [gate_apply te nu hte hw]
  unfold layer
  by_cases h : r.val / 256 < (nu (ValueIdx.ix1 (0 : Fin 1))).toNat
  · rw [if_pos h, Finset.sum_eq_single (expertOf (te (ValueIdx.ix1 (tileOf r))))]
    · rw [if_pos ⟨h, rfl⟩, one_mul, outR_apply]
      unfold expert hid
      refine Finset.sum_congr rfl fun k _ => congrArg (· * _) ?_
      show step (upR x w1) _ * upR x w3 _ = _
      rw [step_apply, upR_apply, upR_apply]
    · intro e _ he
      rw [if_neg (fun q => he q.2), zero_mul]
    · intro q
      exact absurd (Finset.mem_univ _) q
  · rw [if_neg h]
    refine Finset.sum_eq_zero fun e _ => ?_
    rw [if_neg (fun q => h q.1), zero_mul]

/-- The run of the reference: the layer in its result, its arguments as they were, when the tables are in order. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v18) = mixR (gate (m ((c.tc : Thread nD τ).loc main_arg0)) (m ((c.tc : Thread nD τ).loc main_arg1)))
        (outR (m ((c.tc : Thread nD τ).loc main_arg5)) (mulf (step (upR (m ((c.tc : Thread nD τ).loc main_arg2)) (m ((c.tc : Thread nD τ).loc main_arg3))))
          (upR (m ((c.tc : Thread nD τ).loc main_arg2)) (m ((c.tc : Thread nD τ).loc main_arg4)))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Value.run (F := Ideal) m ρ

end Cert.MoeReferenceIdeal.Moe

end
-- ==== Proof.MoeMeet.lean ====
/-
  The claims of the expert layer: each of its programs runs and keeps its arguments, and the kernel and the
  reference end with one array.
-/
module

public import proofs.«01_k».proof.Defs
public import proofs.«01_k».proof.Proof.MoeSame
public import proofs.«01_k».proof.Proof.MoeRef
public import Idealize.ShloMosaic.Lib.Quiescent

@[expose] public section

noncomputable section

open Idealize.ShloMosaic Idealize.ShloMosaic.TcCoe Idealize.SL.Sem

namespace Cert.Moe

theorem frame_kernel : Cert.quiescent_MoeKernel := fun m ρ h =>
  Cert.MoeKernel.Moe.run (F := Bits) m ρ (Cert.MoeKernelIdeal.Moe.ok_of_tables (F := Bits) m (Cert.MoeKernelIdeal.Moe.planned_tables (F := Bits) m (h 0)))

theorem frame_ideal : Cert.quiescent_MoeKernelIdeal := fun m ρ h =>
  (θ_run Cert.MoeKernelIdeal.defs _ _).mono (fun _ h => ⟨fun c => (h.1 c).2, h.2⟩)
    (Cert.MoeKernelIdeal.Moe.run (F := Ideal) m ρ (Cert.MoeKernelIdeal.Moe.ok_of_tables m (Cert.MoeKernelIdeal.Moe.planned_tables m (h 0))))

theorem frame_reference : Cert.quiescent_MoeReferenceIdeal := fun m ρ _ =>
  (θ_run Cert.MoeReferenceIdeal.defs _ _).mono (fun r h => ⟨fun c => (h c).2, Idealize.ShloMosaic.sem_eq_zero_of_no_sems (by decide) r.2⟩)
    (Cert.MoeReferenceIdeal.Moe.run m ρ)

theorem frame_reference_planned : Cert.quiescent_MoeReferenceIdeal_pre_planned := fun m ρ _ => frame_reference m ρ trivial

/-- Both programs of the expert layer end with the layer on the arguments. -/
theorem algebraic : Cert.algebraic_MoeKernelIdeal_MoeReferenceIdeal := by
  intro m ρ m' ρ' hpre hagree
  have tabs := Cert.MoeKernelIdeal.Moe.planned_tables (F := Ideal) m (hpre 0)
  have hO := Cert.MoeKernelIdeal.Moe.ok_of_tables m tabs
  refine ⟨fun c => Cert.MoeKernelIdeal.Moe.val m c,
    (θ_run _ _ _).mono (fun _ h c => ⟨(h.1 c).1.trans (Cert.MoeKernelIdeal.Moe.final m c hO tabs.1 tabs.2), (h.1 c).2⟩) (Cert.MoeKernelIdeal.Moe.run (F := Ideal) m ρ hO),
    (θ_run _ _ _).mono (fun _ h c => ⟨(h c).1.trans ?_, (h c).2⟩) (Cert.MoeReferenceIdeal.Moe.run m' ρ')⟩
  obtain rfl : c = 0 := Subsingleton.elim _ _
  obtain ⟨g0, g1, g2, g3, g4, g5⟩ := hagree 0
  rw [g0, g1, g2, g3, g4, g5]
  funext j
  rw [eq_ix2 j]
  exact Cert.MoeReferenceIdeal.Moe.res_apply _ _ _ _ _ _ tabs.1 tabs.2 (j 0) (j 1)

end Cert.Moe

end
-- ==== Proof.MixNorm.lean ====
/-
  The output projection with its layer norm as a formula, and the payload of one tile of rows as that formula.
-/
module

public import proofs.«01_k».proof.Proof.Gen.MixKernelIdeal.Skeleton
public import Idealize.ShloMosaic.Lib.Pointwise

@[expose] public section

set_option maxRecDepth 16384

noncomputable section

open Idealize.ShloMosaic Idealize.ShloMosaic.TcCoe Idealize.SL.Sem

namespace Cert.Mix

/-- The weight of the residual, the length of a row and the norm's small addend, as the programs' words give them. -/
def alpha : EReal := Ideal.ofBits FTy.f32 0x3FB504F3#32
def len : EReal := Ideal.ofBits FTy.f32 0x44800000#32
def eps : EReal := Ideal.ofBits FTy.f32 0x3727C5AC#32

/-- The mean of a row. -/
def mean (y : Fin 1024 → EReal) : EReal := Ideal.div (∑ j, y j) len

/-- A row less its mean, its mean square brought to one, scaled and shifted. -/
def norm (y : Fin 1024 → EReal) (g b : EReal) (j : Fin 1024) : EReal :=
  (y j - mean y) * Ideal.rsqrt (mean (fun k => (y k - mean y) * (y k - mean y)) + eps) * g + b

/-- A row of the residual and the projected mixer output. -/
def row (o x : Fin 1024 → EReal) (w : Fin 1024 → Fin 1024 → EReal) (j : Fin 1024) : EReal :=
  alpha * x j + ∑ d : Fin 1024, o d * w d j

/-- The result at row `r` and column `j`. -/
def out (o x : (⟨2, ![32768, 1024]⟩ : Shape).Idx → EReal) (w : (⟨2, ![1024, 1024]⟩ : Shape).Idx → EReal)
    (g b : (⟨1, ![1024]⟩ : Shape).Idx → EReal) (r : Fin 32768) (j : Fin 1024) : EReal :=
  norm (row (fun d => o (ix2 r d)) (fun d => x (ix2 r d)) (fun d k => w (ix2 d k))) (g (ix1 j)) (b (ix1 j)) j

end Cert.Mix

namespace Cert.MixKernelIdeal.Mix

open Cert.MixKernelIdeal Cert.MixKernelIdeal.Gen Cert.Mix

/-- One tile's payload at an index. -/
theorem pay_apply (x0 : Vec Ideal S512x1024 .bf16) (x2 : Vec Ideal S1024x1024 .bf16) (x1 : Vec Ideal S512x1024 .f32) (x3 x4 : Vec Ideal S1x1024 .f32)
    (p : Fin 512) (j : Fin 1024) :
    k0_pay4 (F := Ideal) x0 x2 x1 x3 x4 (ix2 p j)
      = norm (row (fun d => x0 (ix2 p d)) (fun d => x1 (ix2 p d)) (fun d k => x2 (ix2 d k))) (x3 (ix2 0 j)) (x4 (ix2 0 j)) j := by
  pointwise [k0_pay4]
  rfl

/-- A tile's payload from blocks that are its rows and the whole matrix and vectors. -/
theorem pay_eq (x0 : Vec Ideal S512x1024 .bf16) (x2 : Vec Ideal S1024x1024 .bf16) (x1 : Vec Ideal S512x1024 .f32) (x3 x4 : Vec Ideal S1x1024 .f32)
    (o x : (⟨2, ![32768, 1024]⟩ : Shape).Idx → EReal) (w : (⟨2, ![1024, 1024]⟩ : Shape).Idx → EReal) (g b : (⟨1, ![1024]⟩ : Shape).Idx → EReal)
    (p : Fin 512) (j : Fin 1024) (r : Fin 32768)
    (h0 : ∀ d : Fin 1024, x0 (ix2 p d) = o (ix2 r d)) (h1 : ∀ d : Fin 1024, x1 (ix2 p d) = x (ix2 r d))
    (h2 : ∀ d k : Fin 1024, x2 (ix2 d k) = w (ix2 d k)) (h3 : ∀ k : Fin 1024, x3 (ix2 0 k) = g (ix1 k)) (h4 : ∀ k : Fin 1024, x4 (ix2 0 k) = b (ix1 k)) :
    k0_pay4 (F := Ideal) x0 x2 x1 x3 x4 (ix2 p j) = out o x w g b r j := by
  rw [pay_apply]
  unfold out
  simp only [h0, h1, h2, h3, h4]

end Cert.MixKernelIdeal.Mix

end
-- ==== Proof.MixValue.lean ====
/-
  What the kernel of the output projection with its layer norm leaves in its first result, entry by entry.
-/
module

public import proofs.«01_k».proof.Proof.MixNorm
public import proofs.«01_k».proof.Proof.Gen.MixKernelIdeal.Value
public import Idealize.ShloMosaic.Lib.StableHlo.ReadAt
public import Idealize.ShloMosaic.Lib.Pipeline.ValueKit.Geometry
public import Idealize.ShloMosaic.Lib.Pipeline.ValueKit.Acc
public import Idealize.ShloMosaic.Lib.Pipeline.ValueKit.Point

@[expose] public section

set_option maxRecDepth 16384

noncomputable section

open Idealize.ShloMosaic Idealize.ShloMosaic.TcCoe Idealize.SL.Sem
open Idealize.ShloMosaic.Pipeline (Dat)

namespace Cert.MixKernelIdeal.Mix

open Cert.MixKernelIdeal Cert.MixKernelIdeal.Gen Cert.Mix

theorem ix_o (t : Fin cfg0.N) : win0_0.index t = ![t.val, 0] := (by decide +kernel : ∀ t : Fin grid0.N, win0_0.index t = ![t.val, 0]) t
theorem ix_x (t : Fin cfg0.N) : win0_1.index t = ![t.val, 0] := (by decide +kernel : ∀ t : Fin grid0.N, win0_1.index t = ![t.val, 0]) t
theorem ix_w (t : Fin cfg0.N) : win0_2.index t = ![0, 0] := (by decide +kernel : ∀ t : Fin grid0.N, win0_2.index t = ![0, 0]) t
theorem ix_g (t : Fin cfg0.N) : win0_3.index t = ![0, 0] := (by decide +kernel : ∀ t : Fin grid0.N, win0_3.index t = ![0, 0]) t
theorem ix_b (t : Fin cfg0.N) : win0_4.index t = ![0, 0] := (by decide +kernel : ∀ t : Fin grid0.N, win0_4.index t = ![0, 0]) t
theorem ix_r (t : Fin cfg0.N) : win0_8.index t = ![t.val, 0] := (by decide +kernel : ∀ t : Fin grid0.N, win0_8.index t = ![t.val, 0]) t

section
variable (m : (ℓ : Loc nD τ sig) → Buf (Elt Ideal) ℓ) (c : Dev nD)

theorem v9_at (d k : Fin 1024) : V m c main_v9 (ix2 d k) = m ((c : Thread nD τ).loc main_arg2) (ix2 d k) := by
  show StableHlo.after _ _ _ _ = _
  after_reads_at
theorem v10_at (k : Fin 1024) : V m c main_v10 (ix2 0 k) = m ((c : Thread nD τ).loc main_arg3) (ix1 k) := by
  show StableHlo.after _ _ _ _ = _
  after_reads_at
theorem v11_at (k : Fin 1024) : V m c main_v11 (ix2 0 k) = m ((c : Thread nD τ).loc main_arg4) (ix1 k) := by
  show StableHlo.after _ _ _ _ = _
  after_reads_at

/-- The result on the kernel's arguments. -/
def val : Buf (Elt Ideal) ((c : Thread nD τ).loc main_v12_0) := fun i =>
  out (m ((c : Thread nD τ).loc main_arg0)) (m ((c : Thread nD τ).loc main_arg1)) (m ((c : Thread nD τ).loc main_arg2))
    (m ((c : Thread nD τ).loc main_arg3)) (m ((c : Thread nD τ).loc main_arg4)) (i 0) (i 1)

/-- What a point leaves in the first output's block: one payload of the point's blocks, whichever case runs. -/
theorem after_pay (t : Fin cfg0.N) : (outsAt0 m c t.val t.isLt).1 = k0_pay4 (F := Ideal) (iblk m c 0 t) (iblk m c 2 t) (iblk m c 1 t) (iblk m c 3 t) (iblk m c 4 t) := by
  by_cases h : t.val % 64 = 0
  · rw [outsAt0_A m c t h]
    frame_out
  · rw [outsAt0_B m c t h]
    frame_out

/-- A point's payload is the result's rows of that point. -/
theorem tile_at (t : Fin cfg0.N) (p : Fin 512) (j : Fin 1024) (r : Fin 32768) (hr : r.val = t.val * 512 + p.val) :
    k0_pay4 (F := Ideal) (iblk m c 0 t) (iblk m c 2 t) (iblk m c 1 t) (iblk m c 3 t) (iblk m c 4 t) (ix2 p j) = val m c (ix2 r j) := by
  refine pay_eq _ _ _ _ _ (m ((c : Thread nD τ).loc main_arg0)) (m ((c : Thread nD τ).loc main_arg1)) (m ((c : Thread nD τ).loc main_arg2))
    (m ((c : Thread nD τ).loc main_arg3)) (m ((c : Thread nD τ).loc main_arg4)) p j r ?_ ?_ ?_ ?_ ?_
  · intro d
    blk_simp [iblk]
    refine Eq.trans ?_ (congrFun (V_main_arg0 m c) _)
    exact congrArg (V m c main_arg0) (by blk_ext [ix_o])
  · intro d
    blk_simp [iblk]
    refine Eq.trans ?_ (congrFun (V_main_arg1 m c) _)
    exact congrArg (V m c main_arg1) (by blk_ext [ix_x])
  · intro d k
    blk_simp [iblk]
    refine Eq.trans ?_ (v9_at m c d k)
    exact congrArg (V m c main_v9) (by blk_ext [ix_w])
  · intro k
    blk_simp [iblk]
    refine Eq.trans ?_ (v10_at m c k)
    exact congrArg (V m c main_v10) (by blk_ext [ix_g])
  · intro k
    blk_simp [iblk]
    refine Eq.trans ?_ (v11_at m c k)
    exact congrArg (V m c main_v11) (by blk_ext [ix_b])

/-- The kernel's first result. -/
theorem final : (dats m 0 c).arrAt 8 cfg0.N = val m c := by
  refine (dats m 0 c).arrAt_eq_of_covers 8 _ (by decide +kernel) fun t hf y => ?_
  have ht : t.val < 64 := lt_of_lt_of_eq t.isLt (by decide +kernel : cfg0.N = 64)
  blk_simp
  rw [after0_8, after_pay]
  idx_vars y
  refine (tile_at m c t y0 y1 ⟨t.val * 512 + y0.val, by omega⟩ rfl).trans (congrArg (val m c) ?_)
  blk_ext [ix_r]

end
end Cert.MixKernelIdeal.Mix

end
-- ==== Proof.MixRef.lean ====
/-
  The reference of the output projection with its layer norm, read entry by entry.
-/
module

public import proofs.«01_k».proof.Proof.MixNorm
public import proofs.«01_k».proof.Proof.Gen.MixReferenceIdeal.Run

@[expose] public section

set_option maxRecDepth 16384

noncomputable section

open Idealize.ShloMosaic Idealize.ShloMosaic.TcCoe Idealize.SL.Sem

namespace Cert.MixReferenceIdeal.Mix

open Cert.MixReferenceIdeal Cert.MixReferenceIdeal.Gen Cert.Mix

/-- The residual and the projected mixer output. -/
def mixed (o : FVec Ideal S32768x1024 .bf16) (x : FVec Ideal S32768x1024 .f32) (w : FVec Ideal S1024x1024 .f32) : FVec Ideal S32768x1024 .f32 :=
  addf (mulf (broadcastInDim S32768x1024 ![] bcast_S_S32768x1024 (constant (F := Ideal) S_ .f32 0x3FB504F3#32)) x) (Host.dotGeneral dot_S32768x1024_S1024x1024_S32768x1024_1_0_0_1_n_n none (extf .f32 o bitsLt_bf16_f32) w)

/-- The mean of each row. -/
def rowMean (y : FVec Ideal S32768x1024 .f32) : FVec Ideal S32768x1 .f32 :=
  Host.divf (broadcastInDim S32768x1 ![0] bcast_S32768_S32768x1_0 (Host.reduceAdd y (constant (F := Ideal) S_ .f32 0x00000000#32) reducesTo_S32768x1024_S32768_d1 h_S_)) (broadcastInDim S32768x1 ![] bcast_S_S32768x1 (constant (F := Ideal) S_ .f32 0x44800000#32))

/-- Each row less its mean. -/
def centred (y : FVec Ideal S32768x1024 .f32) : FVec Ideal S32768x1024 .f32 :=
  subf y (broadcastInDim S32768x1024 ![0, 1] bcast_S32768x1_S32768x1024_0_1 (rowMean y))

/-- The layer norm of each row. -/
def normed (y : FVec Ideal S32768x1024 .f32) (g b : FVec Ideal S1024 .f32) : FVec Ideal S32768x1024 .f32 :=
  addf (mulf (mulf (centred y) (broadcastInDim S32768x1024 ![0, 1] bcast_S32768x1_S32768x1024_0_1 (Host.rsqrt (addf (rowMean (mulf (centred y) (centred y))) (broadcastInDim S32768x1 ![] bcast_S_S32768x1 (constant (F := Ideal) S_ .f32 0x3727C5AC#32))))))
    (broadcastInDim S32768x1024 ![0, 1] bcast_S1x1024_S32768x1024_0_1 (broadcastInDim S1x1024 ![1] bcast_S1024_S1x1024_1 g)))
    (broadcastInDim S32768x1024 ![0, 1] bcast_S1x1024_S32768x1024_0_1 (broadcastInDim S1x1024 ![1] bcast_S1024_S1x1024_1 b))

theorem mixed_apply (o : FVec Ideal S32768x1024 .bf16) (x : FVec Ideal S32768x1024 .f32) (w : FVec Ideal S1024x1024 .f32) (r : Fin 32768) (j : Fin 1024) :
    mixed o x w (ix2 r j) = row (fun d => o (ix2 r d)) (fun d => x (ix2 r d)) (fun d k => w (ix2 d k)) j := by
  pointwise [mixed]
  rfl

theorem rowMean_apply (y : FVec Ideal S32768x1024 .f32) (r : Fin 32768) : rowMean y (ix2 r 0) = mean fun j => y (ix2 r j) := by
  pointwise [rowMean]
  rfl

theorem centred_apply (y : FVec Ideal S32768x1024 .f32) (r : Fin 32768) (j : Fin 1024) :
    centred y (ix2 r j) = y (ix2 r j) - mean fun k => y (ix2 r k) := by
  pointwise [centred]
  rw [rowMean_apply]

theorem normed_apply (y : FVec Ideal S32768x1024 .f32) (g b : FVec Ideal S1024 .f32) (r : Fin 32768) (j : Fin 1024) :
    normed y g b (ix2 r j) = norm (fun k => y (ix2 r k)) (g (ix1 j)) (b (ix1 j)) j := by
  pointwise [normed]
  have e : rowMean (mulf (centred y) (centred y)) (ix2 r 0)
      = mean fun k => (y (ix2 r k) - mean fun k => y (ix2 r k)) * (y (ix2 r k) - mean fun k => y (ix2 r k)) := by
    rw [rowMean_apply]
    refine congrArg mean (funext fun k => ?_)
    show centred y (ix2 r k) * centred y (ix2 r k) = _
    rw [centred_apply]
  rw [e, centred_apply]
  rfl

/-- The reference's result at an index. -/
theorem res_apply (o : FVec Ideal S32768x1024 .bf16) (x : FVec Ideal S32768x1024 .f32) (w : FVec Ideal S1024x1024 .f32) (g b : FVec Ideal S1024 .f32)
    (r : Fin 32768) (j : Fin 1024) : normed (mixed o x w) g b (ix2 r j) = out o x w g b r j := by
  rw [normed_apply]
  unfold out
  simp only [mixed_apply]

/-- The run of the reference: the norm of the mixed rows in its result, its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v26) = normed (mixed (m ((c.tc : Thread nD τ).loc main_arg0)) (m ((c.tc : Thread nD τ).loc main_arg1)) (m ((c.tc : Thread nD τ).loc main_arg2)))
        (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  Value.run (F := Ideal) m ρ

end Cert.MixReferenceIdeal.Mix

end
-- ==== Proof.MixMeet.lean ====
/-
  The claims of the output projection with its layer norm: each of its programs runs and keeps its arguments, and
  the kernel and the reference end with one array.
-/
module

public import proofs.«01_k».proof.Defs
public import proofs.«01_k».proof.Proof.MixValue
public import proofs.«01_k».proof.Proof.MixRef
public import proofs.«01_k».proof.Proof.Gen.MixKernel.Frame
public import Idealize.ShloMosaic.Lib.Quiescent

@[expose] public section

noncomputable section

open Idealize.ShloMosaic Idealize.ShloMosaic.TcCoe Idealize.SL.Sem

namespace Cert.Mix

theorem frame_kernel : Cert.quiescent_MixKernel := fun m ρ _ => Cert.MixKernel.Gen.frame m ρ

theorem frame_ideal : Cert.quiescent_MixKernelIdeal := fun m ρ _ => Cert.MixKernelIdeal.Gen.frame m ρ

theorem frame_reference : Cert.quiescent_MixReferenceIdeal := fun m ρ _ =>
  (θ_run Cert.MixReferenceIdeal.defs _ _).mono (fun r h => ⟨fun c => (h c).2, Idealize.ShloMosaic.sem_eq_zero_of_no_sems (by decide) r.2⟩)
    (Cert.MixReferenceIdeal.Mix.run m ρ)

/-- Both programs end with the norm of the mixed rows. -/
theorem algebraic : Cert.algebraic_MixKernelIdeal_MixReferenceIdeal := by
  intro m ρ m' ρ' _ hagree
  refine ⟨fun c => Cert.MixKernelIdeal.Mix.val m c,
    (θ_run _ _ _).mono (fun _ h c => ⟨(h c).1.trans (Cert.MixKernelIdeal.Mix.final m c), (h c).2.2.2.2⟩) (Cert.MixKernelIdeal.Value.run_blocks (F := Ideal) m ρ),
    (θ_run _ _ _).mono (fun _ h c => ⟨(h c).1.trans ?_, (h c).2⟩) (Cert.MixReferenceIdeal.Mix.run m' ρ')⟩
  obtain ⟨g0, g1, g2, g3, g4, -, -, -, -⟩ := hagree c
  rw [g0, g1, g2, g3, g4]
  funext j
  rw [eq_ix2 j]
  exact Cert.MixReferenceIdeal.Mix.res_apply _ _ _ _ _ (j 0) (j 1)

end Cert.Mix

end
-- ==== Proof.ProjMeet.lean ====
/-
  The differential attention's query, key and value projections: a tile of rows at a time, the products of the rows
  with the three weight matrices, the queries scaled.  The kernel's claims, the reference's and their meeting.
-/
module

public import proofs.«01_k».proof.Defs
public import proofs.«01_k».proof.Proof.Gen.ProjKernel.Frame
public import proofs.«01_k».proof.Proof.Gen.ProjKernelIdeal.Value
public import proofs.«01_k».proof.Proof.Gen.ProjReferenceIdeal.Run
public import Idealize.ShloMosaic.Lib.Pointwise
public import Idealize.ShloMosaic.Lib.Quiescent
public import Idealize.ShloMosaic.Lib.StableHlo.ReadAt
public import Idealize.ShloMosaic.Lib.Pipeline.ValueKit.Geometry
public import Idealize.ShloMosaic.Lib.Pipeline.ValueKit.Acc
public import Idealize.ShloMosaic.Lib.Pipeline.ValueKit.Point

@[expose] public section

set_option maxRecDepth 16384

noncomputable section

open Idealize.ShloMosaic Idealize.ShloMosaic.TcCoe Idealize.SL.Sem
open Idealize.ShloMosaic.Pipeline (Dat)

namespace Cert.ProjKernelIdeal.Proj

open Cert.ProjKernelIdeal Cert.ProjKernelIdeal.Gen Cert.ProjKernelIdeal.Value

/-- Rows times a matrix. -/
def rowsTimes (X : FVec Ideal S32768x1024 .f32) (W : FVec Ideal S1024x1024 .f32) (i : Fin 32768) (j : Fin 1024) : EReal :=
  ∑ d : Fin 1024, X (ix2 i d) * W (ix2 d j)

/-- The number that the queries' scale is printed as. -/
def scl : EReal := Scalar.ofBits (F := Ideal) .f32 0x3E38AA3B#32

theorem ix_t0 (t : Fin cfg0.N) : win0_0.index t = ![t.val, 0] := (by decide +kernel : ∀ t : Fin grid0.N, win0_0.index t = ![t.val, 0]) t
theorem ix_w1 (t : Fin cfg0.N) : win0_1.index t = ![0, 0] := (by decide +kernel : ∀ t : Fin grid0.N, win0_1.index t = ![0, 0]) t
theorem ix_w2 (t : Fin cfg0.N) : win0_2.index t = ![0, 0] := (by decide +kernel : ∀ t : Fin grid0.N, win0_2.index t = ![0, 0]) t
theorem ix_w3 (t : Fin cfg0.N) : win0_3.index t = ![0, 0] := (by decide +kernel : ∀ t : Fin grid0.N, win0_3.index t = ![0, 0]) t
theorem ix_t4 (t : Fin cfg0.N) : win0_4.index t = ![t.val, 0] := (by decide +kernel : ∀ t : Fin grid0.N, win0_4.index t = ![t.val, 0]) t
theorem ix_t5 (t : Fin cfg0.N) : win0_5.index t = ![t.val, 0] := (by decide +kernel : ∀ t : Fin grid0.N, win0_5.index t = ![t.val, 0]) t
theorem ix_t6 (t : Fin cfg0.N) : win0_6.index t = ![t.val, 0] := (by decide +kernel : ∀ t : Fin grid0.N, win0_6.index t = ![t.val, 0]) t

section
variable (m : (ℓ : Loc nD τ sig) → Buf (Elt Ideal) ℓ) (c : Dev nD)

theorem v0_at (d h : Fin 1024) : V m c main_v0 (ix2 d h) = m ((c : Thread nD τ).loc main_arg1) (ix2 d h) := by
  show StableHlo.after _ _ _ _ = _
  after_reads_at
theorem v1_at (d h : Fin 1024) : V m c main_v1 (ix2 d h) = m ((c : Thread nD τ).loc main_arg2) (ix2 d h) := by
  show StableHlo.after _ _ _ _ = _
  after_reads_at
theorem v2_at (d h : Fin 1024) : V m c main_v2 (ix2 d h) = m ((c : Thread nD τ).loc main_arg3) (ix2 d h) := by
  show StableHlo.after _ _ _ _ = _
  after_reads_at

/-- The three results on the kernel's arguments. -/
def valq : Buf (Elt Ideal) ((c : Thread nD τ).loc main_v3_0) := fun i =>
  rowsTimes (m ((c : Thread nD τ).loc main_arg0)) (m ((c : Thread nD τ).loc main_arg1)) (i 0) (i 1) * scl
def valk : Buf (Elt Ideal) ((c : Thread nD τ).loc main_v3_1) := fun i =>
  rowsTimes (m ((c : Thread nD τ).loc main_arg0)) (m ((c : Thread nD τ).loc main_arg2)) (i 0) (i 1)
def valv : Buf (Elt Ideal) ((c : Thread nD τ).loc main_v3_2) := fun i =>
  rowsTimes (m ((c : Thread nD τ).loc main_arg0)) (m ((c : Thread nD τ).loc main_arg3)) (i 0) (i 1)

/-- The call leaves the scaled query projection in its first output, -/
theorem final_q : (dats m 0 c).arrAt 4 cfg0.N = valq m c := by
  refine (dats m 0 c).arrAt_eq_of_covers 4 _ (by decide +kernel) fun t hf y => ?_
  blk_simp
  rw [after0_4]; frame_out
  idx_vars y
  pointwise [k0_pay2, k0_pay1]
  show @Eq EReal _ _
  unfold valq rowsTimes
  refine congrArg₂ (· * ·) (Finset.sum_congr rfl fun x _ => congrArg₂ (· * ·) ?_ ?_) rfl
  · blk_simp [iblk]
    refine Eq.trans ?_ (congrFun (V_main_arg0 m c) _)
    exact congrArg (V m c main_arg0) (by blk_ext [ix_t0, ix_t4])
  · blk_simp [iblk]
    refine Eq.trans ?_ (v0_at m c x _)
    exact congrArg (V m c main_v0) (by blk_ext [ix_w1, ix_t4])

/-- the key projection in its second, -/
theorem final_k : (dats m 0 c).arrAt 5 cfg0.N = valk m c := by
  refine (dats m 0 c).arrAt_eq_of_covers 5 _ (by decide +kernel) fun t hf y => ?_
  blk_simp
  rw [after0_5]; frame_out
  idx_vars y
  pointwise [k0_pay3, k0_pay1]
  show @Eq EReal _ _
  unfold valk rowsTimes
  refine Finset.sum_congr rfl fun x _ => congrArg₂ (· * ·) ?_ ?_
  · blk_simp [iblk]
    refine Eq.trans ?_ (congrFun (V_main_arg0 m c) _)
    exact congrArg (V m c main_arg0) (by blk_ext [ix_t0, ix_t5])
  · blk_simp [iblk]
    refine Eq.trans ?_ (v1_at m c x _)
    exact congrArg (V m c main_v1) (by blk_ext [ix_w2, ix_t5])

/-- and the value projection in its third. -/
theorem final_v : (dats m 0 c).arrAt 6 cfg0.N = valv m c := by
  refine (dats m 0 c).arrAt_eq_of_covers 6 _ (by decide +kernel) fun t hf y => ?_
  blk_simp
  rw [after0_6]; frame_out
  idx_vars y
  pointwise [k0_pay4, k0_pay1]
  show @Eq EReal _ _
  unfold valv rowsTimes
  refine Finset.sum_congr rfl fun x _ => congrArg₂ (· * ·) ?_ ?_
  · blk_simp [iblk]
    refine Eq.trans ?_ (congrFun (V_main_arg0 m c) _)
    exact congrArg (V m c main_arg0) (by blk_ext [ix_t0, ix_t6])
  · blk_simp [iblk]
    refine Eq.trans ?_ (v2_at m c x _)
    exact congrArg (V m c main_v2) (by blk_ext [ix_w3, ix_t6])

end
end Cert.ProjKernelIdeal.Proj

namespace Cert.ProjReferenceIdeal.Proj

open Cert.ProjReferenceIdeal Cert.ProjReferenceIdeal.Gen

/-- The reference's products. -/
def prod (x : FVec Ideal S32768x1024 .f32) (w : FVec Ideal S1024x1024 .f32) : FVec Ideal S32768x1024 .bf16 :=
  truncf .bf16 (Host.dotGeneral dot_S32768x1024_S1024x1024_S32768x1024_1_0_0_1_n_n none x w) bitsLt_bf16_f32

/-- The reference's scaled product. -/
def scaled (x : FVec Ideal S32768x1024 .f32) (w : FVec Ideal S1024x1024 .f32) : FVec Ideal S32768x1024 .bf16 :=
  truncf .bf16 (mulf (Host.dotGeneral dot_S32768x1024_S1024x1024_S32768x1024_1_0_0_1_n_n none x w)
    (broadcastInDim S32768x1024 ![] bcast_S_S32768x1024 (constant (F := Ideal) S_ .f32 0x3E38AA3B#32))) bitsLt_bf16_f32

theorem prod_apply (x : FVec Ideal S32768x1024 .f32) (w : FVec Ideal S1024x1024 .f32) (r : Fin 32768) (j : Fin 1024) :
    prod x w (ix2 r j) = Cert.ProjKernelIdeal.Proj.rowsTimes x w r j := by
  pointwise [prod]
  rfl

theorem scaled_apply (x : FVec Ideal S32768x1024 .f32) (w : FVec Ideal S1024x1024 .f32) (r : Fin 32768) (j : Fin 1024) :
    scaled x w (ix2 r j) = Cert.ProjKernelIdeal.Proj.rowsTimes x w r j * Cert.ProjKernelIdeal.Proj.scl := by
  pointwise [scaled]
  rfl

end Cert.ProjReferenceIdeal.Proj

namespace Cert.Proj

theorem frame_kernel : Cert.quiescent_ProjKernel := fun m ρ _ => Cert.ProjKernel.Gen.frame m ρ

theorem frame_ideal : Cert.quiescent_ProjKernelIdeal := fun m ρ _ => Cert.ProjKernelIdeal.Gen.frame m ρ

theorem frame_reference : Cert.quiescent_ProjReferenceIdeal := fun m ρ _ =>
  (θ_run Cert.ProjReferenceIdeal.defs _ _).mono (fun r h => ⟨fun c => (h c).2.2.2, Idealize.ShloMosaic.sem_eq_zero_of_no_sems (by decide) r.2⟩)
    (Cert.ProjReferenceIdeal.Value.run (F := Ideal) m ρ)

open Cert.ProjReferenceIdeal.Proj in
/-- Both programs end with the rows' products with the three matrices. -/
theorem algebraic : Cert.algebraic_ProjKernelIdeal_ProjReferenceIdeal := by
  intro m ρ m' ρ' _ hagree
  refine ⟨fun c => Cert.ProjKernelIdeal.Proj.valq m c, fun c => Cert.ProjKernelIdeal.Proj.valk m c, fun c => Cert.ProjKernelIdeal.Proj.valv m c,
    (θ_run _ _ _).mono (fun _ h c => ⟨(h c).1.trans (Cert.ProjKernelIdeal.Proj.final_q m c), (h c).2.1.trans (Cert.ProjKernelIdeal.Proj.final_k m c),
      (h c).2.2.1.trans (Cert.ProjKernelIdeal.Proj.final_v m c), (h c).2.2.2⟩) (Cert.ProjKernelIdeal.Value.run_blocks (F := Ideal) m ρ),
    (θ_run _ _ _).mono (fun _ h c => ⟨(h c).1.trans ?_, (h c).2.1.trans ?_, (h c).2.2.1.trans ?_, (h c).2.2.2⟩) (Cert.ProjReferenceIdeal.Value.run (F := Ideal) m' ρ')⟩
  all_goals obtain ⟨g0, g1, g2, g3⟩ := hagree c
  · rw [g0, g1]
    funext j
    rw [eq_ix2 j]
    exact scaled_apply _ _ (j 0) (j 1)
  · rw [g0, g2]
    funext j
    rw [eq_ix2 j]
    exact prod_apply _ _ (j 0) (j 1)
  · rw [g0, g3]
    funext j
    rw [eq_ix2 j]
    exact prod_apply _ _ (j 0) (j 1)

end Cert.Proj

end
-- ==== Proof.DaBlock.lean ====
/-
  What one step of the differential attention leaves in its output window: the running maximum, sum and accumulator
  carried over the far key blocks, the block before the queries' own and the own block, then the closing quotient.
-/
module

public import proofs.«01_k».proof.Proof.Gen.DaKernelIdeal.Frame
public import Idealize.ShloMosaic.Lib.Pipeline.Value
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.DaKernelIdeal.Diff

open Cert.DaKernelIdeal Cert.DaKernelIdeal.Gen

variable {F : FTy → Type} [FloatOps F] [Named F]

theorem z2 : (![0, 0] : Fin 2 → Nat) = fun _ => 0 := funext fun a => by fin_cases a <;> rfl
theorem z3 : (![0, 0, 0] : Fin 3 → Nat) = fun _ => 0 := funext fun a => by fin_cases a <;> rfl

/-- A whole-block store, last, is what a read finds. -/
theorem read_full {sig : RefSig} {κ : Kind} {sp : Space} {S : Shape} {e : EltTy} (v : View sig κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩)]
  exact View.canon_cons_unit_zero h inb w L

/-- A load of a whole array. -/
theorem at_full {sg : RefSig} {κ' : Kind} {sp : Space} (v : View sg κ' sp S512x128 .f32) (f : v.ty.Contents (Elt F))
    : View.readAt (Elt F) v (Rect.unit (s := S512x128) ![0, 0] S512x128.size inb_S512x128_S512x128_0_0).toLoadRect f = v.read (Elt F) f := by
  rw [View.readAt_eq_ld, View.ld_unit_zero (S := S512x128) z2]

/-- The scratch triple: the running maximum, the running sum and the accumulator. -/
abbrev St (F : FTy → Type) : Type := Vec F S512x128 .f32 × Vec F S512x128 .f32 × Vec F S512x128 .f32

/-- The rows of the keys (or values) that trip `k` reads. -/
abbrev rowsAt (x : Vec F S1x4096x128 .bf16) (i : grid2.Coords) (k : Fin (k2_t1_loop i).trips) : Vec F S1x256x128 .bf16 :=
  View.ld x (Rect.unit (s := S1x4096x128) (k2_off1 i k) S1x256x128.size (k2_off1_inb i k))

/-- What one trip over a far block leaves in the scratch triple. -/
def trip (v10 : FVec F S512x128 .bf16) (kb vb : Vec F S1x256x128 .bf16) (s : St F) : St F :=
  (k2_pay24 (k2_pay3 v10 kb s.1), k2_pay6 v10 kb s.1 s.2.1, k2_pay7 v10 kb vb s.1 s.2.2)

/-- The scratch triple before trip `n` of the loop. -/
def trips (i : grid2.Coords) (v10 : FVec F S512x128 .bf16) (x1 x2 : Vec F S1x4096x128 .bf16) (s : St F) : ℕ → St F
  | 0 => s
  | n + 1 => if h : n < (k2_t1_loop i).trips then
      trip v10 (rowsAt x1 i ⟨n, h⟩) (rowsAt x2 i ⟨n, h⟩) (trips i v10 x1 x2 s n)
    else trips i v10 x1 x2 s n

section
variable (𝒱 : Variants) (bd : Option 𝒱.V) (c : Dev nD) (i : grid2.Coords) (arg3 : Memref sig .tc .vmem S1x256x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x256x512 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x256x128 .bf16) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole)
  (v0 : Vec F S1x256x128 .bf16) (x1 x2 : Vec F S1x4096x128 .bf16)

/-- One trip's stores, read back: the scratch triple becomes `trip` of what it was. -/
theorem trip_read (k : Fin (k2_t1_loop i).trips) (f13 : BufTy.Contents (Elt F) arg13.view.ty) (f14 : BufTy.Contents (Elt F) arg14.view.ty) (f15 : BufTy.Contents (Elt F) arg15.view.ty)
    (L13 L14 L15 : List (View.Piece (Elt F) S512x128 .f32)) (T : List (View.Piece (Elt F) S512x128 .f32) × List (View.Piece (Elt F) S512x128 .f32) × List (View.Piece (Elt F) S512x128 .f32))
    (hT : T = tripL_k2_t1 (F := F) 𝒱 c bd i arg3 harg3 arg4 harg4 arg5 harg5 arg6 harg6 arg7 harg7 arg8 harg8 arg9 harg9 arg10 harg10 arg11 harg11 arg12 harg12 arg13 harg13 arg14 harg14 arg15 harg15 v0 (harg4.unread x1) (harg5.unread x2) k (arg13.view.writes (Elt F) f13 L13) (arg14.view.writes (Elt F) f14 L14) (arg15.view.writes (Elt F) f15 L15)) :
    ((arg13.view.read (Elt F) (arg13.view.writes (Elt F) f13 (T.1 ++ L13)),
      arg14.view.read (Elt F) (arg14.view.writes (Elt F) f14 (T.2.1 ++ L14)),
      arg15.view.read (Elt F) (arg15.view.writes (Elt F) f15 (T.2.2 ++ L15))) : St F)
    = trip (k2_pay20 v0) (rowsAt x1 i k) (rowsAt x2 i k)
        (arg13.view.read (Elt F) (arg13.view.writes (Elt F) f13 L13), arg14.view.read (Elt F) (arg14.view.writes (Elt F) f14 L14), arg15.view.read (Elt F) (arg15.view.writes (Elt F) f15 L15)) := by
  subst hT
  unfold tripL_k2_t1 trip_k2_t1
  dsimp only
  simp only [List.cons_append, List.nil_append]
  have hk : View.readAt (Elt F) arg4.view (Rect.unit (s := S1x4096x128) (k2_off1 i k) S1x256x128.size (k2_off1_inb i k)).toLoadRect (harg4.unread x1) = rowsAt x1 i k := by
    rw [View.readAt_eq_ld, harg4.read_unread]
  have hv : View.readAt (Elt F) arg5.view (Rect.unit (s := S1x4096x128) (k2_off1 i k) S1x256x128.size (k2_off1_inb i k)).toLoadRect (harg5.unread x2) = rowsAt x2 i k := by
    rw [View.readAt_eq_ld, harg5.read_unread]
  have hm := at_full arg13.view (arg13.view.writes (Elt F) f13 L13)
  have hl := at_full arg14.view (arg14.view.writes (Elt F) f14 L14)
  have ha := at_full arg15.view (arg15.view.writes (Elt F) f15 L15)
  refine Prod.ext ?_ (Prod.ext ?_ ?_)
  · refine (read_full arg13.view f13 z2 _ _ _).trans ?_
    exact congrArg₂ (fun a b => k2_pay24 (k2_pay3 (k2_pay20 v0) a b)) hk hm
  · refine (read_full arg14.view f14 z2 _ _ _).trans ?_
    exact congr (congrArg₂ (fun a b => k2_pay6 (k2_pay20 v0) a b) hk hm) hl
  · refine (read_full arg15.view f15 z2 _ _ _).trans ?_
    exact congr (congr (congrArg₂ (fun a b => k2_pay7 (k2_pay20 v0) a b) hk hv) hm) ha

/-- The scratch triple before trip `n`, by induction on the trips. -/
theorem pb_read (f13 : BufTy.Contents (Elt F) arg13.view.ty) (f14 : BufTy.Contents (Elt F) arg14.view.ty) (f15 : BufTy.Contents (Elt F) arg15.view.ty) : ∀ (n : ℕ), n ≤ (k2_t1_loop i).trips →
    ∀ T, T = pb_k2_t1 (F := F) 𝒱 c bd i arg3 harg3 arg4 harg4 arg5 harg5 arg6 harg6 arg7 harg7 arg8 harg8 arg9 harg9 arg10 harg10 arg11 harg11 arg12 harg12 arg13 harg13 arg14 harg14 arg15 harg15 v0 (harg4.unread x1) (harg5.unread x2) f13 f14 f15 n →
    ((arg13.view.read (Elt F) (arg13.view.writes (Elt F) f13 T.1),
      arg14.view.read (Elt F) (arg14.view.writes (Elt F) f14 T.2.1),
      arg15.view.read (Elt F) (arg15.view.writes (Elt F) f15 T.2.2)) : St F)
    = trips i (k2_pay20 v0) x1 x2 (arg13.view.read (Elt F) f13, arg14.view.read (Elt F) f14, arg15.view.read (Elt F) f15) n
  | 0, _, _, rfl => rfl
  | n + 1, h, _, rfl => by
    rw [pb_k2_t1_succ 𝒱 c bd i arg3 harg3 arg4 harg4 arg5 harg5 arg6 harg6 arg7 harg7 arg8 harg8 arg9 harg9 arg10 harg10 arg11 harg11 arg12 harg12 arg13 harg13 arg14 harg14 arg15 harg15 v0 (harg4.unread x1) (harg5.unread x2) f13 f14 f15 ⟨n, h⟩]
    refine (trip_read 𝒱 bd c i arg3 harg3 arg4 harg4 arg5 harg5 arg6 harg6 arg7 harg7 arg8 harg8 arg9 harg9 arg10 harg10 arg11 harg11 arg12 harg12 arg13 harg13 arg14 harg14 arg15 harg15 v0 x1 x2 ⟨n, h⟩ f13 f14 f15 _ _ _ _ rfl).trans ?_
    rw [pb_read f13 f14 f15 n (Nat.le_of_lt h) _ rfl]
    exact (show trips i (k2_pay20 v0) x1 x2 _ (n + 1) = _ from dif_pos (show n < (k2_t1_loop i).trips from h)).symm
end

/-- The loop runs once per far key block. -/
theorem trips1 (i : grid2.Coords) : (k2_t1_loop i).trips = (i 2).val - 1 := by
  have h : ∀ a : Fin 16, Scf.trips (0#32) (Scalar.addi (0#32) (Scalar.muli (Scalar.divsi (Scalar.subi (Scalar.maxsi (Scalar.subi (BitVec.ofNat 32 a.val) 1#32) 0#32) 0#32) 1#32) 1#32)) 1#32 = a.val - 1 := by decide +kernel
  exact h (i 2)

/-- The second counted loop runs no trip. -/
theorem trips2 (i : grid2.Coords) : (k2_t2_loop i).trips = 0 := by
  have h : ∀ a : Fin 16, Scf.trips (Scalar.addi (0#32) (Scalar.muli (Scalar.divsi (Scalar.subi (Scalar.maxsi (Scalar.subi (BitVec.ofNat 32 a.val) 1#32) 0#32) 0#32) 1#32) 1#32)) (Scalar.addi (0#32) (Scalar.subi (Scalar.maxsi (Scalar.subi (BitVec.ofNat 32 a.val) 1#32) 0#32) 0#32)) 1#32 = 0 := by decide +kernel
  exact h (i 2)

/-- The key (or value) rows of the block before the queries' own. -/
abbrev rowsNear (x : Vec F S1x4096x128 .bf16) (i : grid2.Coords) (hc : cond2_0 i) : Vec F S1x256x128 .bf16 :=
  View.ld x (Rect.unit (s := S1x4096x128) (k2_off3 i) S1x256x128.size (k2_off3_inb i hc))

/-- The key (or value) rows of the queries' own block. -/
abbrev rowsDiag (x : Vec F S1x4096x128 .bf16) (i : grid2.Coords) : Vec F S1x256x128 .bf16 :=
  View.ld x (Rect.unit (s := S1x4096x128) (k2_off4 i) S1x256x128.size (k2_off4_inb i))

/-- The bias tile's left half, of the block before the queries' own. -/
abbrev biasNear (x : Vec F S1x256x512 .f32) : Vec F S1x256x256 .f32 :=
  View.ld x (Rect.unit (s := S1x256x512) ![0, 0, 0] S1x256x256.size inb_S1x256x512_S1x256x256_0_0_0)

/-- The bias tile's right half, of the queries' own block. -/
abbrev biasDiag (x : Vec F S1x256x512 .f32) : Vec F S1x256x256 .f32 :=
  View.ld x (Rect.unit (s := S1x256x512) ![0, 0, 256] S1x256x256.size inb_S1x256x512_S1x256x256_0_0_256)

/-- What the block before the queries' own leaves in the scratch triple. -/
def near (v10 : FVec F S512x128 .bf16) (b : Vec F S1x256x256 .f32) (kb vb : Vec F S1x256x128 .bf16) (s : St F) : St F :=
  (k2_pay27 (k2_pay15 v10 b kb s.1), k2_pay18 v10 b kb s.1 s.2.1, k2_pay26 (k2_pay19 v10 b kb vb s.1 s.2.2))

/-- What the queries' own block leaves in the scratch triple. -/
def diag (v10 : FVec F S512x128 .bf16) (b : Vec F S1x256x256 .f32) (kb vb : Vec F S1x256x128 .bf16) (s : St F) : St F :=
  (k2_pay36 (k2_pay30 v10 b kb s.1), k2_pay33 v10 b kb s.1 s.2.1, k2_pay35 (k2_pay28 vb) (k2_pay32 v10 b kb s.1) (k2_pay34 v10 b kb s.1 s.2.2))

/-- The scratch triple that a step starts from. -/
def init : St F := (k2_pay21, k2_pay22, k2_pay23)

/-- The output block that the scratch triple gives. -/
def fin (x4 x5 x6 x7 : Vec F S1x64 .f32) (x8 : Vec F S1x128 .f32) (s : St F) : FVec F S1x256x128 .bf16 :=
  k2_pay1 (k2_pay37 x4 x5 x6 x7) (k2_pay38 s.2.1)
    (k2_pay39 s.2.1 (View.ld s.2.2 (Rect.unit (s := S512x128) ![0, 0] S256x128.size inb_S512x128_S256x128_0_0)))
    (View.ld s.2.2 (Rect.unit (s := S512x128) ![256, 0] S256x128.size inb_S512x128_S256x128_256_0)) x8

/-- A read of a whole array that stores covered. -/
theorem cov_full {sg : RefSig} {κ' : Kind} {sp : Space} (v : View sg κ' sp S512x128 .f32) (L : List (View.Piece (Elt F) S512x128 .f32))
    (h : ∀ a, (![0, 0] : Fin 2 → ℕ) a + S512x128.size a ≤ S512x128.size a) :
    v.readCov L (Rect.unit (s := S512x128) ![0, 0] S512x128.size h).toLoadRect = v.read (Elt F) (v.writes (Elt F) v.junk L) := by
  rw [View.readCov_eq_canon', ← View.readAt_writes_junk_eq_canon v, View.readAt_eq_ld, View.ld_unit_zero (S := S512x128) z2]

/-- A read of some rows of an array that one store filled. -/
theorem cov_rows {sg : RefSig} {κ' : Kind} {sp : Space} (v : View sg κ' sp S512x128 .f32) (L : List (View.Piece (Elt F) S512x128 .f32))
    (w : Vec F S512x128 .f32) (h : ∀ a, (![0, 0] : Fin 2 → ℕ) a + S512x128.size a ≤ S512x128.size a) (r : Rect S512x128) :
    v.readCov (⟨Rect.unit (s := S512x128) ![0, 0] S512x128.size h, w⟩ :: L) r.toLoadRect = View.ld w r := by
  rw [View.readCov_eq_canon', ← View.readAt_writes_junk_eq_canon v, View.readAt_eq_ld]
  exact congrArg (View.ld · r) (read_full v _ z2 _ _ _)

theorem congr5 {α β γ δ ε ζ : Sort _} (f : α → β → γ → δ → ε → ζ) {a a' b b' c c' d d' e e'} (h1 : a = a') (h2 : b = b') (h3 : c = c') (h4 : d = d') (h5 : e = e') :
    f a b c d e = f a' b' c' d' e' := by subst h1 h2 h3 h4 h5; rfl

theorem congr6 {α β γ δ ε η ζ : Sort _} (f : α → β → γ → δ → ε → η → ζ) {a a' b b' c c' d d' e e' g g'} (h1 : a = a') (h2 : b = b') (h3 : c = c') (h4 : d = d') (h5 : e = e') (h6 : g = g') :
    f a b c d e g = f a' b' c' d' e' g' := by subst h1 h2 h3 h4 h5 h6; rfl

theorem congr4 {α β γ δ ζ : Sort _} (f : α → β → γ → δ → ζ) {a a' b b' c c' d d'} (h1 : a = a') (h2 : b = b') (h3 : c = c') (h4 : d = d') :
    f a b c d = f a' b' c' d' := by subst h1 h2 h3 h4; rfl

/-- The closing quotient of what the own block stores. -/
theorem fin_diag {sg : RefSig} {κ' : Kind} {sp : Space} (v14 v15 : View sg κ' sp S512x128 .f32) (L14 L15 : List (View.Piece (Elt F) S512x128 .f32))
    {x4 x5 x6 x7 a4 a5 a6 a7 : Vec F S1x64 .f32} {x8 a8 : Vec F S1x128 .f32} {q x0 : Vec F S1x256x128 .bf16} {b b' : Vec F S1x256x256 .f32} {kb kb' vb vb' : Vec F S1x256x128 .bf16}
    {m l acc : Vec F S512x128 .f32} {s : St F} (h4 : a4 = x4) (h5 : a5 = x5) (h6 : a6 = x6) (h7 : a7 = x7) (h8 : a8 = x8)
    (hq : q = x0) (hb : b = b') (hk : kb = kb') (hv : vb = vb') (hm : m = s.1) (hl : l = s.2.1) (ha : acc = s.2.2) :
    k2_pay1 (k2_pay37 a4 a5 a6 a7)
      (k2_pay38 (v14.readCov (⟨Rect.unit (s := S512x128) ![0, 0] S512x128.size inb_S512x128_S512x128_0_0, k2_pay33 (k2_pay20 q) b kb m l⟩ :: L14) (Rect.unit (s := S512x128) ![0, 0] S512x128.size inb_S512x128_S512x128_0_0).toLoadRect))
      (k2_pay39 (v14.readCov (⟨Rect.unit (s := S512x128) ![0, 0] S512x128.size inb_S512x128_S512x128_0_0, k2_pay33 (k2_pay20 q) b kb m l⟩ :: L14) (Rect.unit (s := S512x128) ![0, 0] S512x128.size inb_S512x128_S512x128_0_0).toLoadRect)
        (v15.readCov (⟨Rect.unit (s := S512x128) ![0, 0] S512x128.size inb_S512x128_S512x128_0_0, k2_pay35 (k2_pay28 vb) (k2_pay32 (k2_pay20 q) b kb m) (k2_pay34 (k2_pay20 q) b kb m acc)⟩ :: L15) (Rect.unit (s := S512x128) ![0, 0] S256x128.size inb_S512x128_S256x128_0_0).toLoadRect))
      (v15.readCov (⟨Rect.unit (s := S512x128) ![0, 0] S512x128.size inb_S512x128_S512x128_0_0, k2_pay35 (k2_pay28 vb) (k2_pay32 (k2_pay20 q) b kb m) (k2_pay34 (k2_pay20 q) b kb m acc)⟩ :: L15) (Rect.unit (s := S512x128) ![256, 0] S256x128.size inb_S512x128_S256x128_256_0).toLoadRect) a8
    = fin x4 x5 x6 x7 x8 (diag (k2_pay20 x0) b' kb' vb' s) := by
  subst h4 h5 h6 h7 h8 hq hb hk hv hm hl ha
  rw [cov_rows v14 L14, View.ld_unit_zero (S := S512x128) z2]
  exact congr (congrArg₂ (fun a b => k2_pay1 _ _ (k2_pay39 _ a) b) (cov_rows v15 L15 _ _ _) (cov_rows v15 L15 _ _ _)) rfl

section
set_option maxHeartbeats 1000000
set_option maxRecDepth 200000
variable (c : Dev nD) (i : grid2.Coords) (arg3 : Memref sig .tc .vmem S1x256x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x256x512 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x256x128 .bf16) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole)
    (x0 : Vec F S1x256x128 .bf16) (x1 : Vec F S1x4096x128 .bf16) (x2 : Vec F S1x4096x128 .bf16) (x3 : Vec F S1x256x512 .f32) (x4 : Vec F S1x64 .f32) (x5 : Vec F S1x64 .f32) (x6 : Vec F S1x64 .f32) (x7 : Vec F S1x64 .f32) (x8 : Vec F S1x128 .f32)

/-- The first query block's output: its own block alone. -/
theorem out_A (hc : ¬ cond2_0 i) (hi : (i 2).val = 0) : out2_A_9 c i arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 x8
    = fin x4 x5 x6 x7 x8 (diag (k2_pay20 x0) (biasDiag x3) (rowsDiag x1 i) (rowsDiag x2 i) init) := by
  unfold out2_A_9
  rw [View.read_writes_eq_canon _ _ _ (cover2_A_9 c i arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 x8)]
  unfold kernelRun2_A
  dsimp only
  rw [View.canon_unit_zero z3]
  have hq : View.readAt (Elt F) arg3.view (Rect.unit (s := S1x256x128) ![0, 0, 0] S1x256x128.size inb_S1x256x128_S1x256x128_0_0_0).toLoadRect (harg3.unread x0) = x0 := by
    rw [View.readAt_eq_ld, harg3.read_unread, View.ld_unit_zero (S := S1x256x128) z3]
  have hb : View.readAt (Elt F) arg6.view (Rect.unit (s := S1x256x512) ![0, 0, 256] S1x256x256.size inb_S1x256x512_S1x256x256_0_0_256).toLoadRect (harg6.unread x3) = biasDiag x3 := by
    rw [View.readAt_eq_ld, harg6.read_unread]
  have hk : View.readAt (Elt F) arg4.view (Rect.unit (s := S1x4096x128) (k2_off4 i) S1x256x128.size (k2_off4_inb i)).toLoadRect (harg4.unread x1) = rowsDiag x1 i := by
    rw [View.readAt_eq_ld, harg4.read_unread]
  have hv : View.readAt (Elt F) arg5.view (Rect.unit (s := S1x4096x128) (k2_off4 i) S1x256x128.size (k2_off4_inb i)).toLoadRect (harg5.unread x2) = rowsDiag x2 i := by
    rw [View.readAt_eq_ld, harg5.read_unread]
  have e2 : Scf.trips (k2_t2_loop i).lb (k2_t2_loop i).ub (k2_t2_loop i).st = 0 := trips2 i
  have e1 : Scf.trips (k2_t1_loop i).lb (k2_t1_loop i).ub (k2_t1_loop i).st = 0 := (trips1 i).trans (by rw [hi])
  have hx4 : View.readAt (Elt F) arg7.view (Rect.unit (s := S1x64) ![0, 0] S1x64.size inb_S1x64_S1x64_0_0).toLoadRect (harg7.unread x4) = x4 := by
    rw [View.readAt_eq_ld, harg7.read_unread, View.ld_unit_zero (S := S1x64) z2]
  have hx5 : View.readAt (Elt F) arg8.view (Rect.unit (s := S1x64) ![0, 0] S1x64.size inb_S1x64_S1x64_0_0).toLoadRect (harg8.unread x5) = x5 := by
    rw [View.readAt_eq_ld, harg8.read_unread, View.ld_unit_zero (S := S1x64) z2]
  have hx6 : View.readAt (Elt F) arg9.view (Rect.unit (s := S1x64) ![0, 0] S1x64.size inb_S1x64_S1x64_0_0).toLoadRect (harg9.unread x6) = x6 := by
    rw [View.readAt_eq_ld, harg9.read_unread, View.ld_unit_zero (S := S1x64) z2]
  have hx7 : View.readAt (Elt F) arg10.view (Rect.unit (s := S1x64) ![0, 0] S1x64.size inb_S1x64_S1x64_0_0).toLoadRect (harg10.unread x7) = x7 := by
    rw [View.readAt_eq_ld, harg10.read_unread, View.ld_unit_zero (S := S1x64) z2]
  have hx8 : View.readAt (Elt F) arg11.view (Rect.unit (s := S1x128) ![0, 0] S1x128.size inb_S1x128_S1x128_0_0).toLoadRect (harg11.unread x8) = x8 := by
    rw [View.readAt_eq_ld, harg11.read_unread, View.ld_unit_zero (S := S1x128) z2]
  refine fin_diag arg14.view arg15.view _ _ hx4 hx5 hx6 hx7 hx8 hq hb hk hv ?_ ?_ ?_
  · refine (cov_full arg13.view _ _).trans ?_; sl_unfold_words; rw [e1, e2]; exact read_full _ _ z2 _ _ _
  · refine (cov_full arg14.view _ _).trans ?_; sl_unfold_words; rw [e1, e2]; exact read_full _ _ z2 _ _ _
  · refine (cov_full arg15.view _ _).trans ?_; sl_unfold_words; rw [e1, e2]; exact read_full _ _ z2 _ _ _

/-- A later query block's output: the far blocks, the block before its own, and its own. -/
theorem out_B (hc : cond2_0 i) : out2_B_9 c i arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 x8
    = fin x4 x5 x6 x7 x8 (diag (k2_pay20 x0) (biasDiag x3) (rowsDiag x1 i) (rowsDiag x2 i)
        (near (k2_pay20 x0) (biasNear x3) (rowsNear x1 i hc) (rowsNear x2 i hc) (trips i (k2_pay20 x0) x1 x2 init ((i 2).val - 1)))) := by
  unfold out2_B_9
  rw [View.read_writes_eq_canon _ _ _ (cover2_B_9 c i arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 x8)]
  unfold kernelRun2_B
  dsimp only
  rw [View.canon_unit_zero z3]
  have hq : View.readAt (Elt F) arg3.view (Rect.unit (s := S1x256x128) ![0, 0, 0] S1x256x128.size inb_S1x256x128_S1x256x128_0_0_0).toLoadRect (harg3.unread x0) = x0 := by
    rw [View.readAt_eq_ld, harg3.read_unread, View.ld_unit_zero (S := S1x256x128) z3]
  have hb : View.readAt (Elt F) arg6.view (Rect.unit (s := S1x256x512) ![0, 0, 256] S1x256x256.size inb_S1x256x512_S1x256x256_0_0_256).toLoadRect (harg6.unread x3) = biasDiag x3 := by
    rw [View.readAt_eq_ld, harg6.read_unread]
  have hk : View.readAt (Elt F) arg4.view (Rect.unit (s := S1x4096x128) (k2_off4 i) S1x256x128.size (k2_off4_inb i)).toLoadRect (harg4.unread x1) = rowsDiag x1 i := by
    rw [View.readAt_eq_ld, harg4.read_unread]
  have hv : View.readAt (Elt F) arg5.view (Rect.unit (s := S1x4096x128) (k2_off4 i) S1x256x128.size (k2_off4_inb i)).toLoadRect (harg5.unread x2) = rowsDiag x2 i := by
    rw [View.readAt_eq_ld, harg5.read_unread]
  have hbn : View.readAt (Elt F) arg6.view (Rect.unit (s := S1x256x512) ![0, 0, 0] S1x256x256.size inb_S1x256x512_S1x256x256_0_0_0).toLoadRect (harg6.unread x3) = biasNear x3 := by
    rw [View.readAt_eq_ld, harg6.read_unread]
  have hkn : View.readAt (Elt F) arg4.view (Rect.unit (s := S1x4096x128) (k2_off3 i) S1x256x128.size (k2_off3_inb i hc)).toLoadRect (harg4.unread x1) = rowsNear x1 i hc := by
    rw [View.readAt_eq_ld, harg4.read_unread]
  have hvn : View.readAt (Elt F) arg5.view (Rect.unit (s := S1x4096x128) (k2_off3 i) S1x256x128.size (k2_off3_inb i hc)).toLoadRect (harg5.unread x2) = rowsNear x2 i hc := by
    rw [View.readAt_eq_ld, harg5.read_unread]
  have e2 : Scf.trips (k2_t2_loop i).lb (k2_t2_loop i).ub (k2_t2_loop i).st = 0 := trips2 i
  have e1 : Scf.trips (k2_t1_loop i).lb (k2_t1_loop i).ub (k2_t1_loop i).st = (i 2).val - 1 := trips1 i
  have hp := pb_read Variants.none none c i arg3 harg3 arg4 harg4 arg5 harg5 arg6 harg6 arg7 harg7 arg8 harg8 arg9 harg9 arg10 harg10 arg11 harg11 arg12 harg12 arg13 harg13 arg14 harg14 arg15 harg15 x0 x1 x2
    (arg13.view.writes (Elt F) arg13.view.junk [⟨Rect.unit (s := S512x128) ![0, 0] S512x128.size inb_S512x128_S512x128_0_0, k2_pay21⟩])
    (arg14.view.writes (Elt F) arg14.view.junk [⟨Rect.unit (s := S512x128) ![0, 0] S512x128.size inb_S512x128_S512x128_0_0, k2_pay22⟩])
    (arg15.view.writes (Elt F) arg15.view.junk [⟨Rect.unit (s := S512x128) ![0, 0] S512x128.size inb_S512x128_S512x128_0_0, k2_pay23⟩])
    ((i 2).val - 1) (trips1 i).ge _ rfl
  rw [read_full arg13.view _ z2, read_full arg14.view _ z2, read_full arg15.view _ z2] at hp
  have h13 := congrArg Prod.fst hp
  have h14 := congrArg (fun p : St F => p.2.1) hp
  have h15 := congrArg (fun p : St F => p.2.2) hp
  dsimp only at h13 h14 h15
  rw [← View.writes_append] at h13 h14 h15
  have hx4 : View.readAt (Elt F) arg7.view (Rect.unit (s := S1x64) ![0, 0] S1x64.size inb_S1x64_S1x64_0_0).toLoadRect (harg7.unread x4) = x4 := by
    rw [View.readAt_eq_ld, harg7.read_unread, View.ld_unit_zero (S := S1x64) z2]
  have hx5 : View.readAt (Elt F) arg8.view (Rect.unit (s := S1x64) ![0, 0] S1x64.size inb_S1x64_S1x64_0_0).toLoadRect (harg8.unread x5) = x5 := by
    rw [View.readAt_eq_ld, harg8.read_unread, View.ld_unit_zero (S := S1x64) z2]
  have hx6 : View.readAt (Elt F) arg9.view (Rect.unit (s := S1x64) ![0, 0] S1x64.size inb_S1x64_S1x64_0_0).toLoadRect (harg9.unread x6) = x6 := by
    rw [View.readAt_eq_ld, harg9.read_unread, View.ld_unit_zero (S := S1x64) z2]
  have hx7 : View.readAt (Elt F) arg10.view (Rect.unit (s := S1x64) ![0, 0] S1x64.size inb_S1x64_S1x64_0_0).toLoadRect (harg10.unread x7) = x7 := by
    rw [View.readAt_eq_ld, harg10.read_unread, View.ld_unit_zero (S := S1x64) z2]
  have hx8 : View.readAt (Elt F) arg11.view (Rect.unit (s := S1x128) ![0, 0] S1x128.size inb_S1x128_S1x128_0_0).toLoadRect (harg11.unread x8) = x8 := by
    rw [View.readAt_eq_ld, harg11.read_unread, View.ld_unit_zero (S := S1x128) z2]
  refine fin_diag arg14.view arg15.view _ _ hx4 hx5 hx6 hx7 hx8 hq hb hk hv ?_ ?_ ?_
  · refine (cov_full arg13.view _ _).trans ((read_full arg13.view _ z2 _ _ _).trans ?_); refine congrArg k2_pay27 (congr4 k2_pay15 (congrArg k2_pay20 hq) hbn hkn ?_); (refine (cov_full arg13.view _ _).trans ?_; sl_unfold_words; rw [e1, e2, hq]; simp only [pb_k2_t2.eq_1, List.nil_append]; exact h13)
  · refine (cov_full arg14.view _ _).trans ((read_full arg14.view _ z2 _ _ _).trans ?_); refine congr5 k2_pay18 (congrArg k2_pay20 hq) hbn hkn ?_ ?_; (refine (cov_full arg13.view _ _).trans ?_; sl_unfold_words; rw [e1, e2, hq]; simp only [pb_k2_t2.eq_1, List.nil_append]; exact h13); (refine (cov_full arg14.view _ _).trans ?_; sl_unfold_words; rw [e1, e2, hq]; simp only [pb_k2_t2.eq_1, List.nil_append]; exact h14)
  · refine (cov_full arg15.view _ _).trans ((read_full arg15.view _ z2 _ _ _).trans ?_); refine congrArg k2_pay26 (congr6 k2_pay19 (congrArg k2_pay20 hq) hbn hkn hvn ?_ ?_); (refine (cov_full arg13.view _ _).trans ?_; sl_unfold_words; rw [e1, e2, hq]; simp only [pb_k2_t2.eq_1, List.nil_append]; exact h13); (refine (cov_full arg15.view _ _).trans ?_; sl_unfold_words; rw [e1, e2, hq]; simp only [pb_k2_t2.eq_1, List.nil_append]; exact h15)

end

end Cert.DaKernelIdeal.Diff
end
-- ==== Proof.DaSoft.lean ====
/-
  The running softmax on the extended reals: how one block of scores changes the running maximum, sum and accumulator,
  and the quotient they end in.  The position's bucket, as a word and as a number.
-/
module

public import proofs.«01_k».proof.Proof.StickReal
public import Idealize.ShloMosaic.Lib.Pointwise
public import Idealize.ShloMosaic.Lib.WordCmp
public import Idealize.ShloMosaic.Lib.IdealHost

@[expose] public section

noncomputable section

open Idealize.ShloMosaic

namespace Cert.Diff

/-- A score is a real with the weight of its power of two, or it is masked with no weight. -/
def Scored (z : EReal) (w : ℝ) : Prop := (z = ⊥ ∧ w = 0) ∨ ∃ s : ℝ, z = (s : EReal) ∧ w = (2 : ℝ) ^ s

/-- The running quantity `l` stands for the weighted sum `A` under the running maximum `m`. -/
def Stands (m l : EReal) (A : ℝ) : Prop := (m = ⊥ ∧ l = 0 ∧ A = 0) ∨ ∃ M : ℝ, m = (M : EReal) ∧ l = (((2 : ℝ) ^ (-M) * A : ℝ) : EReal)

theorem exp2_bot : FloatOps.exp2 (F := Ideal) (φ := .f32) (⊥ : EReal) = 0 := rfl
theorem exp2_coe (r : ℝ) : FloatOps.exp2 (F := Ideal) (φ := .f32) (r : EReal) = (((2 : ℝ) ^ r : ℝ) : EReal) := rfl

/-- A score's weight under a real maximum. -/
theorem scored_exp2 {z : EReal} {w : ℝ} (h : Scored z w) (M : ℝ) :
    FloatOps.exp2 (F := Ideal) (φ := .f32) (z - (M : EReal)) = (((2 : ℝ) ^ (-M) * w : ℝ) : EReal) := by
  rcases h with ⟨rfl, rfl⟩ | ⟨s, rfl, rfl⟩
  · rw [EReal.bot_sub, exp2_bot, mul_zero, EReal.coe_zero]
  · rw [← EReal.coe_sub, exp2_coe, ← Real.rpow_add (by norm_num), sub_eq_add_neg, add_comm]

/-- A running quantity brought under a later maximum. -/
theorem stands_exp2 {m l : EReal} {A : ℝ} (h : Stands m l A) (M : ℝ) :
    FloatOps.exp2 (F := Ideal) (φ := .f32) (m - (M : EReal)) * l = (((2 : ℝ) ^ (-M) * A : ℝ) : EReal) := by
  rcases h with ⟨rfl, rfl, rfl⟩ | ⟨M', rfl, rfl⟩
  · rw [mul_zero, mul_zero, EReal.coe_zero]
  · rw [← EReal.coe_sub, exp2_coe, ← EReal.coe_mul, ← mul_assoc, ← Real.rpow_add (by norm_num)]
    exact congrArg (fun x : ℝ => (((2 : ℝ) ^ x * A : ℝ) : EReal)) (by ring)

/-- One block of scores. -/
theorem stands_step {n : ℕ} {m l : EReal} {A : ℝ} (h : Stands m l A) (z : Fin n → EReal) (w : Fin n → ℝ) (hz : ∀ j, Scored (z j) (w j)) (v : Fin n → ℝ) (M : ℝ) :
    Stands (M : EReal) (FloatOps.exp2 (F := Ideal) (φ := .f32) (m - (M : EReal)) * l + ∑ j, FloatOps.exp2 (F := Ideal) (φ := .f32) (z j - (M : EReal)) * (v j : EReal))
      (A + ∑ j, w j * v j) := by
  refine .inr ⟨M, rfl, ?_⟩
  rw [stands_exp2 h, mul_add, EReal.coe_add, Finset.mul_sum, Cert.Stick.coe_sum]
  refine congrArg (_ + ·) (Finset.sum_congr rfl fun j _ => ?_)
  rw [scored_exp2 (hz j), ← EReal.coe_mul, mul_assoc]

/-- The same without values. -/
theorem stands_step_one {n : ℕ} {m l : EReal} {A : ℝ} (h : Stands m l A) (z : Fin n → EReal) (w : Fin n → ℝ) (hz : ∀ j, Scored (z j) (w j)) (M : ℝ) :
    Stands (M : EReal) (FloatOps.exp2 (F := Ideal) (φ := .f32) (m - (M : EReal)) * l + ∑ j, FloatOps.exp2 (F := Ideal) (φ := .f32) (z j - (M : EReal)))
      (A + ∑ j, w j) := by
  have := stands_step h z w hz (fun _ => 1) M
  simpa only [EReal.coe_one, mul_one] using this

/-- The pattern of negative infinity denotes it. -/
theorem ninf_eq : Ideal.ofBits .f32 0xFF800000#32 = (⊥ : EReal) := by
  simp [Ideal.ofBits, Ideal.ieee]

/-- The maximum of scores, one of them not masked, is a real. -/
theorem fold_real {n : ℕ} (z : Fin n → EReal) (w : Fin n → ℝ) (hz : ∀ j, Scored (z j) (w j)) (j0 : Fin n) (h0 : z j0 ≠ ⊥) :
    ∃ M : ℝ, Finset.fold max (⊥ : EReal) z Finset.univ = (M : EReal) := by
  have hb : Finset.fold max (⊥ : EReal) z Finset.univ ≠ ⊥ := fun h => by
    have : z j0 ≤ Finset.fold max (⊥ : EReal) z Finset.univ := (Finset.le_fold_max _).mpr (.inr ⟨j0, Finset.mem_univ _, le_rfl⟩)
    exact h0 (le_bot_iff.mp (h ▸ this))
  have ht : Finset.fold max (⊥ : EReal) z Finset.univ ≠ ⊤ := by
    refine ne_of_lt ((Finset.fold_max_lt _).mpr ⟨bot_lt_top, fun j _ => ?_⟩)
    rcases hz j with ⟨h, -⟩ | ⟨s, h, -⟩
    · rw [h]; exact bot_lt_top
    · rw [h]; exact EReal.coe_lt_top s
  exact ⟨_, (EReal.coe_toReal ht hb).symm⟩

/-- A running maximum is masked or real, so its maximum with a real is a real. -/
theorem max_real {m l : EReal} {A : ℝ} (h : Stands m l A) (M : ℝ) : ∃ M' : ℝ, max m (M : EReal) = (M' : EReal) := by
  rcases h with ⟨rfl, -, -⟩ | ⟨M', rfl, -⟩
  · exact ⟨M, max_eq_right bot_le⟩
  · exact ⟨max M' M, (EReal.coe_strictMono.monotone.map_max).symm⟩

/-- The closing quotient. -/
theorem stands_quot {m l a : EReal} {A P : ℝ} (hl : Stands m l A) (ha : Stands m a P) (hA : 0 < A) :
    a * Ideal.div 1 l = ((P / A : ℝ) : EReal) := by
  rcases hl with ⟨-, -, h⟩ | ⟨M, rfl, rfl⟩
  · exact absurd h hA.ne'
  rcases ha with ⟨h, -, -⟩ | ⟨M', h, rfl⟩
  · exact absurd h (EReal.coe_ne_bot M)
  obtain rfl : M = M' := EReal.coe_injective h
  have hp : (0 : ℝ) < (2 : ℝ) ^ (-M) := Real.rpow_pos_of_pos (by norm_num) _
  have hl : (((2 : ℝ) ^ (-M) * A : ℝ) : EReal) ≠ 0 := by
    rw [← EReal.coe_zero]; exact fun h => (mul_pos hp hA).ne' (EReal.coe_injective h)
  unfold Ideal.div
  rw [if_neg hl, one_mul, ← EReal.coe_inv, ← EReal.coe_mul]
  refine congrArg (fun x : ℝ => (x : EReal)) ?_
  field_simp

/-- The logarithmic bucket's real argument. -/
def lg (n : ℕ) : ℝ := Real.log ((n : ℝ) * (1 / 16)) * (16 * (Real.log 8)⁻¹)

/-- The bucket of a distance. -/
def bk (n : ℕ) : ℕ := if n < 16 then n else min (16 + ⌊lg n⌋.toNat) 31

/-- The bucket of a distance, as the programs compute it from the converted logarithm. -/
def bw (n : ℕ) : BitVec 32 :=
  Scalar.select (IntOp.cmpi .slt (BitVec.ofNat 32 n) 16#32) (BitVec.ofNat 32 n)
    (IntOp.minsi (IntOp.addi 16#32 (FloatOps.fptosi (F := Ideal) (φ := .f32) 32 ((lg n : ℝ) : EReal))) 31#32)

theorem bk_le (n : ℕ) : bk n ≤ 31 := by
  unfold bk; split <;> omega

theorem log8_pos : 0 < Real.log 8 := Real.log_pos (by norm_num)

theorem lg_nonneg (n : ℕ) (h : 16 ≤ n) : 0 ≤ lg n := by
  refine mul_nonneg (Real.log_nonneg ?_) (by have := log8_pos; positivity)
  have : (16 : ℝ) ≤ n := by exact_mod_cast h
  linarith

theorem bk_far (n : ℕ) (h : 128 ≤ n) : bk n = 31 := by
  have h8 := log8_pos
  have h1 : (16 : ℝ) ≤ lg n := by
    unfold lg
    have : Real.log 8 ≤ Real.log ((n : ℝ) * (1 / 16)) := Real.log_le_log (by norm_num) (by
      have : (128 : ℝ) ≤ n := by exact_mod_cast h
      linarith)
    calc (16 : ℝ) = Real.log 8 * (16 * (Real.log 8)⁻¹) := by field_simp
      _ ≤ _ := mul_le_mul_of_nonneg_right this (by positivity)
  have h2 : (16 : ℤ) ≤ ⌊lg n⌋ := Int.le_floor.mpr (by exact_mod_cast h1)
  unfold bk
  rw [if_neg (by omega)]
  omega

theorem lg_lt (n : ℕ) (h0 : 16 ≤ n) (h : n < 4096) : lg n < 64 := by
  have h8 := log8_pos
  have hn : (n : ℝ) < 4096 := by exact_mod_cast h
  have hn0 : (16 : ℝ) ≤ n := by exact_mod_cast h0
  have : Real.log ((n : ℝ) * (1 / 16)) < 4 * Real.log 8 := by
    rw [show (4 : ℝ) * Real.log 8 = Real.log (8 ^ 4) by rw [Real.log_pow]; norm_num]
    exact Real.log_lt_log (by linarith) (by linarith)
  unfold lg
  calc _ < 4 * Real.log 8 * (16 * (Real.log 8)⁻¹) := mul_lt_mul_of_pos_right this (by positivity)
    _ = 64 := by field_simp; norm_num

theorem bw_eq (n : ℕ) (h : n < 4096) : bw n = BitVec.ofNat 32 (bk n) := by
  unfold bw
  rw [WordCmp.cmpi_slt_ofNat (by omega) (by omega), WordCmp.select_ofBool]
  by_cases hn : n < 16
  · rw [if_pos (by simpa using hn), bk, if_pos hn]
  · rw [if_neg (by simpa using hn), bk, if_neg hn]
    have h0 := lg_nonneg n (by omega)
    have h1 : (0 : ℤ) ≤ ⌊lg n⌋ := Int.floor_nonneg.mpr h0
    have h2 : ⌊lg n⌋ < 64 := Int.floor_lt.mpr (by exact_mod_cast lg_lt n (by omega) h)
    have e : FloatOps.fptosi (F := Ideal) (φ := .f32) 32 ((lg n : ℝ) : EReal) = BitVec.ofNat 32 ⌊lg n⌋.toNat := by
      change BitVec.ofInt 32 (max _ (min _ (if 0 ≤ lg n then ⌊lg n⌋ else ⌈lg n⌉))) = _
      rw [if_pos h0, min_eq_right (by norm_num; omega), max_eq_right (by norm_num; omega)]
      conv_lhs => rw [← Int.toNat_of_nonneg h1]
      rw [BitVec.ofInt_natCast]
    rw [e]
    obtain ⟨k, hk⟩ : ∃ k : Fin 64, ⌊lg n⌋.toNat = k.val := ⟨⟨⌊lg n⌋.toNat, by omega⟩, rfl⟩
    rw [hk]
    exact (by decide : ∀ k : Fin 64, IntOp.minsi (IntOp.addi 16#32 (BitVec.ofNat 32 k.val)) 31#32 = BitVec.ofNat 32 (min (16 + k.val) 31)) k

end Cert.Diff
-- ==== Proof.DaPay.lean ====
/-
  The payloads of the differential attention at an index, and what each block of keys does to the running softmax of the
  stacked query rows.
-/
module

public import proofs.«01_k».proof.Proof.DaBlock
public import proofs.«01_k».proof.Proof.DaSoft
public import proofs.«01_k».proof.Proof.StickSum

@[expose] public section

set_option maxRecDepth 16384

noncomputable section

open Idealize.ShloMosaic Idealize.ShloMosaic.TcCoe Idealize.SL.Sem Idealize.ShloMosaic.WordCmp

namespace Cert.DaKernelIdeal.Diff

open Cert.DaKernelIdeal Cert.DaKernelIdeal.Gen Cert.Diff
open Cert.KernelIdeal.Stick (stack score headScore rowOf score_stack)

/-- What the scratch triple holds once the first `n` keys are taken in, under the weights `W`. -/
def Holds (W : Fin 512 → ℕ → ℝ) (V : ℕ → Fin 128 → ℝ) (n : ℕ) (s : St Ideal) : Prop :=
  ∃ m : Fin 512 → EReal, (∀ r l, s.1 (ix2 r l) = m r) ∧ (∀ r l, Stands (m r) (s.2.1 (ix2 r l)) (∑ j ∈ Finset.range n, W r j))
    ∧ ∀ r l, Stands (m r) (s.2.2 (ix2 r l)) (∑ j ∈ Finset.range n, W r j * V j l)

/-- One block of keys, whichever of the three kinds. -/
theorem holds_step {W : Fin 512 → ℕ → ℝ} {V : ℕ → Fin 128 → ℝ} {B : ℕ} {s s' : St Ideal} (h : Holds W V B s)
    (Z P : FVec Ideal S512x256 .f32) (mn : FVec Ideal S512x128 .f32) (vb : Vec Ideal S1x256x128 .bf16)
    (hv : ∀ (x : Fin 256) d, vb (ix3 0 x d) = ((V (B + x.val) d : ℝ) : EReal))
    (hZ : ∀ r (x : Fin 256), Scored (Z (ix2 r x)) (W r (B + x.val))) (h0 : ∀ r, Z (ix2 r 0) ≠ ⊥)
    (hm : ∀ r l, mn (ix2 r l) = max (s.1 (ix2 r l)) (Finset.fold max (Ideal.ofBits .f32 0xFF800000#32) (fun x => Z (ix2 r x)) Finset.univ))
    (hP : ∀ r (x : Fin 256), P (ix2 r x) = FloatOps.exp2 (F := Ideal) (φ := .f32) (Z (ix2 r x) -
      if h : x.val < 128 then mn (ix2 r ⟨x.val, h⟩) else mn (ix2 r ⟨x.val - 128, by omega⟩)))
    (e1 : ∀ r l, s'.1 (ix2 r l) = mn (ix2 r l))
    (e2 : ∀ r l, s'.2.1 (ix2 r l) = FloatOps.exp2 (F := Ideal) (φ := .f32) (s.1 (ix2 r l) - mn (ix2 r l)) * s.2.1 (ix2 r l) + ∑ x, P (ix2 r x))
    (e3 : ∀ r l, s'.2.2 (ix2 r l) = FloatOps.exp2 (F := Ideal) (φ := .f32) (s.1 (ix2 r l) - mn (ix2 r l)) * s.2.2 (ix2 r l) + ∑ x, P (ix2 r x) * vb (ix3 0 x l)) :
    Holds W V (B + 256) s' := by
  obtain ⟨m, h1, h2, h3⟩ := h
  have hM : ∀ r, ∃ M : ℝ, max (m r) (Finset.fold max (Ideal.ofBits .f32 0xFF800000#32) (fun x => Z (ix2 r x)) Finset.univ) = (M : EReal) := by
    intro r
    obtain ⟨M, hM⟩ := fold_real (fun x => Z (ix2 r x)) (fun x => W r (B + x.val)) (hZ r) 0 (h0 r)
    rw [ninf_eq, hM]
    exact max_real (h2 r 0) M
  choose M hM using hM
  have hmn : ∀ r l, mn (ix2 r l) = (M r : EReal) := fun r l => by rw [hm, h1, hM]
  have hP' : ∀ r (x : Fin 256), P (ix2 r x) = FloatOps.exp2 (F := Ideal) (φ := .f32) (Z (ix2 r x) - (M r : EReal)) := fun r x => by
    rw [hP]; split <;> rw [hmn]
  refine ⟨fun r => (M r : EReal), fun r l => by rw [e1, hmn], fun r l => ?_, fun r l => ?_⟩
  · rw [e2, hmn, h1, Finset.sum_range_add, ← Fin.sum_univ_eq_sum_range (fun x => W r (B + x))]
    simp only [hP']
    exact stands_step_one (h2 r l) _ _ (hZ r) _
  · rw [e3, hmn, h1, Finset.sum_range_add, ← Fin.sum_univ_eq_sum_range (fun x => W r (B + x) * V (B + x) l)]
    simp only [hP', hv]
    exact stands_step (h3 r l) _ _ (hZ r) _ _

/-- Before any key. -/
theorem holds_init (W : Fin 512 → ℕ → ℝ) (V : ℕ → Fin 128 → ℝ) : Holds W V 0 (init (F := Ideal)) := by
  refine ⟨fun _ => ⊥, fun r l => ?_, fun r l => .inl ⟨rfl, ?_, rfl⟩, fun r l => .inl ⟨rfl, ?_, rfl⟩⟩
  · show k2_pay21 (F := Ideal) (ix2 r l) = _
    pointwise [k2_pay21]
    exact IdealRules.named_const.ideal_named_scalar _ _ _ _ rfl
  · show k2_pay22 (F := Ideal) (ix2 r l) = _
    pointwise [k2_pay22]
  · show k2_pay23 (F := Ideal) (ix2 r l) = _
    pointwise [k2_pay23]

/-- The stacked queries. -/
theorem pay20 (x0 : Vec Ideal S1x256x128 .bf16) (Q : Fin 256 → Fin 128 → ℝ) (h0 : ∀ t d, x0 (ix3 0 t d) = ((Q t d : ℝ) : EReal))
    (r : Fin 512) (d : Fin 128) : k2_pay20 (F := Ideal) x0 (ix2 r d) = ((stack Q r d : ℝ) : EReal) := by
  pointwise [k2_pay20]
  unfold stack
  rw [cmpi_slt_ofNat (b := 64) (by omega) (by omega), cmpi_sge_ofNat (b := 64) (by omega) (by omega)]
  by_cases h : r.val < 256
  · rw [dif_pos h, if_pos h, h0, select_ofBool]
    by_cases hd : d.val < 64
    · simp only [hd, decide_true, if_true, Nat.mod_eq_of_lt h]
    · simp only [hd, decide_false, if_false, EReal.coe_zero, Bool.false_eq_true]
  · have e : r.val % 256 = r.val - 256 := by omega
    rw [dif_neg h, if_neg h, h0, select_ofBool]
    by_cases hd : 64 ≤ d.val
    · simp only [hd, decide_true, if_true, e]
    · simp only [hd, decide_false, if_false, EReal.coe_zero, Bool.false_eq_true]

/-- The weight of key `j` for stacked row `r`, whose query is `D` on from the first. -/
def wt (S : Fin 512 → ℕ → ℝ) (β : ℕ → ℝ) (D : ℕ) (r : Fin 512) (j : ℕ) : ℝ :=
  if j ≤ D + r.val % 256 then (2 : ℝ) ^ (S r j + β (D + r.val % 256 - j)) else 0

section
variable (q : FVec Ideal S512x128 .bf16) (kb vb : Vec Ideal S1x256x128 .bf16) (Q : Fin 512 → Fin 128 → ℝ) (K V : ℕ → Fin 128 → ℝ) (β : ℕ → ℝ) (B D : ℕ)
  (hq : ∀ r d, q (ix2 r d) = ((Q r d : ℝ) : EReal)) (hk : ∀ (s : Fin 256) d, kb (ix3 0 s d) = ((K (B + s.val) d : ℝ) : EReal))
  (hv : ∀ (s : Fin 256) d, vb (ix3 0 s d) = ((V (B + s.val) d : ℝ) : EReal))

include hq hk in
theorem dot_eq (r : Fin 512) (s : Fin 256) : ∑ x, q (ix2 r x) * kb (ix3 0 s x) = ((score Q K r (B + s.val) : ℝ) : EReal) := by
  rw [score, Cert.Stick.coe_sum]
  refine Finset.sum_congr rfl fun d _ => ?_
  rw [hq, hk, EReal.coe_mul]

include hq hk in
theorem scored_far (hD : B + 512 ≤ D) (hβ : ∀ n, 256 < n → β n = 0) (r : Fin 512) (s : Fin 256) :
    k2_pay2 (F := Ideal) q kb (ix2 r s) = ((score Q K r (B + s.val) : ℝ) : EReal) ∧ Scored (k2_pay2 (F := Ideal) q kb (ix2 r s)) (wt (score Q K) β D r (B + s.val)) := by
  have e : k2_pay2 (F := Ideal) q kb (ix2 r s) = ((score Q K r (B + s.val) : ℝ) : EReal) := by
    pointwise [k2_pay2]
    exact dot_eq q kb Q K B hq hk r s
  refine ⟨e, .inr ⟨_, e, ?_⟩⟩
  unfold wt
  rw [if_pos (by omega), hβ _ (by omega), add_zero]

include hq hk hv in
/-- A far block. -/
theorem trip_holds (hD : B + 512 ≤ D) (hβ : ∀ n, 256 < n → β n = 0) (s : St Ideal) (h : Holds (wt (score Q K) β D) V B s) :
    Holds (wt (score Q K) β D) V (B + 256) (trip q kb vb s) := by
  refine holds_step h (k2_pay2 q kb) (k2_pay5 q kb s.1) (k2_pay3 q kb s.1) vb hv (fun r x => (scored_far q kb Q K β B D hq hk hD hβ r x).2)
    (fun r => by rw [(scored_far q kb Q K β B D hq hk hD hβ r 0).1]; exact EReal.coe_ne_bot _) (fun r l => ?_) (fun r x => ?_) (fun r l => ?_) (fun r l => ?_) (fun r l => ?_)
  · pointwise [k2_pay3]
  · pointwise [k2_pay5]
  · show k2_pay24 (F := Ideal) (k2_pay3 q kb s.1) (ix2 r l) = _
    pointwise [k2_pay24]
  · show k2_pay6 (F := Ideal) _ _ _ _ _ = _
    pointwise [k2_pay6, k2_pay4]
  · show k2_pay7 (F := Ideal) _ _ _ _ _ _ = _
    pointwise [k2_pay7, k2_pay4]

variable (b : Vec Ideal S1x256x256 .f32)
  (hb : ∀ (i : Fin 256) (s : Fin 256), b (ix3 0 i s) = if B + s.val ≤ D + i.val then ((β (D + i.val - (B + s.val)) : ℝ) : EReal) else ⊥)

include hq hk hb in
theorem scored_bias (r : Fin 512) (s : Fin 256) (z : EReal) (hz : z = ∑ x, q (ix2 r x) * kb (ix3 0 s x) + if h : r.val < 256 then b (ix3 0 ⟨r.val, h⟩ s) else b (ix3 0 ⟨r.val - 256, by omega⟩ s)) :
    (B + s.val ≤ D → z ≠ ⊥) ∧ Scored z (wt (score Q K) β D r (B + s.val)) := by
  have e : (if h : r.val < 256 then b (ix3 0 ⟨r.val, h⟩ s) else b (ix3 0 ⟨r.val - 256, by omega⟩ s))
      = if B + s.val ≤ D + r.val % 256 then ((β (D + r.val % 256 - (B + s.val)) : ℝ) : EReal) else ⊥ := by
    by_cases h : r.val < 256
    · rw [dif_pos h, hb, Nat.mod_eq_of_lt h]
    · have e : r.val % 256 = r.val - 256 := by omega
      rw [dif_neg h, hb, e]
  rw [e, dot_eq q kb Q K B hq hk r s] at hz
  unfold wt
  by_cases h : B + s.val ≤ D + r.val % 256
  · rw [if_pos h, ← EReal.coe_add] at hz
    rw [if_pos h, hz]
    exact ⟨fun _ => EReal.coe_ne_bot _, .inr ⟨_, rfl, rfl⟩⟩
  · rw [if_neg h, EReal.add_bot] at hz
    rw [if_neg h]
    exact ⟨fun h' => absurd h' (by omega), .inl ⟨hz, rfl⟩⟩

include hq hk hv hb in
/-- The block before the queries' own. -/
theorem near_holds (hD : B ≤ D) (s : St Ideal) (h : Holds (wt (score Q K) β D) V B s) :
    Holds (wt (score Q K) β D) V (B + 256) (near q b kb vb s) := by
  have hz : ∀ (r : Fin 512) (x : Fin 256), _ := fun r x => scored_bias q kb Q K β B D hq hk b hb r x (k2_pay14 (F := Ideal) q b kb (ix2 r x)) (by pointwise [k2_pay14])
  refine holds_step h (k2_pay14 q b kb) (k2_pay17 q b kb s.1) (k2_pay15 q b kb s.1) vb hv (fun r x => (hz r x).2)
    (fun r => (hz r 0).1 hD) (fun r l => ?_) (fun r x => ?_) (fun r l => ?_) (fun r l => ?_) (fun r l => ?_)
  · pointwise [k2_pay15]
  · pointwise [k2_pay17]
  · show k2_pay27 (F := Ideal) (k2_pay15 q b kb s.1) (ix2 r l) = _
    pointwise [k2_pay27]
  · show k2_pay18 (F := Ideal) _ _ _ _ _ _ = _
    pointwise [k2_pay18, k2_pay16]
  · show k2_pay26 (F := Ideal) (k2_pay19 q b kb vb s.1 s.2.2) (ix2 r l) = _
    pointwise [k2_pay26, k2_pay19, k2_pay16]

include hq hk hv hb in
/-- The queries' own block. -/
theorem diag_holds (hD : B ≤ D) (s : St Ideal) (h : Holds (wt (score Q K) β D) V B s) :
    Holds (wt (score Q K) β D) V (B + 256) (diag q b kb vb s) := by
  have hz : ∀ (r : Fin 512) (x : Fin 256), _ := fun r x => scored_bias q kb Q K β B D hq hk b hb r x (k2_pay29 (F := Ideal) q b kb (ix2 r x)) (by pointwise [k2_pay29])
  refine holds_step h (k2_pay29 q b kb) (k2_pay32 q b kb s.1) (k2_pay30 q b kb s.1) vb hv (fun r x => (hz r x).2)
    (fun r => (hz r 0).1 hD) (fun r l => ?_) (fun r x => ?_) (fun r l => ?_) (fun r l => ?_) (fun r l => ?_)
  · pointwise [k2_pay30]
  · pointwise [k2_pay32]
  · show k2_pay36 (F := Ideal) (k2_pay30 q b kb s.1) (ix2 r l) = _
    pointwise [k2_pay36]
  · show k2_pay33 (F := Ideal) _ _ _ _ _ _ = _
    pointwise [k2_pay33, k2_pay31]
  · show k2_pay35 (F := Ideal) _ _ _ _ = _
    pointwise [k2_pay35, k2_pay28, k2_pay34, k2_pay31]

end

/-- The weight the two streams' difference is normalised with. -/
def norm (o g : Fin 128 → EReal) (l : Fin 128) : EReal :=
  o l * Ideal.rsqrt (Ideal.div (∑ x, o x * o x) (Ideal.ofBits .f32 0x43000000#32) + Ideal.ofBits .f32 0x358637BD#32) * g l * Ideal.ofBits .f32 0x3F4CCCCD#32

/-- The second stream's coefficient. -/
def lam (a b c d : Fin 64 → EReal) : EReal :=
  Ideal.exp (∑ x, a x * b x) - Ideal.exp (∑ x, c x * d x) + Ideal.ofBits .f32 0x3E4CCCCD#32

/-- The closing quotient of a scratch triple that holds all the keys up to `n`. -/
theorem fin_apply (W : Fin 512 → ℕ → ℝ) (V : ℕ → Fin 128 → ℝ) (n : ℕ) (hW : ∀ r, 0 < ∑ j ∈ Finset.range n, W r j) (s : St Ideal) (h : Holds W V n s)
    (x4 x5 x6 x7 : Vec Ideal S1x64 .f32) (x8 : Vec Ideal S1x128 .f32) (t : Fin 256) (l : Fin 128) :
    fin x4 x5 x6 x7 x8 s (ix3 0 t l) = norm (fun l =>
      (((∑ j ∈ Finset.range n, W ⟨t.val, by omega⟩ j * V j l) / ∑ j ∈ Finset.range n, W ⟨t.val, by omega⟩ j : ℝ) : EReal)
        - lam (fun x => x4 (ix2 0 x)) (fun x => x5 (ix2 0 x)) (fun x => x6 (ix2 0 x)) (fun x => x7 (ix2 0 x))
          * (((∑ j ∈ Finset.range n, W ⟨256 + t.val, by omega⟩ j * V j l) / ∑ j ∈ Finset.range n, W ⟨256 + t.val, by omega⟩ j : ℝ) : EReal))
      (fun l => x8 (ix2 0 l)) l := by
  obtain ⟨m, -, h2, h3⟩ := h
  have ha : ∀ l : Fin 128, k2_pay39 s.2.1 (View.ld s.2.2 (Rect.unit (s := S512x128) ![0, 0] S256x128.size inb_S512x128_S256x128_0_0)) (ix2 t l)
      = (((∑ j ∈ Finset.range n, W ⟨t.val, by omega⟩ j * V j l) / ∑ j ∈ Finset.range n, W ⟨t.val, by omega⟩ j : ℝ) : EReal) := fun l => by
    pointwise [k2_pay39, k2_pay38]
    exact stands_quot (h2 _ _) (h3 _ _) (hW _)
  have hb : ∀ l : Fin 128, View.ld s.2.2 (Rect.unit (s := S512x128) ![256, 0] S256x128.size inb_S512x128_S256x128_256_0) (ix2 t l) * k2_pay38 s.2.1 (ix2 ⟨256 + t.val, by omega⟩ l)
      = (((∑ j ∈ Finset.range n, W ⟨256 + t.val, by omega⟩ j * V j l) / ∑ j ∈ Finset.range n, W ⟨256 + t.val, by omega⟩ j : ℝ) : EReal) := fun l => by
    pointwise [k2_pay38]
    exact stands_quot (h2 _ _) (h3 _ _) (hW _)
  have hl : k2_pay37 x4 x5 x6 x7 (ix2 0 0) = lam (fun x => x4 (ix2 0 x)) (fun x => x5 (ix2 0 x)) (fun x => x6 (ix2 0 x)) (fun x => x7 (ix2 0 x)) := by
    pointwise [k2_pay37]
    rfl
  unfold fin norm
  rw [← hl]
  simp only [← ha, ← hb]
  generalize k2_pay39 s.2.1 (View.ld s.2.2 (Rect.unit (s := S512x128) ![0, 0] S256x128.size inb_S512x128_S256x128_0_0)) = a
  generalize View.ld s.2.2 (Rect.unit (s := S512x128) ![256, 0] S256x128.size inb_S512x128_S256x128_256_0) = b
  pointwise [k2_pay1]

end Cert.DaKernelIdeal.Diff
-- ==== Proof.DaGrid.lean ====
/-
  What a grid point of the attention leaves: every key up to the query, under its weight, in both streams.
-/
module

public import proofs.«01_k».proof.Proof.DaPay

@[expose] public section

set_option maxRecDepth 16384

noncomputable section

open Idealize.ShloMosaic Idealize.ShloMosaic.TcCoe Idealize.SL.Sem Idealize.ShloMosaic.WordCmp

namespace Cert.DaKernelIdeal.Diff

open Cert.DaKernelIdeal Cert.DaKernelIdeal.Gen Cert.Diff
open Cert.KernelIdeal.Stick (stack score headScore rowOf score_stack)

/-- Trip `n` reads the `n`-th block of keys. -/
theorem off1 (i : grid2.Coords) (n : Fin (k2_t1_loop i).trips) : k2_off1 i n = ![0, 256 * n.val, 0] := by
  have h : ∀ b : Fin 16, (Scalar.indexCast (Scalar.muli (Scf.iv 0#32 1#32 b.val) 256#32) : Index).toNat = 256 * b.val := by decide +kernel
  have hn : n.val < (i 2).val - 1 := (trips1 i) ▸ n.isLt
  have hi : (i 2).val < 16 := (i 2).isLt
  show ![0, _, 0] = _
  exact congrArg (fun z => ![0, z, 0]) (h ⟨n.val, by omega⟩)

/-- The block before the queries' own. -/
theorem off3 (i : grid2.Coords) (hc : 1 ≤ (i 2).val) : k2_off3 i = ![0, 256 * ((i 2).val - 1), 0] := by
  have h : ∀ a : Fin 16, 1 ≤ a.val → (Scalar.indexCast (Scalar.muli (Scalar.subi (BitVec.ofNat 32 a.val) 1#32) 256#32) : Index).toNat = 256 * (a.val - 1) := by decide +kernel
  show ![0, _, 0] = _
  exact congrArg (fun z => ![0, z, 0]) (h (i 2) hc)

/-- The queries' own block. -/
theorem off4 (i : grid2.Coords) : k2_off4 i = ![0, 256 * (i 2).val, 0] := by
  have h : ∀ a : Fin 16, (Scalar.indexCast (Scalar.muli (BitVec.ofNat 32 a.val) 256#32) : Index).toNat = 256 * a.val := by decide +kernel
  show ![0, _, 0] = _
  exact congrArg (fun z => ![0, z, 0]) (h (i 2))

/-- The rows of a block of keys. -/
theorem rows_apply (x : Vec Ideal S1x4096x128 .bf16) (K : ℕ → Fin 128 → ℝ) (hk : ∀ (s : Fin 4096) d, x (ix3 0 s d) = ((K s.val d : ℝ) : EReal))
    (off : Fin 3 → ℕ) (inb : ∀ a, off a + S1x256x128.size a ≤ S1x4096x128.size a) (B : ℕ) (hB : B + 256 ≤ 4096) (h : off = ![0, B, 0]) (s : Fin 256) (d : Fin 128) :
    View.ld x (Rect.unit (s := S1x4096x128) off S1x256x128.size inb) (ix3 0 s d) = ((K (B + s.val) d : ℝ) : EReal) := by
  refine (View.ld_unit_apply_of _ _ _ _ _ (ix3 0 ⟨B + s.val, by omega⟩ d) ?_).trans (hk _ _)
  subst h
  intro a
  fin_cases a
  · rfl
  · rfl
  · exact (Nat.zero_add _).symm

section
variable (i : grid2.Coords) (x0 : Vec Ideal S1x256x128 .bf16) (x1 x2 : Vec Ideal S1x4096x128 .bf16) (x3 : Vec Ideal S1x256x512 .f32)
  (Q : Fin 256 → Fin 128 → ℝ) (K V : ℕ → Fin 128 → ℝ) (β : ℕ → ℝ)
  (h0 : ∀ t d, x0 (ix3 0 t d) = ((Q t d : ℝ) : EReal))
  (hk : ∀ (s : Fin 4096) d, x1 (ix3 0 s d) = ((K s.val d : ℝ) : EReal))
  (hv : ∀ (s : Fin 4096) d, x2 (ix3 0 s d) = ((V s.val d : ℝ) : EReal))
  (hb : ∀ (a : Fin 256) (b : Fin 512), x3 (ix3 0 a b) = if b.val ≤ 256 + a.val then ((β (256 + a.val - b.val) : ℝ) : EReal) else ⊥)
  (hβ : ∀ n, 256 < n → β n = 0)

/-- The weights of the keys for the stacked rows of a grid point. -/
abbrev wts (i : grid2.Coords) (Q : Fin 256 → Fin 128 → ℝ) (K : ℕ → Fin 128 → ℝ) (β : ℕ → ℝ) : Fin 512 → ℕ → ℝ := wt (score (stack Q) K) β (256 * (i 2).val)

include h0 hk hv hβ in
/-- Before trip `n` the first `n` blocks are taken in. -/
theorem trips_holds (n : ℕ) (hn : n ≤ (i 2).val - 1) : Holds (wts i Q K β) V (256 * n) (trips i (k2_pay20 x0) x1 x2 (init (F := Ideal)) n) := by
  induction n with
  | zero => exact holds_init _ _
  | succ n ih =>
    have hi : (i 2).val < 16 := (i 2).isLt
    have h : n < (k2_t1_loop i).trips := by rw [trips1]; omega
    rw [trips, dif_pos h]
    exact trip_holds (k2_pay20 x0) _ _ (stack Q) K V β (256 * n) (256 * (i 2).val) (pay20 x0 Q h0) (rows_apply x1 K hk _ _ _ (by omega) (off1 i ⟨n, h⟩))
      (rows_apply x2 V hv _ _ _ (by omega) (off1 i ⟨n, h⟩)) (by omega) hβ _ (ih (by omega))

include hb in
theorem biasNear_apply (a s : Fin 256) : biasNear x3 (ix3 0 a s) = if s.val ≤ 256 + a.val then ((β (256 + a.val - s.val) : ℝ) : EReal) else ⊥ := by
  refine (View.ld_unit_apply_of _ _ _ _ _ (ix3 0 a ⟨s.val, by omega⟩) ?_).trans (hb _ _)
  intro b
  fin_cases b
  · rfl
  · exact (Nat.zero_add _).symm
  · exact (Nat.zero_add _).symm

include hb in
theorem biasDiag_apply (a s : Fin 256) : biasDiag x3 (ix3 0 a s) = if 256 + s.val ≤ 256 + a.val then ((β (256 + a.val - (256 + s.val)) : ℝ) : EReal) else ⊥ := by
  refine (View.ld_unit_apply_of _ _ _ _ _ (ix3 0 a ⟨256 + s.val, by omega⟩) ?_).trans (hb _ _)
  intro b
  fin_cases b
  · rfl
  · exact (Nat.zero_add _).symm
  · rfl

include h0 hk hv hb in
/-- The queries' own block, last. -/
theorem own_holds (s : St Ideal) (h : Holds (wts i Q K β) V (256 * (i 2).val) s) :
    Holds (wts i Q K β) V (256 * (i 2).val + 256) (diag (k2_pay20 x0) (biasDiag x3) (rowsDiag x1 i) (rowsDiag x2 i) s) := by
  have hi : (i 2).val < 16 := (i 2).isLt
  refine diag_holds (k2_pay20 x0) _ _ (stack Q) K V β _ _ (pay20 x0 Q h0) (rows_apply x1 K hk _ _ _ (by omega) (off4 i)) (rows_apply x2 V hv _ _ _ (by omega) (off4 i))
    (biasDiag x3) (fun a s => ?_) le_rfl s h
  rw [biasDiag_apply x3 β hb]
  refine if_congr (by omega) ?_ rfl
  rw [show 256 + a.val - (256 + s.val) = 256 * (i 2).val + a.val - (256 * (i 2).val + s.val) by omega]

include h0 hk hv hb hβ in
/-- The first block of queries. -/
theorem first_holds (hi : (i 2).val = 0) :
    Holds (wts i Q K β) V (256 * (i 2).val + 256) (diag (k2_pay20 x0) (biasDiag x3) (rowsDiag x1 i) (rowsDiag x2 i) (init (F := Ideal))) :=
  own_holds i x0 x1 x2 x3 Q K V β h0 hk hv hb _ (by rw [show 256 * (i 2).val = 0 by omega]; exact holds_init _ _)

include h0 hk hv hb hβ in
/-- A later block of queries. -/
theorem later_holds (hc : cond2_0 i) (hi : 1 ≤ (i 2).val) :
    Holds (wts i Q K β) V (256 * (i 2).val + 256) (diag (k2_pay20 x0) (biasDiag x3) (rowsDiag x1 i) (rowsDiag x2 i)
      (near (k2_pay20 x0) (biasNear x3) (rowsNear x1 i hc) (rowsNear x2 i hc) (trips i (k2_pay20 x0) x1 x2 (init (F := Ideal)) ((i 2).val - 1)))) := by
  have hi' : (i 2).val < 16 := (i 2).isLt
  refine own_holds i x0 x1 x2 x3 Q K V β h0 hk hv hb _ ?_
  have h := near_holds (k2_pay20 x0) _ _ (stack Q) K V β (256 * ((i 2).val - 1)) (256 * (i 2).val) (pay20 x0 Q h0)
    (rows_apply x1 K hk _ (k2_off3_inb i hc) _ (by omega) (off3 i hi)) (rows_apply x2 V hv _ (k2_off3_inb i hc) _ (by omega) (off3 i hi)) (biasNear x3) (fun a s => by
      rw [biasNear_apply x3 β hb]
      refine if_congr (by omega) ?_ rfl
      rw [show 256 + a.val - s.val = 256 * (i 2).val + a.val - (256 * ((i 2).val - 1) + s.val) by omega]) (by omega) _
    (trips_holds i x0 x1 x2 Q K V β h0 hk hv hβ ((i 2).val - 1) le_rfl)
  rwa [show 256 * ((i 2).val - 1) + 256 = 256 * (i 2).val by omega] at h

end

theorem wt_nonneg (S : Fin 512 → ℕ → ℝ) (β : ℕ → ℝ) (D : ℕ) (r : Fin 512) (j : ℕ) : 0 ≤ wt S β D r j := by
  unfold wt; split
  · positivity
  · exact le_rfl

/-- The keys' weights do not all vanish. -/
theorem wt_pos (S : Fin 512 → ℕ → ℝ) (β : ℕ → ℝ) (D n : ℕ) (hn : 0 < n) (r : Fin 512) : 0 < ∑ j ∈ Finset.range n, wt S β D r j := by
  refine Finset.sum_pos' (fun j _ => wt_nonneg S β D r j) ⟨0, Finset.mem_range.mpr hn, ?_⟩
  unfold wt
  rw [if_pos (Nat.zero_le _)]
  positivity

/-- Past the query the weights vanish, so that the sum stops at the query. -/
theorem wt_sum (S : Fin 512 → ℕ → ℝ) (β : ℕ → ℝ) (D : ℕ) (r : Fin 512) (f : ℕ → ℝ) :
    ∑ j ∈ Finset.range (D + 256), wt S β D r j * f j = ∑ j ∈ Finset.range (D + r.val % 256 + 1), (2 : ℝ) ^ (S r j + β (D + r.val % 256 - j)) * f j := by
  rw [← Finset.sum_subset (Finset.range_mono (by omega : D + r.val % 256 + 1 ≤ D + 256))]
  · refine Finset.sum_congr rfl fun j hj => ?_
    rw [wt, if_pos (by have := Finset.mem_range.mp hj; omega)]
  · intro j _ hj
    rw [wt, if_neg (fun h => hj (Finset.mem_range.mpr (Nat.lt_succ_of_le h))), zero_mul]

end Cert.DaKernelIdeal.Diff
-- ==== Proof.DaRegion.lean ====
/-
  The arrays the calls of the differential attention leave: `final_q`, `final_k`, `final_v` the projections, `final_o`
  the attention's result.
-/
module

public import proofs.«01_k».proof.Proof.DaGrid
public import proofs.«01_k».proof.Proof.StickRegion

@[expose] public section

set_option maxRecDepth 16384

noncomputable section

open Idealize.ShloMosaic Idealize.ShloMosaic.TcCoe Idealize.SL.Sem Idealize.ShloMosaic.WordCmp
open Idealize.ShloMosaic.Pipeline (Dat)

namespace Cert.DaKernelIdeal.Diff

open Cert.DaKernelIdeal Cert.DaKernelIdeal.Gen Cert.Diff
open Cert.KernelIdeal.Stick (stack score headScore rowOf score_stack headScore_eq)

variable (V : (c : Dev nD) → (b : Ref sig .tc) → Buf (Elt Ideal) ((c : Thread nD τ).loc b))

/-- Rows times a matrix. -/
def proj (X : Vec Ideal S32768x1024 .f32) (W : Vec Ideal S1024x1024 .bf16) (i : Fin 32768) (j : Fin 1024) : EReal :=
  ∑ d : Fin 1024, X (ix2 i d) * W (ix2 d j)

theorem ix1_0 (t : Fin cfg1.N) : win1_0.index t = ![t.val, 0] := (by decide +kernel : ∀ t : Fin grid1.N, win1_0.index t = ![t.val, 0]) t
theorem ix1_1 (t : Fin cfg1.N) : win1_1.index t = ![0, 0] := (by decide +kernel : ∀ t : Fin grid1.N, win1_1.index t = ![0, 0]) t
theorem ix1_2 (t : Fin cfg1.N) : win1_2.index t = ![0, 0] := (by decide +kernel : ∀ t : Fin grid1.N, win1_2.index t = ![0, 0]) t
theorem ix1_3 (t : Fin cfg1.N) : win1_3.index t = ![0, 0] := (by decide +kernel : ∀ t : Fin grid1.N, win1_3.index t = ![0, 0]) t
theorem ix1_4 (t : Fin cfg1.N) : win1_4.index t = ![t.val, 0] := (by decide +kernel : ∀ t : Fin grid1.N, win1_4.index t = ![t.val, 0]) t
theorem ix1_5 (t : Fin cfg1.N) : win1_5.index t = ![t.val, 0] := (by decide +kernel : ∀ t : Fin grid1.N, win1_5.index t = ![t.val, 0]) t
theorem ix1_6 (t : Fin cfg1.N) : win1_6.index t = ![t.val, 0] := (by decide +kernel : ∀ t : Fin grid1.N, win1_6.index t = ![t.val, 0]) t

/-- The named scale of the queries. -/
theorem scale : Named.named (F := Ideal) Cert.DaKernelIdeal.κ "scale_log2e" (φ := .f32) 0x3E38AA3B#32 = (((1/8) * (Real.log 2)⁻¹ : ℝ) : EReal) :=
  IdealRules.named_const.ideal_named_scalar _ _ _ _ rfl

/-- The second call leaves the scaled query projection in its first output, -/
theorem final_q (c : Dev nD) : (dat1 (F := Ideal) V c).arrAt 4 cfg1.N = fun j => proj (V c main_v0) (V c main_v5) (j 0) (j 1) * (((1/8) * (Real.log 2)⁻¹ : ℝ) : EReal) := by
  refine (dat1 V c).arrAt_eq_of_covers 4 _ (by decide +kernel) fun t hf y => ?_
  blk_simp
  rw [after1_4]; frame_out
  idx_vars y
  pointwise [k1_pay2, k1_pay1]
  rw [scale]
  refine congrArg (· * _) ?_
  refine Finset.sum_congr rfl fun x _ => congrArg₂ (· * ·) ?_ ?_
  · blk_simp [iblk1]
    exact congrArg (V c main_v0) (by blk_ext [ix1_0, ix1_4])
  · blk_simp [iblk1]
    exact congrArg (V c main_v5) (by blk_ext [ix1_1, ix1_4])

/-- the key projection in its second, -/
theorem final_k (c : Dev nD) : (dat1 (F := Ideal) V c).arrAt 5 cfg1.N = fun j => proj (V c main_v0) (V c main_v6) (j 0) (j 1) := by
  refine (dat1 V c).arrAt_eq_of_covers 5 _ (by decide +kernel) fun t hf y => ?_
  blk_simp
  rw [after1_5]; frame_out
  idx_vars y
  pointwise [k1_pay3, k1_pay1]
  show @Eq EReal _ _
  refine Finset.sum_congr rfl fun x _ => congrArg₂ (· * ·) ?_ ?_
  · blk_simp [iblk1]
    exact congrArg (V c main_v0) (by blk_ext [ix1_0, ix1_5])
  · blk_simp [iblk1]
    exact congrArg (V c main_v6) (by blk_ext [ix1_2, ix1_5])

/-- and the value projection in its third. -/
theorem final_v (c : Dev nD) : (dat1 (F := Ideal) V c).arrAt 6 cfg1.N = fun j => proj (V c main_v0) (V c main_v7) (j 0) (j 1) := by
  refine (dat1 V c).arrAt_eq_of_covers 6 _ (by decide +kernel) fun t hf y => ?_
  blk_simp
  rw [after1_6]; frame_out
  idx_vars y
  pointwise [k1_pay4, k1_pay1]
  show @Eq EReal _ _
  refine Finset.sum_congr rfl fun x _ => congrArg₂ (· * ·) ?_ ?_
  · blk_simp [iblk1]
    exact congrArg (V c main_v0) (by blk_ext [ix1_0, ix1_6])
  · blk_simp [iblk1]
    exact congrArg (V c main_v7) (by blk_ext [ix1_3, ix1_6])

/-- A grid point's query block. -/
theorem coords2 (t : Fin cfg2.N) : (grid2.coords t 2).val = t.val % 16 := (by decide +kernel : ∀ t : Fin grid2.N, (grid2.coords t 2).val = t.val % 16) t
theorem ix2_0 (t : Fin cfg2.N) : win2_0.index t = ![t.val / 128, t.val % 16, t.val / 16 % 8] :=
  (by decide +kernel : ∀ t : Fin grid2.N, win2_0.index t = ![t.val / 128, t.val % 16, t.val / 16 % 8]) t
theorem ix2_1 (t : Fin cfg2.N) : win2_1.index t = ![t.val / 128, 0, t.val / 16 % 8] :=
  (by decide +kernel : ∀ t : Fin grid2.N, win2_1.index t = ![t.val / 128, 0, t.val / 16 % 8]) t
theorem ix2_2 (t : Fin cfg2.N) : win2_2.index t = ![t.val / 128, 0, t.val / 16 % 8] :=
  (by decide +kernel : ∀ t : Fin grid2.N, win2_2.index t = ![t.val / 128, 0, t.val / 16 % 8]) t
theorem ix2_3 (t : Fin cfg2.N) : win2_3.index t = ![t.val / 16 % 8, 0, 0] :=
  (by decide +kernel : ∀ t : Fin grid2.N, win2_3.index t = ![t.val / 16 % 8, 0, 0]) t
theorem ix2_4 (t : Fin cfg2.N) : win2_4.index t = ![0, 0] :=
  (by decide +kernel : ∀ t : Fin grid2.N, win2_4.index t = ![0, 0]) t
theorem ix2_5 (t : Fin cfg2.N) : win2_5.index t = ![0, 0] :=
  (by decide +kernel : ∀ t : Fin grid2.N, win2_5.index t = ![0, 0]) t
theorem ix2_6 (t : Fin cfg2.N) : win2_6.index t = ![0, 0] :=
  (by decide +kernel : ∀ t : Fin grid2.N, win2_6.index t = ![0, 0]) t
theorem ix2_7 (t : Fin cfg2.N) : win2_7.index t = ![0, 0] :=
  (by decide +kernel : ∀ t : Fin grid2.N, win2_7.index t = ![0, 0]) t
theorem ix2_8 (t : Fin cfg2.N) : win2_8.index t = ![0, 0] :=
  (by decide +kernel : ∀ t : Fin grid2.N, win2_8.index t = ![0, 0]) t
theorem ix2_9 (t : Fin cfg2.N) : win2_9.index t = ![t.val / 128, t.val % 16, t.val / 16 % 8] :=
  (by decide +kernel : ∀ t : Fin grid2.N, win2_9.index t = ![t.val / 128, t.val % 16, t.val / 16 % 8]) t

/-- Batch `b`'s score of query `t` against key `s` in stream `g` (sixty-four columns a stream). -/
def hs (Q K : ℕ → ℕ → ℕ → ℝ) (b t g s : ℕ) : ℝ := ∑ e : Fin 64, Q b t (64 * g + e.val) * K b s (64 * g + e.val)

/-- The weight of key `s` for query `t` in stream `g` of head `h`. -/
def hw (Q K : ℕ → ℕ → ℕ → ℝ) (β : ℕ → ℕ → ℝ) (b t h g s : ℕ) : ℝ := (2 : ℝ) ^ (hs Q K b t g s + β h (t - s))

/-- Column `l` of the weighted values of stream `g`, up to query `t`. -/
def av (Q K U : ℕ → ℕ → ℕ → ℝ) (β : ℕ → ℕ → ℝ) (b t h g l : ℕ) : ℝ :=
  (∑ s ∈ Finset.range (t + 1), hw Q K β b t h g s * U b s l) / ∑ s ∈ Finset.range (t + 1), hw Q K β b t h g s

/-- A stacked row's weighted values are its stream's. -/
theorem row_av (Q K U : ℕ → ℕ → ℕ → ℝ) (β : ℕ → ℕ → ℝ) (b p q : ℕ) (i : grid2.Coords) (hi : (i 2).val = q) (t : Fin 256) (x : Fin 128)
    (r : Fin 512) (hr : r.val % 256 = t.val) (l : Fin 128) (hl : rowOf t l = r) (u : Fin 128) :
    (∑ j ∈ Finset.range (256 * (i 2).val + 256), wts i (fun r l => Q b (256 * q + r.val) (128 * p + l.val)) (fun s l => K b s (128 * p + l.val)) (β p) r j * U b j (128 * p + u.val))
      / (∑ j ∈ Finset.range (256 * (i 2).val + 256), wts i (fun r l => Q b (256 * q + r.val) (128 * p + l.val)) (fun s l => K b s (128 * p + l.val)) (β p) r j)
      = av Q K U β b (256 * q + t.val) p ((128 * p + l.val) / 64) (128 * p + u.val) := by
  have e : ∀ f : ℕ → ℝ, ∑ j ∈ Finset.range (256 * (i 2).val + 256), wts i (fun r l => Q b (256 * q + r.val) (128 * p + l.val)) (fun s l => K b s (128 * p + l.val)) (β p) r j * f j
      = ∑ s ∈ Finset.range (256 * q + t.val + 1), hw Q K β b (256 * q + t.val) p ((128 * p + l.val) / 64) s * f s := fun f => by
    rw [wt_sum, hr, hi]
    refine Finset.sum_congr rfl fun s _ => congrArg (fun z : ℝ => (2 : ℝ) ^ (z + _) * f s) ?_
    rw [← hl, score_stack]
    exact headScore_eq _ _ (fun h => Q b (256 * q + t.val) h * K b s h) t l s p (fun d => rfl)
  have e1 := e (fun _ => 1)
  simp only [mul_one] at e1
  rw [av, e, e1]

/-- A block's closing values, from a state that holds its weighted sums. -/
theorem fin_row (Q K U : ℕ → ℕ → ℕ → ℝ) (β : ℕ → ℕ → ℝ) (b p q : ℕ) (i : grid2.Coords) (hi : (i 2).val = q)
    (x4 x5 x6 x7 : Vec Ideal S1x64 .f32) (x8 : Vec Ideal S1x128 .f32) (s : St Ideal)
    (hh : Holds (wts i (fun r l => Q b (256 * q + r.val) (128 * p + l.val)) (fun s l => K b s (128 * p + l.val)) (β p))
      (fun s l => U b s (128 * p + l.val)) (256 * (i 2).val + 256) s) (t : Fin 256) (l : Fin 128) :
    fin x4 x5 x6 x7 x8 s (ix3 0 t l) = norm (fun l => ((av Q K U β b (256 * q + t.val) p (2 * p) (128 * p + l.val) : ℝ) : EReal)
      - lam (fun x => x4 (ix2 0 x)) (fun x => x5 (ix2 0 x)) (fun x => x6 (ix2 0 x)) (fun x => x7 (ix2 0 x))
        * ((av Q K U β b (256 * q + t.val) p (2 * p + 1) (128 * p + l.val) : ℝ) : EReal)) (fun l => x8 (ix2 0 l)) l := by
  refine (fin_apply _ _ _ (fun r => wt_pos _ _ _ _ (by omega) r) s hh x4 x5 x6 x7 x8 t l).trans ?_
  refine congrArg (fun z => norm z _ l) (funext fun u => ?_)
  have e0 := row_av Q K U β b p q i hi t 0 ⟨t.val, by omega⟩ (by simp only []; omega) 0 (Fin.ext (by simp [rowOf])) u
  have e1 := row_av Q K U β b p q i hi t 0 ⟨256 + t.val, by omega⟩ (by simp only []; omega) 64 (Fin.ext (by simp [rowOf])) u
  rw [show (128 * p + (0 : Fin 128).val) / 64 = 2 * p by show (128 * p + 0) / 64 = 2 * p; omega] at e0
  rw [show (128 * p + (64 : Fin 128).val) / 64 = 2 * p + 1 by show (128 * p + 64) / 64 = 2 * p + 1; omega] at e1
  rw [← e0, ← e1]

section
variable (c : Dev nD) (Q K U : ℕ → ℕ → ℕ → ℝ) (β : ℕ → ℕ → ℝ) (hβ : ∀ h n, 256 < n → β h n = 0)
  (hq : ∀ (b : Fin 8) (t : Fin 4096) (h : Fin 1024), V c main_v9 (ix3 b t h) = ((Q b.val t.val h.val : ℝ) : EReal))
  (hk : ∀ (b : Fin 8) (t : Fin 4096) (h : Fin 1024), V c main_v10 (ix3 b t h) = ((K b.val t.val h.val : ℝ) : EReal))
  (hv : ∀ (b : Fin 8) (t : Fin 4096) (h : Fin 1024), V c main_v11 (ix3 b t h) = ((U b.val t.val h.val : ℝ) : EReal))
  (hb : ∀ (h : Fin 8) (i : Fin 256) (j : Fin 512), V c main_v1 (ix3 h i j) = if j.val ≤ 256 + i.val then ((β h.val (256 + i.val - j.val) : ℝ) : EReal) else ⊥)
  (t : Fin cfg2.N)

include hq in
theorem blk_q (r : Fin 256) (d : Fin 128) : iblk2 V c 0 t (ix3 0 r d) = ((Q (t.val / 128) (256 * (t.val % 16) + r.val) (128 * (t.val / 16 % 8) + d.val) : ℝ) : EReal) := by
  have ht : t.val < 1024 := t.isLt
  blk_simp [iblk2]
  refine (congrArg (V c main_v9) (?_ : _ = ix3 ⟨t.val / 128, by omega⟩ ⟨256 * (t.val % 16) + r.val, by omega⟩ ⟨128 * (t.val / 16 % 8) + d.val, by omega⟩)).trans (hq _ _ _)
  blk_ext [ix2_0]

include hk in
theorem blk_k (s : Fin 4096) (d : Fin 128) : iblk2 V c 1 t (ix3 0 s d) = ((K (t.val / 128) s.val (128 * (t.val / 16 % 8) + d.val) : ℝ) : EReal) := by
  have ht : t.val < 1024 := t.isLt
  blk_simp [iblk2]
  refine (congrArg (V c main_v10) (?_ : _ = ix3 ⟨t.val / 128, by omega⟩ s ⟨128 * (t.val / 16 % 8) + d.val, by omega⟩)).trans (hk _ _ _)
  blk_ext [ix2_1]

include hv in
theorem blk_v (s : Fin 4096) (d : Fin 128) : iblk2 V c 2 t (ix3 0 s d) = ((U (t.val / 128) s.val (128 * (t.val / 16 % 8) + d.val) : ℝ) : EReal) := by
  have ht : t.val < 1024 := t.isLt
  blk_simp [iblk2]
  refine (congrArg (V c main_v11) (?_ : _ = ix3 ⟨t.val / 128, by omega⟩ s ⟨128 * (t.val / 16 % 8) + d.val, by omega⟩)).trans (hv _ _ _)
  blk_ext [ix2_2]

include hb in
theorem blk_b (a : Fin 256) (b : Fin 512) : iblk2 V c 3 t (ix3 0 a b) = if b.val ≤ 256 + a.val then ((β (t.val / 16 % 8) (256 + a.val - b.val) : ℝ) : EReal) else ⊥ := by
  have ht : t.val < 1024 := t.isLt
  blk_simp [iblk2]
  refine (congrArg (V c main_v1) (?_ : _ = ix3 ⟨t.val / 16 % 8, by omega⟩ a b)).trans (hb _ _ _)
  blk_ext [ix2_3]

theorem blk_4 (x : Fin 64) : iblk2 V c 4 t (ix2 0 x) = V c main_v17 (ix2 0 x) := by
  blk_simp [iblk2]
  refine congrArg (V c main_v17) (?_ : _ = ix2 (0 : Fin 1) x)
  blk_ext [ix2_4]

theorem blk_5 (x : Fin 64) : iblk2 V c 5 t (ix2 0 x) = V c main_v18 (ix2 0 x) := by
  blk_simp [iblk2]
  refine congrArg (V c main_v18) (?_ : _ = ix2 (0 : Fin 1) x)
  blk_ext [ix2_5]

theorem blk_6 (x : Fin 64) : iblk2 V c 6 t (ix2 0 x) = V c main_v19 (ix2 0 x) := by
  blk_simp [iblk2]
  refine congrArg (V c main_v19) (?_ : _ = ix2 (0 : Fin 1) x)
  blk_ext [ix2_6]

theorem blk_7 (x : Fin 64) : iblk2 V c 7 t (ix2 0 x) = V c main_v20 (ix2 0 x) := by
  blk_simp [iblk2]
  refine congrArg (V c main_v20) (?_ : _ = ix2 (0 : Fin 1) x)
  blk_ext [ix2_7]

theorem blk_8 (x : Fin 128) : iblk2 V c 8 t (ix2 0 x) = V c main_v21 (ix2 0 x) := by
  blk_simp [iblk2]
  refine congrArg (V c main_v21) (?_ : _ = ix2 (0 : Fin 1) x)
  blk_ext [ix2_8]

include hβ hq hk hv hb in
/-- A grid point's output is read from a state that holds its block's weighted sums. -/
theorem state_at : ∃ s : St Ideal, outsAt2 V c t.val t.isLt = fin (iblk2 V c 4 t) (iblk2 V c 5 t) (iblk2 V c 6 t) (iblk2 V c 7 t) (iblk2 V c 8 t) s
    ∧ Holds (wts (grid2.coords t) (fun r l => Q (t.val / 128) (256 * (t.val % 16) + r.val) (128 * (t.val / 16 % 8) + l.val)) (fun s l => K (t.val / 128) s (128 * (t.val / 16 % 8) + l.val)) (β (t.val / 16 % 8)))
      (fun s l => U (t.val / 128) s (128 * (t.val / 16 % 8) + l.val)) (256 * (grid2.coords t 2).val + 256) s := by
  have h2 := coords2 t
  have hq' := blk_q V c Q hq t
  have hk' := blk_k V c K hk t
  have hv' := blk_v V c U hv t
  have hb' := blk_b V c β hb t
  by_cases h0 : 1 ≤ t.val % 16
  · have hc : cond2_0 (grid2.coords t) := (hcond2_0 t).mpr h0
    refine ⟨_, (outsAt2_B V c t h0).trans ?_, later_holds (grid2.coords t) _ _ _ _ _ _ _ _ hq' hk' hv' hb' (hβ _) hc (by rw [h2]; exact h0)⟩
    apply out_B
  · refine ⟨_, (outsAt2_A V c t h0).trans ?_, first_holds (grid2.coords t) _ _ _ _ _ _ _ _ hq' hk' hv' hb' (hβ _) (by omega)⟩
    apply out_A
    omega

end

end Cert.DaKernelIdeal.Diff
-- ==== Proof.DaOut.lean ====
/-
  The array the attention call of the differential attention leaves.
-/
module

public import proofs.«01_k».proof.Proof.DaRegion

@[expose] public section

set_option maxRecDepth 16384

noncomputable section

open Idealize.ShloMosaic Idealize.ShloMosaic.TcCoe Idealize.SL.Sem Idealize.ShloMosaic.WordCmp
open Idealize.ShloMosaic.Pipeline (Dat)

namespace Cert.DaKernelIdeal.Diff

open Cert.DaKernelIdeal Cert.DaKernelIdeal.Gen Cert.Diff
open Cert.KernelIdeal.Stick (stack score headScore rowOf score_stack headScore_eq)

variable (V : (c : Dev nD) → (b : Ref sig .tc) → Buf (Elt Ideal) ((c : Thread nD τ).loc b))

section
variable (c : Dev nD) (Q K U : ℕ → ℕ → ℕ → ℝ) (β : ℕ → ℕ → ℝ) (hβ : ∀ h n, 256 < n → β h n = 0)
  (hq : ∀ (b : Fin 8) (t : Fin 4096) (h : Fin 1024), V c main_v9 (ix3 b t h) = ((Q b.val t.val h.val : ℝ) : EReal))
  (hk : ∀ (b : Fin 8) (t : Fin 4096) (h : Fin 1024), V c main_v10 (ix3 b t h) = ((K b.val t.val h.val : ℝ) : EReal))
  (hv : ∀ (b : Fin 8) (t : Fin 4096) (h : Fin 1024), V c main_v11 (ix3 b t h) = ((U b.val t.val h.val : ℝ) : EReal))
  (hb : ∀ (h : Fin 8) (i : Fin 256) (j : Fin 512), V c main_v1 (ix3 h i j) = if j.val ≤ 256 + i.val then ((β h.val (256 + i.val - j.val) : ℝ) : EReal) else ⊥)
  (l1 k1 l2 k2 : Fin 64 → EReal) (g : Fin 128 → EReal)
  (h17 : ∀ x : Fin 64, V c main_v17 (ix2 0 x) = l1 x) (h18 : ∀ x : Fin 64, V c main_v18 (ix2 0 x) = k1 x)
  (h19 : ∀ x : Fin 64, V c main_v19 (ix2 0 x) = l2 x) (h20 : ∀ x : Fin 64, V c main_v20 (ix2 0 x) = k2 x)
  (h21 : ∀ x : Fin 128, V c main_v21 (ix2 0 x) = g x)

include hβ hq hk hv hb h17 h18 h19 h20 h21 in
/-- The third call leaves in its output, for each batch, query and column, the normalised difference of the two streams. -/
theorem final_o :
    (dat2 (F := Ideal) V c).arrAt 9 cfg2.N = fun j => norm (fun l =>
      ((av Q K U β (j 0).val (j 1).val ((j 2).val / 128) (2 * ((j 2).val / 128)) (128 * ((j 2).val / 128) + l.val) : ℝ) : EReal)
        - lam l1 k1 l2 k2
          * ((av Q K U β (j 0).val (j 1).val ((j 2).val / 128) (2 * ((j 2).val / 128) + 1) (128 * ((j 2).val / 128) + l.val) : ℝ) : EReal))
      g ⟨(j 2).val % 128, Nat.mod_lt _ (by norm_num)⟩ := by
  refine (dat2 V c).arrAt_eq_of_covers 9 _ (by decide +kernel) fun t hf y => ?_
  blk_simp
  rw [after2_9]
  have h2 := coords2 t
  have ht : t.val < 1024 := t.isLt
  obtain ⟨s, hs, hh⟩ := state_at V c Q K U β hβ hq hk hv hb t
  idx_vars y
  obtain rfl : y0 = 0 := Subsingleton.elim _ _
  refine (congrFun hs _).trans ((fin_row Q K U β _ _ _ _ h2 _ _ _ _ _ s hh y1 y2).trans ?_)
  have i0 : win2_9.index t 0 = t.val / 128 := congrFun (ix2_9 t) 0
  have i1 : win2_9.index t 1 = t.val % 16 := congrFun (ix2_9 t) 1
  have i2 : win2_9.index t 2 = t.val / 16 % 8 := congrFun (ix2_9 t) 2
  have d : (t.val / 16 % 8 * 128 + y2.val) / 128 = t.val / 16 % 8 := by omega
  have r : (t.val / 16 % 8 * 128 + y2.val) % 128 = y2.val := by omega
  simp only [blk_4, blk_5, blk_6, blk_7, blk_8, h17, h18, h19, h20, h21, i0, i1, i2, d, r, Fin.eta, Nat.mul_comm (t.val % 16) 256]

end

end Cert.DaKernelIdeal.Diff
-- ==== Proof.DaBias.lean ====
/-
  The bias tiles: the entry of the head's column of the table that a distance's bucket names, less the last entry, in
  the scale of powers of two, and minus infinity where the key is later than the query.
-/
module

public import proofs.«01_k».proof.Proof.DaPay
public import Idealize.ShloMosaic.Lib.Pipeline.ValueKit.Geometry
public import Idealize.ShloMosaic.Lib.Pipeline.ValueKit.Acc
public import Idealize.ShloMosaic.Lib.Pipeline.ValueKit.Point

@[expose] public section
set_option maxRecDepth 16384

noncomputable section

open Idealize.ShloMosaic Idealize.ShloMosaic.TcCoe Idealize.SL.Sem Idealize.ShloMosaic.WordCmp
open Idealize.ShloMosaic.Pipeline (Dat)

namespace Cert.DaKernelIdeal.Diff
open Cert.DaKernelIdeal Cert.DaKernelIdeal.Gen Cert.Diff

section
variable {F : FTy → Type} [FloatOps F] [Named F]

/-- The head's tile from its column of the table. -/
def tile (r : Fin 32 → Elt F .f32) : FVec F S1x256x512 .f32 :=
  k0_pay1 k0_pay2 (k0_pay3 (F := F)) (r 31)
    (k0_pay13 (k0_pay3 (F := F)) (r 31)
      (k0_pay11 (k0_pay3 (F := F)) (r 31)
        (k0_pay8 (k0_pay3 (F := F)) (r 31) (k0_pay6 (k0_pay3 (F := F)) (r 31) (k0_pay4 (r 31) (r 0) (r 1)) (k0_pay5 (F := F)) (r 2) (r 3) (r 4) (r 5) (r 6) (r 7) (r 8))
          k0_pay7 (r 9) (r 10) (r 11) (r 12) (r 13) (r 14))
        (k0_pay9 (k0_pay3 (F := F))) (k0_pay10 (r 31) (r 15)) (r 16) (r 17) (r 18) (r 19) (r 20) (r 21))
      (k0_pay12 (k0_pay3 (F := F))) (r 22) (r 23) (r 24) (r 25) (r 26) (r 27) (r 28))
    k0_pay14 (r 29) (r 30) (r 31)

/-- One word of the table. -/
theorem word_at (arg1 : Memref sig .tc .smem S32x8 .f32) (harg1 : arg1.IsWhole) (x0 : Vec F S32x8 .f32) (off : Fin 2 → ℕ)
    (inb : ∀ a, off a + S1x1.size a ≤ S32x8.size a) (h : 0 < S1x1.numel) :
    View.readAt (Elt F) arg1.view (Rect.unit (s := S32x8) off S1x1.size inb).toLoadRect (harg1.unread x0) (Shape.Idx.first h)
      = x0 (ix2 ⟨off 0, Nat.lt_of_succ_le (inb 0)⟩ ⟨off 1, Nat.lt_of_succ_le (inb 1)⟩) := by
  rw [View.readAt_eq_ld, harg1.read_unread]
  refine congrArg x0 (funext fun a => ?_)
  fin_cases a <;> exact Fin.ext (by simp)

/-- What one step leaves in the output window: the tile of the head it stands at. -/
theorem out0_eq (c : Dev nD) (i : grid0.Coords) (arg1 : Memref sig .tc .smem S32x8 .f32) (harg1 : arg1.IsWhole) (arg2 : Memref sig .tc .vmem S1x256x512 .f32) (harg2 : arg2.IsWhole)
    (x0 : Vec F S32x8 .f32) : out0_A_1 c i arg1 harg1 arg2 harg2 x0 = tile (fun n => x0 (ix2 n (i 0))) := by
  have hi : (i 0).val < 8 := (i 0).isLt
  have hb : ∀ n : Fin 32, ∀ a, (![n.val, BitVec.toNat (Scalar.indexCast (BitVec.ofNat 32 (i 0).val))] : Fin 2 → ℕ) a + S1x1.size a ≤ S32x8.size a := fun n a => by
    fin_cases a
    · simpa using n.isLt
    · simp [Scalar.indexCast]; omega
  have e : (fun n => x0 (ix2 n (i 0))) = fun n : Fin 32 => View.readAt (Elt F) arg1.view (Rect.unit (s := S32x8) ![n.val, BitVec.toNat (Scalar.indexCast (BitVec.ofNat 32 (i 0).val))] S1x1.size (hb n)).toLoadRect
      (harg1.unread x0) (Shape.Idx.first numel1_S1x1.ge) := funext fun n => by
    rw [word_at]
    refine congrArg x0 ?_
    refine congrArg₂ ix2 (Fin.ext rfl) (Fin.ext ?_)
    simp [Scalar.indexCast]; omega
  rw [e]
  unfold out0_A_1
  rw [View.read_writes_eq_canon _ _ _ (cover0_A_1 c i arg1 harg1 arg2 harg2 x0)]
  unfold kernelRun0_A
  dsimp only
  rw [View.canon_cons_unit_zero z3]
  rfl

end

/-- The larger of two counts. -/
theorem maxsi_word (a b : ℕ) (ha : a < 2 ^ 31) (hb : b < 2 ^ 31) : IntOp.maxsi (BitVec.ofNat 32 a) (BitVec.ofNat 32 b) = BitVec.ofNat 32 (max a b) := by
  have e : ∀ n : ℕ, n < 2 ^ 31 → (BitVec.ofNat 32 n).toInt = n := fun n hn => by
    rw [toInt_eq_toNat_of_lt_half (by rw [BitVec.toNat_ofNat]; omega), BitVec.toNat_ofNat, Nat.mod_eq_of_lt (by omega)]
  unfold IntOp.maxsi BitVec.slt
  rw [e a ha, e b hb]
  by_cases h : b < a
  · rw [if_pos (by simpa using h), max_eq_left h.le]
  · rw [if_neg (by simpa using h), max_eq_right (by omega)]

/-- A word below zero is cut off. -/
theorem maxsi_neg (x : BitVec 32) (h : IntOp.cmpi .sge x 0#32 = 0#1) : IntOp.maxsi x 0#32 = 0#32 := by
  unfold IntOp.maxsi BitVec.slt
  rw [cmpi_sge_eq] at h
  by_cases h' : (0#32).toInt < x.toInt
  · rw [decide_eq_true h'.le] at h
    exact absurd h (by decide)
  · rw [if_neg (by simpa using h')]

/-- The logarithm's argument. -/
theorem bucket_arg (n : ℕ) (h0 : 16 ≤ n) (h : n < 4096) :
    Ideal.log (FloatOps.sitofp (F := Ideal) .f32 (IntOp.maxsi (BitVec.ofNat 32 n) 1#32) * Ideal.ofBits .f32 0x3D800000#32) = ((Real.log ((n : ℝ) * (1 / 16)) : ℝ) : EReal) := by
  have e1 : IntOp.maxsi (BitVec.ofNat 32 n) 1#32 = BitVec.ofNat 32 n := by
    rw [maxsi_word n 1 (by omega) (by omega), max_eq_left (by omega)]
  have e2 : FloatOps.sitofp (F := Ideal) .f32 (BitVec.ofNat 32 n) = ((n : ℝ) : EReal) := by
    change ((((BitVec.ofNat 32 n).toInt : ℤ) : ℝ) : EReal) = _
    rw [toInt_eq_toNat_of_lt_half (by rw [BitVec.toNat_ofNat]; omega), BitVec.toNat_ofNat, Nat.mod_eq_of_lt (by omega)]
    norm_cast
  have e3 : Ideal.ofBits .f32 0x3D800000#32 = ((1 / 16 : ℝ) : EReal) := by
    simp [Ideal.ofBits, Ideal.ieee, -EReal.coe_mul]
    norm_num
  have hn : (16 : ℝ) ≤ n := by exact_mod_cast h0
  rw [e1, e2, e3, ← EReal.coe_mul, Ideal.log_coe, if_neg (by linarith)]

/-- The chosen entry of a chain of tests against one word. -/
theorem tile_chain (r : Fin 32 → EReal) (i : Fin 256) (j : Fin 512) (n : Fin 32) (hn : k0_pay3 (F := Ideal) (ix2 i j) = BitVec.ofNat 32 n.val) :
    tile (F := Ideal) r (ix3 0 i j) = Scalar.select (IntOp.cmpi .sge (k0_pay2 (ix2 i j)) 0#32)
      ((r n - r 31) * (((Real.log 2)⁻¹ : ℝ) : EReal)) (⊥ : EReal) := by
  have hl : Named.named (F := Ideal) Cert.DaKernelIdeal.κ "log2e" (φ := .f32) 0x3FB8AA3B#32 = (((Real.log 2)⁻¹ : ℝ) : EReal) :=
    IdealRules.named_const.ideal_named_scalar _ _ _ _ rfl
  have hi : Named.named (F := Ideal) Cert.DaKernelIdeal.κ "neg_inf" (φ := .f32) 0xF149F2CA#32 = (⊥ : EReal) :=
    IdealRules.named_const.ideal_named_scalar _ _ _ _ rfl
  pointwise [tile, k0_pay1, k0_pay4, k0_pay5, k0_pay6, k0_pay7, k0_pay8, k0_pay9, k0_pay10, k0_pay11, k0_pay12, k0_pay13, k0_pay14]
  rw [hn, hl, hi]
  refine congrArg (fun z : EReal => Scalar.select _ (z * _) _) ?_
  clear hn
  fin_cases n <;> rfl

/-- A difference of two counts that does not go below zero. -/
theorem sub_word (a b : ℕ) (h : b ≤ a) (ha : a < 2 ^ 32) : IntOp.subi (BitVec.ofNat 32 a) (BitVec.ofNat 32 b) = BitVec.ofNat 32 (a - b) := by
  change BitVec.ofNat 32 a - BitVec.ofNat 32 b = _
  refine BitVec.eq_of_toNat_eq ?_
  rw [BitVec.toNat_sub, BitVec.toNat_ofNat, BitVec.toNat_ofNat, BitVec.toNat_ofNat]
  omega

theorem pay2_at (i : Fin 256) (j : Fin 512) : k0_pay2 (ix2 i j) = IntOp.subi (BitVec.ofNat 32 (256 + i.val)) (BitVec.ofNat 32 j.val) := by
  pointwise [k0_pay2]
  rw [addi_ofNat]

/-- Whether the key is no later than the query. -/
theorem pay2_sge (i : Fin 256) (j : Fin 512) : IntOp.cmpi .sge (k0_pay2 (ix2 i j)) 0#32 = BitVec.ofBool (decide (j.val ≤ 256 + i.val)) := by
  rw [pay2_at, cmpi_sge_zero]
  refine congrArg BitVec.ofBool (decide_eq_decide.mpr ?_)
  change (BitVec.ofNat 32 (256 + i.val) - BitVec.ofNat 32 j.val).toNat < _ ↔ _
  rw [BitVec.toNat_sub, BitVec.toNat_ofNat, BitVec.toNat_ofNat]
  omega

/-- The distance, cut off at zero. -/
theorem pay2_max (i : Fin 256) (j : Fin 512) : IntOp.maxsi (k0_pay2 (ix2 i j)) 0#32 = BitVec.ofNat 32 (256 + i.val - j.val) := by
  have h := pay2_sge i j
  by_cases hj : j.val ≤ 256 + i.val
  · rw [pay2_at, sub_word _ _ hj (by omega)] at h ⊢
    refine (maxsi_word (256 + i.val - j.val) 0 (by omega) (by omega)).trans ?_
    rw [Nat.max_zero]
  · rw [show 256 + i.val - j.val = 0 by omega]
    exact maxsi_neg _ (by rw [h]; simp [hj])

/-- The bucket's word. -/
theorem pay3_at (i : Fin 256) (j : Fin 512) : k0_pay3 (F := Ideal) (ix2 i j) = BitVec.ofNat 32 (bk (256 + i.val - j.val)) := by
  pointwise [k0_pay3]
  rw [pay2_max, ← bw_eq _ (by omega)]
  unfold bw
  by_cases hn : 256 + i.val - j.val < 16
  · rw [cmpi_slt_ofNat (by omega) (by omega), select_ofBool, select_ofBool, if_pos (by simpa using hn), if_pos (by simpa using hn)]
  · rw [bucket_arg _ (by omega) (by omega), show Named.named (F := Ideal) Cert.DaKernelIdeal.κ "buckets_per_log" (φ := .f32) 0x40F6384F#32 = ((16 * (Real.log 8)⁻¹ : ℝ) : EReal) from
      IdealRules.named_const.ideal_named_scalar _ _ _ _ rfl, ← EReal.coe_mul]
    rfl

/-- The tile at an index. -/
theorem tile_apply (r : Fin 32 → EReal) (i : Fin 256) (j : Fin 512) :
    tile (F := Ideal) r (ix3 0 i j) = if j.val ≤ 256 + i.val then
      (r ⟨bk (256 + i.val - j.val), by have := bk_le (256 + i.val - j.val); omega⟩ - r 31) * (((Real.log 2)⁻¹ : ℝ) : EReal) else ⊥ := by
  rw [tile_chain r i j ⟨bk (256 + i.val - j.val), by have := bk_le (256 + i.val - j.val); omega⟩ (pay3_at i j), pay2_sge, select_ofBool]
  by_cases h : j.val ≤ 256 + i.val <;> simp [h]

section
variable (V : (c : Dev nD) → (b : Ref sig .tc) → Buf (Elt Ideal) ((c : Thread nD τ).loc b))

theorem ix0_0 (t : Fin cfg0.N) : win0_0.index t = ![0, 0] := (by decide +kernel : ∀ t : Fin grid0.N, win0_0.index t = ![0, 0]) t
theorem ix0_1 (t : Fin cfg0.N) : win0_1.index t = ![t.val, 0, 0] := (by decide +kernel : ∀ t : Fin grid0.N, win0_1.index t = ![t.val, 0, 0]) t
theorem coords0 (t : Fin cfg0.N) : (grid0.coords t 0).val = t.val := (by decide +kernel : ∀ t : Fin grid0.N, (grid0.coords t 0).val = t.val) t

/-- The first call leaves each head's tile in its output. -/
theorem final_b (c : Dev nD) : (dat0 (F := Ideal) V c).arrAt 1 cfg0.N = fun j => tile (F := Ideal) (fun n => V c main_arg1 (ix2 n (j 0))) (ix3 0 (j 1) (j 2)) := by
  refine (dat0 V c).arrAt_eq_of_covers 1 _ (by decide +kernel) fun t hf y => ?_
  blk_simp
  rw [after0_1]
  unfold outsAt0
  rw [out0_eq]
  have h := coords0 t
  have ht : t.val < 8 := t.isLt
  idx_vars y
  obtain rfl : y0 = 0 := Subsingleton.elim _ _
  have e1 : ((View.whole main_v1).slice (win0_1.rect t)).emb (ix3 0 y1 y2) = ix3 (⟨t.val, ht⟩ : Fin 8) y1 y2 := by blk_ext [ix0_1]
  rw [e1]
  refine congrArg (fun r : Fin 32 → EReal => tile (F := Ideal) r (ix3 0 y1 y2)) (funext fun n => ?_)
  blk_simp [iblk0]
  refine congrArg (V c main_arg1) ?_
  blk_ext [ix0_0]

end

end Cert.DaKernelIdeal.Diff
-- ==== Proof.DaRun.lean ====
module

public import proofs.«01_k».proof.Proof.DaOut
public import proofs.«01_k».proof.Proof.DaBias
public import proofs.«01_k».proof.Proof.StickRun
public import Idealize.ShloMosaic.Lib.StableHlo.ReadAt

/-!
# The differential attention's result

`result_eq`: on real arguments the result of the three calls, each read through the host's reshapes, at every batch,
query and column.  `run`: every execution ends with that array and the arguments as launched.
-/

@[expose] public section

set_option maxRecDepth 16384

noncomputable section

open Idealize.ShloMosaic Idealize.ShloMosaic.TcCoe Idealize.ShloMosaic.Tactic Idealize.ShloMosaic.WordCmp
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.DaKernelIdeal.Diff

open Cert.DaKernelIdeal Cert.DaKernelIdeal.Gen Cert.Diff
open Cert.KernelIdeal.Stick (pr)
open Cert.Stick (coe_sum)

/-- The relative bias of head `h` at a distance, against the far bias, in the base of two. -/
def far (R : ℕ → ℕ → ℝ) (h n : ℕ) : ℝ := (R (bk n) h - R 31 h) * (Real.log 2)⁻¹

theorem far_zero (R : ℕ → ℕ → ℝ) (h n : ℕ) (hn : 256 < n) : far R h n = 0 := by
  rw [far, bk_far n (by omega), sub_self, zero_mul]

section
variable (m : (ℓ : Loc nD τ sig) → Buf (Elt Ideal) ℓ) (ρ : Dev nD → PrngReg) (c : Dev nD)

theorem v0_at' (i : Fin 32768) (j : Fin 1024) : V1 m ρ c main_v0 (ix2 i j) = m ((c : Thread nD τ).loc main_arg0) (ix3 ⟨i.val / 4096, by omega⟩ ⟨i.val % 4096, by omega⟩ j) := by
  show StableHlo.after hostOps0 _ _ _ = _
  after_reads_at
theorem v0_at (i : Fin 32768) (j : Fin 1024) : V3 m ρ c main_v0 (ix2 i j) = m ((c : Thread nD τ).loc main_arg0) (ix3 ⟨i.val / 4096, by omega⟩ ⟨i.val % 4096, by omega⟩ j) :=
  (congrFun ((W3_of m ρ c main_v0 (by decide)).trans (W2_of_ne m ρ c main_v0 (by decide))) _).trans (v0_at' m ρ c i j)
theorem v5_at' (i j : Fin 1024) : V3 m ρ c main_v5 (ix2 i j) = W2 m ρ c (Proc.devRef .tc main_arg2) (ix3 0 i j) := by
  show StableHlo.after hostOps1 _ _ _ = _
  after_reads_at
theorem v5_at (i j : Fin 1024) : V3 m ρ c main_v5 (ix2 i j) = m ((c : Thread nD τ).loc main_arg2) (ix3 0 i j) :=
  (v5_at' m ρ c i j).trans (congrFun (W2_args m ρ c main_arg2 (by decide)) _)
theorem v6_at' (i j : Fin 1024) : V3 m ρ c main_v6 (ix2 i j) = W2 m ρ c (Proc.devRef .tc main_arg3) (ix3 0 i j) := by
  show StableHlo.after hostOps1 _ _ _ = _
  after_reads_at
theorem v6_at (i j : Fin 1024) : V3 m ρ c main_v6 (ix2 i j) = m ((c : Thread nD τ).loc main_arg3) (ix3 0 i j) :=
  (v6_at' m ρ c i j).trans (congrFun (W2_args m ρ c main_arg3 (by decide)) _)
theorem v7_at' (i j : Fin 1024) : V3 m ρ c main_v7 (ix2 i j) = W2 m ρ c (Proc.devRef .tc main_arg4) (ix3 0 i j) := by
  show StableHlo.after hostOps1 _ _ _ = _
  after_reads_at
theorem v7_at (i j : Fin 1024) : V3 m ρ c main_v7 (ix2 i j) = m ((c : Thread nD τ).loc main_arg4) (ix3 0 i j) :=
  (v7_at' m ρ c i j).trans (congrFun (W2_args m ρ c main_arg4 (by decide)) _)
theorem v9_at (b : Fin 8) (t : Fin 4096) (h : Fin 1024) : V5 m ρ c main_v9 (ix3 b t h) = W4 m ρ c (Proc.devRef .tc main_v8_0) (ix2 ⟨b.val * 4096 + t.val, by omega⟩ h) := by
  show StableHlo.after hostOps2 _ _ _ = _
  after_reads_at
theorem v10_at (b : Fin 8) (t : Fin 4096) (h : Fin 1024) : V5 m ρ c main_v10 (ix3 b t h) = W4 m ρ c (Proc.devRef .tc main_v8_1) (ix2 ⟨b.val * 4096 + t.val, by omega⟩ h) := by
  show StableHlo.after hostOps2 _ _ _ = _
  after_reads_at
theorem v11_at (b : Fin 8) (t : Fin 4096) (h : Fin 1024) : V5 m ρ c main_v11 (ix3 b t h) = W4 m ρ c (Proc.devRef .tc main_v8_2) (ix2 ⟨b.val * 4096 + t.val, by omega⟩ h) := by
  show StableHlo.after hostOps2 _ _ _ = _
  after_reads_at
theorem v17_at' (x : Fin 64) : V5 m ρ c main_v17 (ix2 0 x) = W4 m ρ c (Proc.devRef .tc main_arg5) (ix2 0 x) := by
  show StableHlo.after hostOps2 _ _ _ = _
  after_reads_at
theorem v17_at (x : Fin 64) : V5 m ρ c main_v17 (ix2 0 x) = m ((c : Thread nD τ).loc main_arg5) (ix2 0 x) :=
  (v17_at' m ρ c x).trans (congrFun (W4_args m ρ c main_arg5 (by decide)) _)
theorem v18_at' (x : Fin 64) : V5 m ρ c main_v18 (ix2 0 x) = W4 m ρ c (Proc.devRef .tc main_arg6) (ix2 0 x) := by
  show StableHlo.after hostOps2 _ _ _ = _
  after_reads_at
theorem v18_at (x : Fin 64) : V5 m ρ c main_v18 (ix2 0 x) = m ((c : Thread nD τ).loc main_arg6) (ix2 0 x) :=
  (v18_at' m ρ c x).trans (congrFun (W4_args m ρ c main_arg6 (by decide)) _)
theorem v19_at' (x : Fin 64) : V5 m ρ c main_v19 (ix2 0 x) = W4 m ρ c (Proc.devRef .tc main_arg7) (ix2 0 x) := by
  show StableHlo.after hostOps2 _ _ _ = _
  after_reads_at
theorem v19_at (x : Fin 64) : V5 m ρ c main_v19 (ix2 0 x) = m ((c : Thread nD τ).loc main_arg7) (ix2 0 x) :=
  (v19_at' m ρ c x).trans (congrFun (W4_args m ρ c main_arg7 (by decide)) _)
theorem v20_at' (x : Fin 64) : V5 m ρ c main_v20 (ix2 0 x) = W4 m ρ c (Proc.devRef .tc main_arg8) (ix2 0 x) := by
  show StableHlo.after hostOps2 _ _ _ = _
  after_reads_at
theorem v20_at (x : Fin 64) : V5 m ρ c main_v20 (ix2 0 x) = m ((c : Thread nD τ).loc main_arg8) (ix2 0 x) :=
  (v20_at' m ρ c x).trans (congrFun (W4_args m ρ c main_arg8 (by decide)) _)
theorem v21_at' (x : Fin 128) : V5 m ρ c main_v21 (ix2 0 x) = W4 m ρ c (Proc.devRef .tc main_arg9) (ix2 0 x) := by
  show StableHlo.after hostOps2 _ _ _ = _
  after_reads_at
theorem v21_at (x : Fin 128) : V5 m ρ c main_v21 (ix2 0 x) = m ((c : Thread nD τ).loc main_arg9) (ix2 0 x) :=
  (v21_at' m ρ c x).trans (congrFun (W4_args m ρ c main_arg9 (by decide)) _)

theorem v1_at (h : Fin 8) (i : Fin 256) (j : Fin 512) :
    V5 m ρ c main_v1 (ix3 h i j) = tile (F := Ideal) (fun n => m ((c : Thread nD τ).loc main_arg1) (ix2 n h)) (ix3 0 i j) := by
  have e : V5 m ρ c main_v1 = (dat0 (F := Ideal) (V1 m ρ) c).arrAt 1 cfg0.N :=
    (W5_of m ρ c main_v1 (by decide)).trans ((W4_of_ne m ρ c main_v1 (by decide)).trans ((W3_of m ρ c main_v1 (by decide)).trans (W2_arr m ρ c 1)))
  rw [e, final_b]
  exact congrArg (fun r => tile (F := Ideal) r (ix3 0 i j)) (funext fun n => congrFun (W1_args m ρ c main_arg1 (by decide)) (ix2 n h))

variable (x : ℕ → ℕ → ℕ → ℝ) (wq wk wv R : ℕ → ℕ → ℝ)
  (hx : ∀ (b : Fin 8) (t : Fin 4096) (d : Fin 1024), m ((c : Thread nD τ).loc main_arg0) (ix3 b t d) = ((x b.val t.val d.val : ℝ) : EReal))
  (hR : ∀ (n : Fin 32) (h : Fin 8), m ((c : Thread nD τ).loc main_arg1) (ix2 n h) = ((R n.val h.val : ℝ) : EReal))
  (hwq : ∀ (d h : Fin 1024), m ((c : Thread nD τ).loc main_arg2) (ix3 0 d h) = ((wq d.val h.val : ℝ) : EReal))
  (hwk : ∀ (d h : Fin 1024), m ((c : Thread nD τ).loc main_arg3) (ix3 0 d h) = ((wk d.val h.val : ℝ) : EReal))
  (hwv : ∀ (d h : Fin 1024), m ((c : Thread nD τ).loc main_arg4) (ix3 0 d h) = ((wv d.val h.val : ℝ) : EReal))

/-- The scale of the queries, with the change of the base of the logarithm in it. -/
def scl : ℝ := (1/8) * (Real.log 2)⁻¹

include hx in
theorem proj_at (W : Vec Ideal S1024x1024 .bf16) (w : ℕ → ℕ → ℝ) (hw : ∀ d h : Fin 1024, W (ix2 d h) = ((w d.val h.val : ℝ) : EReal))
    (b : Fin 8) (t : Fin 4096) (h : Fin 1024) :
    proj (V3 m ρ c main_v0) W ⟨b.val * 4096 + t.val, by omega⟩ h = ((pr x w b.val t.val h.val : ℝ) : EReal) := by
  rw [proj, pr, coe_sum]
  refine Finset.sum_congr rfl fun d _ => ?_
  rw [hw, v0_at, EReal.coe_mul]
  refine congrArg (· * _) ((congrArg (m ((c : Thread nD τ).loc main_arg0)) ?_).trans (hx b t d))
  have e1 : (b.val * 4096 + t.val) / 4096 = b.val := by omega
  have e2 : (b.val * 4096 + t.val) % 4096 = t.val := by omega
  simp only [e1, e2, Fin.eta]

/-- The result at a batch, query and column, the two streams' difference normalised. -/
def out (x : ℕ → ℕ → ℕ → ℝ) (wq wk wv R : ℕ → ℕ → ℝ) (lq1 lk1 lq2 lk2 : Fin 64 → EReal) (g : Fin 128 → EReal) (b t h : ℕ) : EReal :=
  norm (fun l => ((av (fun b t h => pr x wq b t h * scl) (pr x wk) (pr x wv) (far R) b t (h / 128) (2 * (h / 128)) (128 * (h / 128) + l.val) : ℝ) : EReal)
    - lam lq1 lk1 lq2 lk2 * ((av (fun b t h => pr x wq b t h * scl) (pr x wk) (pr x wv) (far R) b t (h / 128) (2 * (h / 128) + 1) (128 * (h / 128) + l.val) : ℝ) : EReal))
    g ⟨h % 128, Nat.mod_lt _ (by norm_num)⟩

include hx hR hwq hwk hwv in
/-- The program's result on real arguments. -/
theorem result_eq : W6 m ρ c (Proc.devRef .tc main_v22) = fun j => out x wq wk wv R
    (fun x => m ((c : Thread nD τ).loc main_arg5) (ix2 0 x)) (fun x => m ((c : Thread nD τ).loc main_arg6) (ix2 0 x))
    (fun x => m ((c : Thread nD τ).loc main_arg7) (ix2 0 x)) (fun x => m ((c : Thread nD τ).loc main_arg8) (ix2 0 x))
    (fun x => m ((c : Thread nD τ).loc main_arg9) (ix2 0 x)) (j 0).val (j 1).val (j 2).val := by
  refine (W6_arr m ρ c 9).trans (final_o (V5 m ρ) c (fun b t h => pr x wq b t h * scl) (pr x wk) (pr x wv) (far R) (far_zero R) ?_ ?_ ?_ ?_ _ _ _ _ _
    (v17_at m ρ c) (v18_at m ρ c) (v19_at m ρ c) (v20_at m ρ c) (v21_at m ρ c))
  · intro b t h
    rw [v9_at]
    refine (congrFun ((W4_arr m ρ c 4).trans (final_q (V3 m ρ) c)) _).trans ?_
    refine (congrArg (· * _) (proj_at m ρ c x hx _ wq (fun d h => (v5_at m ρ c d h).trans (hwq d h)) b t h)).trans (EReal.coe_mul _ _).symm
  · intro b t h
    rw [v10_at]
    refine (congrFun ((W4_arr m ρ c 5).trans (final_k (V3 m ρ) c)) _).trans ?_
    exact proj_at m ρ c x hx _ wk (fun d h => (v6_at m ρ c d h).trans (hwk d h)) b t h
  · intro b t h
    rw [v11_at]
    refine (congrFun ((W4_arr m ρ c 6).trans (final_v (V3 m ρ) c)) _).trans ?_
    exact proj_at m ρ c x hx _ wv (fun d h => (v7_at m ρ c d h).trans (hwv d h)) b t h
  · intro h i j
    rw [v1_at, tile_apply]
    refine if_congr Iff.rfl ?_ rfl
    rw [hR, hR, ← EReal.coe_sub, ← EReal.coe_mul]
    rfl

end

section
variable {F : FTy → Type} [FloatOps F] [Named F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- Every execution ends with the result array at the last boundary's contents and the arguments as launched. -/
theorem run : θ_run defs (onTc (τ := τ) (main (F := F))) ⟨m, fun _ => 0, ρ⟩ (fun r => ∀ c : Dev nD,
      r.2.mem ((c.tc : Thread nD τ).loc main_v22) = W6 m ρ c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c =>
      ⟨h c _ (mem_uc main_v22 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c)⟩)

end

end Cert.DaKernelIdeal.Diff
-- ==== Proof.DaRef.lean ====
/-
  The reference of the differential attention read over the reals, stage by stage: the buckets of the distances, the
  relative bias, the projections, the masked scores, the softmax, the difference of the streams and its norm.
-/
module

public import proofs.«01_k».proof.Proof.DaBias
public import proofs.«01_k».proof.Proof.Gen.DaReferenceIdeal.Run
public import Idealize.ShloMosaic.Lib.Pointwise
public import Idealize.ShloMosaic.Lib.WordCmp

@[expose] public section

set_option maxRecDepth 16384

noncomputable section

open Idealize.ShloMosaic Idealize.ShloMosaic.TcCoe Idealize.SL.Sem Idealize.ShloMosaic.WordCmp

namespace Cert.DaReferenceIdeal.Diff

open Cert.DaReferenceIdeal Cert.DaReferenceIdeal.Gen Cert.Diff
open Cert.Stick (coe_sum)

/-- A position's number. -/
def pos : IVec S4096 32 := iotaInDim S4096 32 0

/-- The distances of the keys before the queries. -/
def dist : IVec S4096x4096 32 :=
  maxsi (subi (broadcastInDim S4096x4096 ![0, 1] bcast_S4096x1_S4096x4096_0_1 (broadcastInDim S4096x1 ![0] bcast_S4096_S4096x1_0 pos)) (broadcastInDim S4096x4096 ![0, 1] bcast_S1x4096_S4096x4096_0_1 (broadcastInDim S1x4096 ![1] bcast_S4096_S1x4096_1 pos))) (broadcastInDim S4096x4096 ![] bcast_S_S4096x4096 (constantI S_ 32 0#32))

/-- The buckets of the distances. -/
def bucket : IVec S4096x4096 32 :=
  select (cmpi .slt dist (broadcastInDim S4096x4096 ![] bcast_S_S4096x4096 (constantI S_ 32 16#32))) dist (minsi (addi (broadcastInDim S4096x4096 ![] bcast_S_S4096x4096 (constantI S_ 32 16#32)) (fptosi 32 (mulf (Host.divf (Host.log (Host.divf (sitofp .f32 (maxsi dist (broadcastInDim S4096x4096 ![] bcast_S_S4096x4096 (constantI S_ 32 1#32)))) (broadcastInDim S4096x4096 ![] bcast_S_S4096x4096 (constant (F := Ideal) S_ .f32 0x41800000#32)))) (broadcastInDim S4096x4096 ![] bcast_S_S4096x4096 (Host.log (constant (F := Ideal) S_ .f32 0x41000000#32)))) (broadcastInDim S4096x4096 ![] bcast_S_S4096x4096 (constant (F := Ideal) S_ .f32 0x41800000#32)) : FVec Ideal S4096x4096 .f32))) (broadcastInDim S4096x4096 ![] bcast_S_S4096x4096 (constantI S_ 32 31#32)))

/-- The rows of the bias table. -/
def row : IVec S4096x4096x1 32 :=
  broadcastInDim S4096x4096x1 ![0, 1] bcast_S4096x4096_S4096x4096x1_0_1 (select (cmpi .slt bucket (broadcastInDim S4096x4096 ![] bcast_S_S4096x4096 (constantI S_ 32 0#32))) (addi bucket (broadcastInDim S4096x4096 ![] bcast_S_S4096x4096 (constantI S_ 32 32#32))) bucket)

/-- The relative bias, by head, query and key. -/
def bias (R : FVec Ideal S32x8 .f32) : FVec Ideal S8x4096x4096 .f32 :=
  transpose S8x4096x4096 [2, 0, 1] (Host.gather gather_S32x8_S4096x4096x1_S4096x4096x8_2_0_n_n_0_2_18 R row) transposes_S4096x4096x8_S8x4096x4096_2_0_1

/-- A position's number at an index. -/
theorem pos_apply (t : Fin 4096) : pos (ix1 t) = BitVec.ofNat 32 t.val := by
  pointwise [pos]

/-- A small word read signed. -/
theorem int_word (n : ℕ) (h : n < 2 ^ 31) : (BitVec.ofNat 32 n).toInt = n := by
  rw [toInt_eq_toNat_of_lt_half (by rw [BitVec.toNat_ofNat]; omega), BitVec.toNat_ofNat, Nat.mod_eq_of_lt (by omega)]

/-- A difference of words, not negative. -/
theorem dist_word (t s : ℕ) (ht : t < 4096) (hs : s < 4096) : IntOp.maxsi (IntOp.subi (BitVec.ofNat 32 t) (BitVec.ofNat 32 s)) 0#32 = BitVec.ofNat 32 (t - s) := by
  have e : (IntOp.subi (BitVec.ofNat 32 t) (BitVec.ofNat 32 s)).toInt = (t : ℤ) - s := by
    show (BitVec.ofNat 32 t - BitVec.ofNat 32 s).toInt = _
    rw [BitVec.toInt_sub, int_word _ (by omega), int_word _ (by omega)]
    simp only [Int.bmod_def]
    omega
  by_cases h : s < t
  · have e' : IntOp.subi (BitVec.ofNat 32 t) (BitVec.ofNat 32 s) = BitVec.ofNat 32 (t - s) := by
      apply BitVec.eq_of_toInt_eq
      rw [e, int_word _ (by omega)]
      omega
    rw [e', show (0#32 : BitVec 32) = BitVec.ofNat 32 0 from rfl, Cert.DaKernelIdeal.Diff.maxsi_word _ _ (by omega) (by omega), max_eq_left (by omega)]
  · rw [show t - s = 0 by omega]
    unfold IntOp.maxsi BitVec.slt
    rw [e, if_neg (by simp; omega)]

theorem dist_apply (t s : Fin 4096) : dist (ix2 t s) = BitVec.ofNat 32 (t.val - s.val) := by
  pointwise [dist]
  rw [pos_apply, pos_apply]
  exact dist_word t.val s.val t.isLt s.isLt

/-- The converted logarithm of a distance that has one. -/
theorem lg_word (n : ℕ) (h0 : 16 ≤ n) (h : n < 4096) :
    Ideal.div (Ideal.log (Ideal.div (FloatOps.sitofp (F := Ideal) .f32 (IntOp.maxsi (BitVec.ofNat 32 n) 1#32)) (Ideal.ofBits .f32 0x41800000#32))) (Ideal.log (Ideal.ofBits .f32 0x41000000#32))
      * Ideal.ofBits .f32 0x41800000#32 = ((lg n : ℝ) : EReal) := by
  have e16 : Ideal.ofBits .f32 0x41800000#32 = ((16 : ℝ) : EReal) := by
    simp [Ideal.ofBits, Ideal.ieee, -EReal.coe_mul]
    norm_num
  have e8 : Ideal.ofBits .f32 0x41000000#32 = ((8 : ℝ) : EReal) := by
    simp [Ideal.ofBits, Ideal.ieee, -EReal.coe_mul]
    norm_num
  have e16' : Ideal.ofBits .f32 0x3D800000#32 = ((1 / 16 : ℝ) : EReal) := by
    simp [Ideal.ofBits, Ideal.ieee, -EReal.coe_mul]
    norm_num
  have d : ∀ (a : EReal) (r : ℝ), r ≠ 0 → Ideal.div a (r : EReal) = a * ((r⁻¹ : ℝ) : EReal) := fun a r hr => by
    unfold Ideal.div
    rw [if_neg (by rw [← EReal.coe_zero]; exact fun h => hr (EReal.coe_injective h)), EReal.coe_inv]
  have h8 := log8_pos
  have b := Cert.DaKernelIdeal.Diff.bucket_arg n h0 h
  rw [e16, d _ _ (by norm_num), e8, Ideal.log_coe, if_neg (by norm_num), d _ _ h8.ne', show ((16 : ℝ)⁻¹) = 1 / 16 by norm_num, ← e16', b, ← EReal.coe_mul, ← EReal.coe_mul]
  exact congrArg _ (by rw [lg]; ring)

theorem bucket_apply (t s : Fin 4096) : bucket (ix2 t s) = BitVec.ofNat 32 (bk (t.val - s.val)) := by
  rw [← bw_eq _ (by omega), bw]
  pointwise [bucket]
  rw [dist_apply]
  by_cases h : t.val - s.val < 16
  · rw [cmpi_slt_ofNat (by omega) (by omega), select_ofBool, select_ofBool, if_pos (by simpa using h), if_pos (by simpa using h)]
  · rw [← lg_word _ (by omega) (by omega)]

theorem row_apply (t s : Fin 4096) : row (ix3 t s 0) = BitVec.ofNat 32 (bk (t.val - s.val)) := by
  have hb := bk_le (t.val - s.val)
  pointwise [row]
  rw [bucket_apply, cmpi_slt_ofNat (by omega) (by omega), select_ofBool, if_neg (by simp)]

/-- The gathered table at an index: the row its bucket names. -/
theorem gather_apply (R : FVec Ideal S32x8 .f32) (t s : Fin 4096) (h : Fin 8) :
    Host.gather gather_S32x8_S4096x4096x1_S4096x4096x8_2_0_n_n_0_2_18 R row (ix3 t s h) = R (ix2 ⟨bk (t.val - s.val), by have := bk_le (t.val - s.val); omega⟩ h) := by
  have hb := bk_le (t.val - s.val)
  unfold Host.gather
  refine congrArg R (funext fun a => Fin.ext ?_)
  have hsi : ∀ k, gather_S32x8_S4096x4096x1_S4096x4096x8_2_0_n_n_0_2_18.siIdx (ix3 t s h) k = ix3 t s 0 := fun k => by
    funext b; refine Fin.ext ?_
    fin_cases b
    · rfl
    · rfl
    · have : k.val < 1 := k.isLt
      show k.val = 0
      omega
  show gather_S32x8_S4096x4096x1_S4096x4096x8_2_0_n_n_0_2_18.start (ix3 t s h) row a + gather_S32x8_S4096x4096x1_S4096x4096x8_2_0_n_n_0_2_18.batchCoord (ix3 t s h) a
      + gather_S32x8_S4096x4096x1_S4096x4096x8_2_0_n_n_0_2_18.offCoord (ix3 t s h) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ (fun h => by simp [gather_S32x8_S4096x4096x1_S4096x4096x8_2_0_n_n_0_2_18] at h),
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S32x8_S4096x4096x1_S4096x4096x8_2_0_n_n_0_2_18.startIndexMap from List.mem_singleton.mpr rfl), hsi, row_apply]
    have e : (BitVec.ofNat 32 (bk (t.val - s.val))).toInt = bk (t.val - s.val) := int_word _ (by omega)
    show min (BitVec.ofNat 32 (bk (t.val - s.val))).toInt.toNat (32 - 1) = bk (t.val - s.val)
    rw [e]
    omega
  · rw [GatherDims.batchCoord_eq_zero _ _ _ (fun h => by simp [gather_S32x8_S4096x4096x1_S4096x4096x8_2_0_n_n_0_2_18] at h)]
    unfold GatherDims.start
    rw [dif_neg (by simp [gather_S32x8_S4096x4096x1_S4096x4096x8_2_0_n_n_0_2_18])]
    simp only [Nat.zero_add, Nat.add_zero]
    rfl

theorem bias_apply (R : FVec Ideal S32x8 .f32) (h : Fin 8) (t s : Fin 4096) :
    bias R (ix3 h t s) = R (ix2 ⟨bk (t.val - s.val), by have := bk_le (t.val - s.val); omega⟩ h) := by
  pointwise [bias]
  exact gather_apply R t s h

end Cert.DaReferenceIdeal.Diff
-- ==== Proof.DaAtt.lean ====
/-
  The scores, the softmax, the streams' difference and its norm in the reference of the differential attention.
-/
module

public import proofs.«01_k».proof.Proof.DaRef
public import proofs.«01_k».proof.Proof.StickRun

@[expose] public section

set_option maxRecDepth 16384

noncomputable section

open Idealize.ShloMosaic Idealize.ShloMosaic.TcCoe Idealize.SL.Sem Idealize.ShloMosaic.WordCmp

namespace Cert.DaReferenceIdeal.Diff

open Cert.DaReferenceIdeal Cert.DaReferenceIdeal.Gen Cert.Diff
open Cert.Stick (coe_sum)
open Cert.KernelIdeal.Stick (pr)
open Cert.DaKernelIdeal.Diff (norm lam)

/-- A projection of the tokens, its columns split into heads and streams. -/
def proj5 (x0 : FVec Ideal S8x4096x1024 .f32) (w : FVec Ideal S1x1024x1024 .f32) : FVec Ideal S8x4096x8x2x64 .f32 :=
  shapeCast _ (Host.dotGeneral dot_S8x4096x1024_S1024x1024_S8x4096x1024_2_0_01_1_n_n none x0 (shapeCast _ w shapeCasts_S1x1024x1024_S1024x1024 : FVec Ideal S1024x1024 .f32)) shapeCasts_S8x4096x1024_S8x4096x8x2x64

/-- A projection of the tokens, its columns split into heads. -/
def proj4 (x0 : FVec Ideal S8x4096x1024 .f32) (w : FVec Ideal S1x1024x1024 .f32) : FVec Ideal S8x4096x8x128 .f32 :=
  shapeCast _ (Host.dotGeneral dot_S8x4096x1024_S1024x1024_S8x4096x1024_2_0_01_1_n_n none x0 (shapeCast _ w shapeCasts_S1x1024x1024_S1024x1024 : FVec Ideal S1024x1024 .f32)) shapeCasts_S8x4096x1024_S8x4096x8x128

/-- The keys at or before a query. -/
def msk : IVec S8x8x2x4096x4096 1 :=
  broadcastInDim S8x8x2x4096x4096 ![3, 4] bcast_S4096x4096_S8x8x2x4096x4096_3_4 (cmpi .sle (broadcastInDim S4096x4096 ![0, 1] bcast_S1x4096_S4096x4096_0_1 (broadcastInDim S1x4096 ![1] bcast_S4096_S1x4096_1 pos)) (broadcastInDim S4096x4096 ![0, 1] bcast_S4096x1_S4096x4096_0_1 (broadcastInDim S4096x1 ![0] bcast_S4096_S4096x1_0 pos)))

/-- The masked scores. -/
def logit (Q K : FVec Ideal S8x4096x8x2x64 .f32) (B : FVec Ideal S8x4096x4096 .f32) : FVec Ideal S8x8x2x4096x4096 .f32 :=
  select msk (addf (mulf (Host.dotGeneral dot_S8x4096x8x2x64_S8x4096x8x2x64_S8x8x2x4096x4096_4_4_1_1_023_023 none Q K) (broadcastInDim S8x8x2x4096x4096 ![] bcast_S_S8x8x2x4096x4096 (constant (F := Ideal) S_ .f32 0x3E000000#32))) (broadcastInDim S8x8x2x4096x4096 ![0, 1, 2, 3, 4] bcast_S1x8x1x4096x4096_S8x8x2x4096x4096_0_1_2_3_4 (broadcastInDim S1x8x1x4096x4096 ![1, 3, 4] bcast_S8x4096x4096_S1x8x1x4096x4096_1_3_4 B))) (broadcastInDim S8x8x2x4096x4096 ![] bcast_S_S8x8x2x4096x4096 (id (constant (F := Ideal) S_ .f32 0xFF800000#32)))

/-- The exponentials under given maxima. -/
def expoOf (L : FVec Ideal S8x8x2x4096x4096 .f32) (m : FVec Ideal S8x8x2x4096 .f32) : FVec Ideal S8x8x2x4096x4096 .f32 :=
  Host.exp (subf L (broadcastInDim S8x8x2x4096x4096 ![0, 1, 2, 3, 4] bcast_S8x8x2x4096x1_S8x8x2x4096x4096_0_1_2_3_4 (broadcastInDim S8x8x2x4096x1 ![0, 1, 2, 3] bcast_S8x8x2x4096_S8x8x2x4096x1_0_1_2_3 (maximumf (broadcastInDim S8x8x2x4096 ![] bcast_S_S8x8x2x4096 (constant (F := Ideal) S_ .f32 0xFF800000#32)) m))))

/-- The exponentials under the rows' maxima. -/
def expo (L : FVec Ideal S8x8x2x4096x4096 .f32) : FVec Ideal S8x8x2x4096x4096 .f32 :=
  expoOf L (Host.reduce (FloatOps.maximumf (F := Ideal) (φ := .f32)) L (constant (F := Ideal) S_ .f32 0xFF800000#32) reducesTo_S8x8x2x4096x4096_S8x8x2x4096_d4 h_S_)

/-- The softmax of the rows. -/
def prob (E : FVec Ideal S8x8x2x4096x4096 .f32) : FVec Ideal S8x8x2x4096x4096 .f32 :=
  Host.divf E (broadcastInDim S8x8x2x4096x4096 ![0, 1, 2, 3, 4] bcast_S8x8x2x4096x1_S8x8x2x4096x4096_0_1_2_3_4 (broadcastInDim S8x8x2x4096x1 ![0, 1, 2, 3] bcast_S8x8x2x4096_S8x8x2x4096x1_0_1_2_3 (Host.reduceAdd E (constant (F := Ideal) S_ .f32 0x00000000#32) reducesTo_S8x8x2x4096x4096_S8x8x2x4096_d4 h_S_)))

/-- The second stream's coefficient. -/
def coef (a b c d : FVec Ideal S1x64 .f32) : FVec Ideal S_ .f32 :=
  addf (subf (Host.exp (Host.reduceAdd (mulf (shapeCast _ a shapeCasts_S1x64_S64 : FVec Ideal S64 .f32) (shapeCast _ b shapeCasts_S1x64_S64 : FVec Ideal S64 .f32)) (constant (F := Ideal) S_ .f32 0x00000000#32) reducesTo_S64_S_d0 h_S_)) (Host.exp (Host.reduceAdd (mulf (shapeCast _ c shapeCasts_S1x64_S64 : FVec Ideal S64 .f32) (shapeCast _ d shapeCasts_S1x64_S64 : FVec Ideal S64 .f32)) (constant (F := Ideal) S_ .f32 0x00000000#32) reducesTo_S64_S_d0 h_S_))) (constant (F := Ideal) S_ .f32 0x3E4CCCCD#32)

/-- The values under the streams' difference. -/
def mix (V : FVec Ideal S8x4096x8x128 .f32) (P : FVec Ideal S8x8x2x4096x4096 .f32) (l : FVec Ideal S_ .f32) : FVec Ideal S8x4096x8x128 .f32 :=
  transpose S8x4096x8x128 [0, 3, 1, 2] (Host.dotGeneral dot_S8x4096x8x128_S8x8x4096x4096_S8x8x128x4096_1_3_3_2_02_01 none V (subf (shapeCast _ (extractStridedSlice S8x8x1x4096x4096 ![0, 0, 0, 0, 0] P slices_S8x8x2x4096x4096_S8x8x1x4096x4096_0_0_0_0_0) shapeCasts_S8x8x1x4096x4096_S8x8x4096x4096) (mulf (broadcastInDim S8x8x4096x4096 ![] bcast_S_S8x8x4096x4096 l) (shapeCast _ (extractStridedSlice S8x8x1x4096x4096 ![0, 0, 1, 0, 0] P slices_S8x8x2x4096x4096_S8x8x1x4096x4096_0_0_1_0_0) shapeCasts_S8x8x1x4096x4096_S8x8x4096x4096)) : FVec Ideal S8x8x4096x4096 .f32)) transposes_S8x8x128x4096_S8x4096x8x128_0_3_1_2

/-- The heads normalised, scaled and laid side by side. -/
def close (o : FVec Ideal S8x4096x8x128 .f32) (g : FVec Ideal S1x128 .f32) : FVec Ideal S8x4096x1024 .bf16 :=
  truncf .bf16 (shapeCast _ (mulf (mulf (mulf o (broadcastInDim S8x4096x8x128 ![0, 1, 2, 3] bcast_S8x4096x8x1_S8x4096x8x128_0_1_2_3 (Host.rsqrt (addf (Host.divf (broadcastInDim S8x4096x8x1 ![0, 1, 2] bcast_S8x4096x8_S8x4096x8x1_0_1_2 (Host.reduceAdd (mulf o o) (constant (F := Ideal) S_ .f32 0x00000000#32) reducesTo_S8x4096x8x128_S8x4096x8_d3 h_S_)) (broadcastInDim S8x4096x8x1 ![] bcast_S_S8x4096x8x1 (constant (F := Ideal) S_ .f32 0x43000000#32))) (broadcastInDim S8x4096x8x1 ![] bcast_S_S8x4096x8x1 (constant (F := Ideal) S_ .f32 0x358637BD#32)))))) (broadcastInDim S8x4096x8x128 ![0, 1, 2, 3] bcast_S1x1x1x128_S8x4096x8x128_0_1_2_3 (broadcastInDim S1x1x1x128 ![3] bcast_S128_S1x1x1x128_3 (shapeCast _ g shapeCasts_S1x128_S128 : FVec Ideal S128 .f32)))) (broadcastInDim S8x4096x8x128 ![] bcast_S_S8x4096x8x128 (constant (F := Ideal) S_ .f32 0x3F4CCCCD#32))) shapeCasts_S8x4096x8x128_S8x4096x1024 : FVec Ideal S8x4096x1024 .f32) bitsLt_bf16_f32

section
variable (x0 : FVec Ideal S8x4096x1024 .f32) (w : FVec Ideal S1x1024x1024 .f32) (x : ℕ → ℕ → ℕ → ℝ) (u : ℕ → ℕ → ℝ)
  (hx : ∀ (b : Fin 8) (t : Fin 4096) (d : Fin 1024), x0 (ix3 b t d) = ((x b.val t.val d.val : ℝ) : EReal))
  (hw : ∀ d h : Fin 1024, w (ix3 0 d h) = ((u d.val h.val : ℝ) : EReal))

include hx hw in
theorem proj5_apply (b : Fin 8) (t : Fin 4096) (h : Fin 8) (c : Fin 2) (e : Fin 64) :
    proj5 x0 w (ix5 b t h c e) = ((pr x u b.val t.val (64 * (2 * h.val + c.val) + e.val) : ℝ) : EReal) := by
  pointwise [proj5]
  rw [pr, coe_sum]
  refine Finset.sum_congr rfl fun d _ => ?_
  rw [hx, hw, EReal.coe_mul]
  exact congrArg (fun n => ((x b.val t.val d.val : ℝ) : EReal) * ((u d.val n : ℝ) : EReal)) (by simp only []; omega)

include hx hw in
theorem proj4_apply (b : Fin 8) (t : Fin 4096) (h : Fin 8) (e : Fin 128) :
    proj4 x0 w (ix4 b t h e) = ((pr x u b.val t.val (128 * h.val + e.val) : ℝ) : EReal) := by
  pointwise [proj4]
  rw [pr, coe_sum]
  refine Finset.sum_congr rfl fun d _ => ?_
  rw [hx, hw, EReal.coe_mul]
  exact congrArg (fun n => ((x b.val t.val d.val : ℝ) : EReal) * ((u d.val n : ℝ) : EReal)) (by simp only []; omega)

end

theorem msk_apply (b : Fin 8) (h : Fin 8) (c : Fin 2) (t s : Fin 4096) : msk (ix5 b h c t s) = BitVec.ofBool (decide (s.val ≤ t.val)) := by
  pointwise [msk]
  rw [pos_apply, pos_apply]
  unfold IntOp.cmpi
  show BitVec.ofBool (BitVec.sle (BitVec.ofNat 32 s.val) (BitVec.ofNat 32 t.val)) = _
  unfold BitVec.sle
  rw [int_word _ (by omega), int_word _ (by omega)]
  simp

/-- The score's scale. -/
theorem eighth : Ideal.ofBits .f32 0x3E000000#32 = ((1 / 8 : ℝ) : EReal) := by
  simp [Ideal.ofBits, Ideal.ieee, -EReal.coe_mul]
  norm_num

/-- The masked scores over the reals. -/
theorem logit_apply (Q K : FVec Ideal S8x4096x8x2x64 .f32) (B : FVec Ideal S8x4096x4096 .f32) (q k β : ℕ → ℕ → ℕ → ℝ)
    (hq : ∀ (b : Fin 8) (t : Fin 4096) (h : Fin 8) (c : Fin 2) (e : Fin 64), Q (ix5 b t h c e) = ((q b.val t.val (64 * (2 * h.val + c.val) + e.val) : ℝ) : EReal))
    (hk : ∀ (b : Fin 8) (t : Fin 4096) (h : Fin 8) (c : Fin 2) (e : Fin 64), K (ix5 b t h c e) = ((k b.val t.val (64 * (2 * h.val + c.val) + e.val) : ℝ) : EReal))
    (hB : ∀ (h : Fin 8) (t s : Fin 4096), B (ix3 h t s) = ((β h.val t.val s.val : ℝ) : EReal))
    (b h : Fin 8) (c : Fin 2) (t s : Fin 4096) :
    logit Q K B (ix5 b h c t s) = if s.val ≤ t.val then (((∑ e : Fin 64, q b.val t.val (64 * (2 * h.val + c.val) + e.val) * k b.val s.val (64 * (2 * h.val + c.val) + e.val)) * (1 / 8)
      + β h.val t.val s.val : ℝ) : EReal) else ⊥ := by
  have o : (id (constant (F := Ideal) S_ .f32 0xFF800000#32)) ix0 = (⊥ : EReal) := ninf_eq
  pointwise [logit]
  rw [msk_apply, select_ofBool, o]
  by_cases hs : s.val ≤ t.val
  · simp only [hs, decide_true, if_true]
    rw [eighth, hB, EReal.coe_add, EReal.coe_mul, coe_sum]
    refine congrArg (fun z => z * _ + _) (Finset.sum_congr rfl fun e _ => ?_)
    rw [hq, hk, EReal.coe_mul]
  · simp only [hs, decide_false, if_false, Bool.false_eq_true]

/-- A maximum along the last of five axes. -/
theorem max_last {n0 n1 n2 n3 n4 : ℕ} {u : Shape} (h : (⟨5, ![n0, n1, n2, n3, n4]⟩ : Shape).ReducesTo [4] ⟨4, ![n0, n1, n2, n3]⟩) (v : (⟨5, ![n0, n1, n2, n3, n4]⟩ : Shape).Idx → EReal)
    (init : u.Idx → EReal) (hu : 0 < u.numel) (a : Fin n0) (b : Fin n1) (c : Fin n2) (d : Fin n3) :
    Host.reduce (FloatOps.maximumf (F := Ideal) (φ := .f32)) v init h hu (ix4 a b c d) = Finset.fold max (init (Shape.Idx.first hu)) (fun k : Fin n4 => v (ix5 a b c d k)) Finset.univ := by
  rw [Host.reduce_eq_fold]
  exact h.fold_fiber_r5_a4 (ix4 a b c d) max _ v

/-- An exponential at an index. -/
theorem expoOf_read (L : FVec Ideal S8x8x2x4096x4096 .f32) (m : FVec Ideal S8x8x2x4096 .f32) (b h : Fin 8) (c : Fin 2) (t s : Fin 4096) :
    expoOf L m (ix5 b h c t s) = Ideal.exp (L (ix5 b h c t s) - max (Ideal.ofBits .f32 0xFF800000#32) (m (ix4 b h c t))) := by
  pointwise [expoOf]

theorem expo_read (L : FVec Ideal S8x8x2x4096x4096 .f32) (b h : Fin 8) (c : Fin 2) (t s : Fin 4096) :
    expo L (ix5 b h c t s) = Ideal.exp (L (ix5 b h c t s) - max (Ideal.ofBits .f32 0xFF800000#32) (Finset.fold max (Ideal.ofBits .f32 0xFF800000#32) (fun j : Fin 4096 => L (ix5 b h c t j)) Finset.univ)) := by
  rw [expo, expoOf_read, max_last]
  rfl

/-- A quotient at an index. -/
theorem prob_read (E : FVec Ideal S8x8x2x4096x4096 .f32) (b h : Fin 8) (c : Fin 2) (t s : Fin 4096) :
    prob E (ix5 b h c t s) = Ideal.div (E (ix5 b h c t s)) (∑ j : Fin 4096, E (ix5 b h c t j)) := by
  pointwise [prob]

/-- The softmax of masked real scores. -/
theorem prob_apply (L : FVec Ideal S8x8x2x4096x4096 .f32) (z : ℕ → ℕ → ℕ → ℕ → ℕ → ℝ)
    (hL : ∀ (b h : Fin 8) (c : Fin 2) (t s : Fin 4096), L (ix5 b h c t s) = if s.val ≤ t.val then ((z b.val h.val c.val t.val s.val : ℝ) : EReal) else ⊥)
    (b h : Fin 8) (c : Fin 2) (t s : Fin 4096) :
    prob (expo L) (ix5 b h c t s) = (((if s.val ≤ t.val then Real.exp (z b.val h.val c.val t.val s.val) else 0) / ∑ j ∈ Finset.range (t.val + 1), Real.exp (z b.val h.val c.val t.val j) : ℝ) : EReal) := by
  obtain ⟨M, hM⟩ := fold_real (fun j : Fin 4096 => L (ix5 b h c t j)) (fun j => if j.val ≤ t.val then (2 : ℝ) ^ z b.val h.val c.val t.val j.val else 0) (fun j => by
    show Scored (L _) _
    rw [hL]
    by_cases hj : j.val ≤ t.val
    · rw [if_pos hj, if_pos hj]; exact .inr ⟨_, rfl, rfl⟩
    · rw [if_neg hj, if_neg hj]; exact .inl ⟨rfl, rfl⟩) t (by
    show L _ ≠ ⊥
    rw [hL, if_pos le_rfl]; exact EReal.coe_ne_bot _)
  have hE : ∀ j : Fin 4096, expo L (ix5 b h c t j) = ((Real.exp (-M) * (if j.val ≤ t.val then Real.exp (z b.val h.val c.val t.val j.val) else 0) : ℝ) : EReal) := fun j => by
    rw [expo_read, ninf_eq, hM, max_eq_right bot_le, hL]
    by_cases hj : j.val ≤ t.val
    · rw [if_pos hj, if_pos hj, ← EReal.coe_sub, Ideal.exp_coe, ← Real.exp_add, sub_eq_add_neg, add_comm]
    · rw [if_neg hj, if_neg hj, EReal.bot_sub, mul_zero, EReal.coe_zero, Ideal.exp_bot]
  have hS : (∑ j : Fin 4096, expo L (ix5 b h c t j)) = ((Real.exp (-M) * ∑ j ∈ Finset.range (t.val + 1), Real.exp (z b.val h.val c.val t.val j) : ℝ) : EReal) := by
    simp only [hE]
    rw [← coe_sum, ← Finset.mul_sum]
    refine congrArg (fun r : ℝ => ((Real.exp (-M) * r : ℝ) : EReal)) ?_
    rw [Fin.sum_univ_eq_sum_range (fun j => if j ≤ t.val then Real.exp (z b.val h.val c.val t.val j) else 0) 4096,
      ← Finset.sum_subset (Finset.range_mono t.isLt : Finset.range (t.val + 1) ⊆ Finset.range 4096)]
    · exact Finset.sum_congr rfl fun j hj => if_pos (Nat.lt_succ_iff.mp (Finset.mem_range.mp hj))
    · intro j _ hj
      exact if_neg fun h => hj (Finset.mem_range.mpr (Nat.lt_succ_of_le h))
  have hp : 0 < ∑ j ∈ Finset.range (t.val + 1), Real.exp (z b.val h.val c.val t.val j) :=
    Finset.sum_pos (fun j _ => Real.exp_pos _) ⟨0, Finset.mem_range.mpr (Nat.succ_pos _)⟩
  have hm := Real.exp_pos (-M)
  rw [prob_read, hS, hE]
  unfold Ideal.div
  rw [if_neg (by rw [← EReal.coe_zero]; exact fun h => (mul_pos hm hp).ne' (EReal.coe_injective h)), ← EReal.coe_inv, ← EReal.coe_mul]
  refine congrArg (fun r : ℝ => (r : EReal)) ?_
  field_simp

/-- The coefficient. -/
theorem coef_apply (a b c d : FVec Ideal S1x64 .f32) : coef a b c d ix0 = lam (fun x => a (ix2 0 x)) (fun x => b (ix2 0 x)) (fun x => c (ix2 0 x)) (fun x => d (ix2 0 x)) := by
  pointwise [coef]
  rfl

/-- The streams' difference over the reals. -/
theorem mix_apply (V : FVec Ideal S8x4096x8x128 .f32) (P : FVec Ideal S8x8x2x4096x4096 .f32) (l : FVec Ideal S_ .f32) (v : ℕ → ℕ → ℕ → ℝ) (p : ℕ → ℕ → ℕ → ℕ → ℕ → ℝ) (r : ℝ)
    (hv : ∀ (b : Fin 8) (t : Fin 4096) (h : Fin 8) (e : Fin 128), V (ix4 b t h e) = ((v b.val t.val (128 * h.val + e.val) : ℝ) : EReal))
    (hP : ∀ (b h : Fin 8) (c : Fin 2) (t s : Fin 4096), P (ix5 b h c t s) = ((p b.val h.val c.val t.val s.val : ℝ) : EReal))
    (hl : l ix0 = (r : EReal)) (b : Fin 8) (t : Fin 4096) (h : Fin 8) (e : Fin 128) :
    mix V P l (ix4 b t h e) = (((∑ s : Fin 4096, p b.val h.val 0 t.val s.val * v b.val s.val (128 * h.val + e.val) : ℝ)) : EReal)
      - (r : EReal) * (((∑ s : Fin 4096, p b.val h.val 1 t.val s.val * v b.val s.val (128 * h.val + e.val) : ℝ)) : EReal) := by
  pointwise [mix]
  rw [← EReal.coe_mul, ← EReal.coe_sub, Finset.mul_sum, ← Finset.sum_sub_distrib, coe_sum]
  refine Finset.sum_congr rfl fun s _ => ?_
  rw [hv, hl]
  refine (congrArg₂ (fun x y => _ * (x - _ * y)) (hP b h 0 t s) (hP b h 1 t s)).trans ?_
  rw [← EReal.coe_mul, ← EReal.coe_sub, ← EReal.coe_mul]
  exact congrArg (fun r : ℝ => (r : EReal)) (by simp only [Fin.val_zero, Fin.val_one]; ring)

/-- The closing norm. -/
theorem close_apply (o : FVec Ideal S8x4096x8x128 .f32) (g : FVec Ideal S1x128 .f32) (b : Fin 8) (t : Fin 4096) (l : Fin 1024) :
    close o g (ix3 b t l) = norm (fun e => o (ix4 b t ⟨l.val / 128, by omega⟩ e)) (fun e => g (ix2 0 e)) ⟨l.val % 128, Nat.mod_lt _ (by norm_num)⟩ := by
  pointwise [close]
  exact rfl

end Cert.DaReferenceIdeal.Diff
-- ==== Proof.DaMeet.lean ====
/-
  The differential attention's result and its reference's are one value at every index, from finite arguments.
-/
module

public import proofs.«01_k».proof.Defs
public import proofs.«01_k».proof.Proof.DaRun
public import proofs.«01_k».proof.Proof.DaAtt
public import proofs.«01_k».proof.Proof.Gen.Pre_finite_da
public import proofs.«01_k».proof.Proof.StickMeet
public import Idealize.ShloMosaic.Lib.ReduceAll
public import Idealize.ShloMosaic.Lib.Affine

@[expose] public section

set_option maxRecDepth 16384

noncomputable section

open Idealize.ShloMosaic Idealize.ShloMosaic.TcCoe Idealize.SL.Sem

namespace Cert.MeetDa

open Cert.Meet Cert.Diff
open Cert.Stick (coe_sum)
open Cert.KernelIdeal.Stick (pr)
open Cert.DaKernelIdeal.Diff (norm lam far far_zero scl hs hw av out)
open Cert.DaReferenceIdeal.Diff (proj4 proj5 logit expo prob bias coef mix close)

/-- The precondition says that every entry of every argument but the last is a real. -/
theorem finite_of (a0 : FVec Ideal Cert.Pre_finite_da.S8x4096x1024 .f32) (a1 : FVec Ideal Cert.Pre_finite_da.S32x8 .f32) (a2 a3 a4 : FVec Ideal Cert.Pre_finite_da.S1x1024x1024 .f32)
    (a5 a6 a7 a8 : FVec Ideal Cert.Pre_finite_da.S1x64 .f32) (a9 : FVec Ideal Cert.Pre_finite_da.S1x128 .f32)
    (h : Cert.Pre_finite_da.fn (F := Ideal) a0 a1 a2 a3 a4 a5 a6 a7 a8 a9 = fun _ => 1#1) :
    ((∀ i, a0 i = (((a0 i).toReal : ℝ) : EReal)) ∧ (∀ i, a1 i = (((a1 i).toReal : ℝ) : EReal)) ∧ (∀ i, a2 i = (((a2 i).toReal : ℝ) : EReal))
      ∧ (∀ i, a3 i = (((a3 i).toReal : ℝ) : EReal)) ∧ (∀ i, a4 i = (((a4 i).toReal : ℝ) : EReal)))
    ∧ (∀ i, a5 i = (((a5 i).toReal : ℝ) : EReal)) ∧ (∀ i, a6 i = (((a6 i).toReal : ℝ) : EReal))
      ∧ (∀ i, a7 i = (((a7 i).toReal : ℝ) : EReal)) ∧ (∀ i, a8 i = (((a8 i).toReal : ℝ) : EReal)) := by
  have e := congrFun h (fun a => a.elim0)
  dsimp only [Cert.Pre_finite_da.fn, Cert.Pre_finite_da.fn_part1, Cert.Pre_finite_da.fn_part2] at e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  haveI : Subsingleton Cert.Pre_finite_da.S_.Idx := ⟨fun a b => funext fun i => i.elim0⟩
  refine ⟨⟨fun i => ?_, fun i => ?_, fun i => ?_, fun i => ?_, fun i => ?_⟩, fun i => ?_, fun i => ?_, fun i => ?_, fun i => ?_⟩
  · exact real_of_lt _ ((congrArg (fun z => Ideal.cmp .olt _ z) inf_eq).symm.trans (Host.reduce_andi_all _ _ _ _ _ e0 i))
  · exact real_of_lt _ ((congrArg (fun z => Ideal.cmp .olt _ z) inf_eq).symm.trans (Host.reduce_andi_all _ _ _ _ _ e1 i))
  · exact real_of_lt _ ((congrArg (fun z => Ideal.cmp .olt _ z) inf_eq).symm.trans (Host.reduce_andi_all _ _ _ _ _ e2 i))
  · exact real_of_lt _ ((congrArg (fun z => Ideal.cmp .olt _ z) inf_eq).symm.trans (Host.reduce_andi_all _ _ _ _ _ e3 i))
  · exact real_of_lt _ ((congrArg (fun z => Ideal.cmp .olt _ z) inf_eq).symm.trans (Host.reduce_andi_all _ _ _ _ _ e4 i))
  · exact real_of_lt _ ((congrArg (fun z => Ideal.cmp .olt _ z) inf_eq).symm.trans (Host.reduce_andi_all _ _ _ _ _ e5 i))
  · exact real_of_lt _ ((congrArg (fun z => Ideal.cmp .olt _ z) inf_eq).symm.trans (Host.reduce_andi_all _ _ _ _ _ e6 i))
  · exact real_of_lt _ ((congrArg (fun z => Ideal.cmp .olt _ z) inf_eq).symm.trans (Host.reduce_andi_all _ _ _ _ _ e7 i))
  · exact real_of_lt _ ((congrArg (fun z => Ideal.cmp .olt _ z) inf_eq).symm.trans (Host.reduce_andi_all _ _ _ _ _ e8 i))

/-- The bias table as reals, by its coordinates. -/
def tab (a : FVec Ideal Cert.DaKernelIdeal.S32x8 .f32) (n h : ℕ) : ℝ :=
  if e : n < 32 ∧ h < 8 then (a (ix2 ⟨n, e.1⟩ ⟨h, e.2⟩)).toReal else 0

theorem tab_eq (a : FVec Ideal Cert.DaKernelIdeal.S32x8 .f32) (h : ∀ i, a i = (((a i).toReal : ℝ) : EReal)) (n : Fin 32) (e : Fin 8) :
    a (ix2 n e) = ((tab a n.val e.val : ℝ) : EReal) := by
  rw [tab, dif_pos ⟨n.isLt, e.isLt⟩]
  exact h _

/-- The coefficient of real vectors is a real. -/
theorem lam_real (a b c d : Fin 64 → EReal) (ha : ∀ x, a x = (((a x).toReal : ℝ) : EReal)) (hb : ∀ x, b x = (((b x).toReal : ℝ) : EReal))
    (hc : ∀ x, c x = (((c x).toReal : ℝ) : EReal)) (hd : ∀ x, d x = (((d x).toReal : ℝ) : EReal)) : ∃ r : ℝ, lam a b c d = (r : EReal) := by
  have e : Ideal.ofBits .f32 0x3E4CCCCD#32 = ((13421773 / 67108864 : ℝ) : EReal) := by
    simp [Ideal.ofBits, Ideal.ieee, -EReal.coe_mul]
    norm_num
  have s : ∀ u v : Fin 64 → EReal, (∀ x, u x = (((u x).toReal : ℝ) : EReal)) → (∀ x, v x = (((v x).toReal : ℝ) : EReal)) →
      ∑ x, u x * v x = ((∑ x, (u x).toReal * (v x).toReal : ℝ) : EReal) := fun u v hu hv => by
    rw [coe_sum]
    exact Finset.sum_congr rfl fun x _ => (congrArg₂ (· * ·) (hu x) (hv x)).trans (EReal.coe_mul _ _).symm
  refine ⟨Real.exp (∑ x, (a x).toReal * (b x).toReal) - Real.exp (∑ x, (c x).toReal * (d x).toReal) + 13421773 / 67108864, ?_⟩
  rw [lam, s a b ha hb, s c d hc hd, Ideal.exp_coe, Ideal.exp_coe, e, ← EReal.coe_sub, ← EReal.coe_add]

/-- A weight in the base of two is the exponential of its score, under the far bias. -/
theorem hw_eq (q k : ℕ → ℕ → ℕ → ℝ) (R : ℕ → ℕ → ℝ) (b t h g s : ℕ) :
    hw (fun b t h => q b t h * scl) k (far R) b t h g s
      = Real.exp (-R 31 h) * Real.exp ((∑ e : Fin 64, q b t (64 * g + e.val) * k b s (64 * g + e.val)) * (1 / 8) + R (bk (t - s)) h) := by
  have h2 : Real.log 2 ≠ 0 := (Real.log_pos (by norm_num)).ne'
  have e : hs (fun b t h => q b t h * scl) k b t g s = (∑ e : Fin 64, q b t (64 * g + e.val) * k b s (64 * g + e.val)) * scl := by
    rw [hs, Finset.sum_mul]
    exact Finset.sum_congr rfl fun x _ => by ring
  rw [hw, Real.rpow_def_of_pos (by norm_num), ← Real.exp_add, e, far, scl]
  refine congrArg Real.exp ?_
  field_simp
  ring

/-- A stream's softmax against the values is its weighted values. -/
theorem av_eq (q k u : ℕ → ℕ → ℕ → ℝ) (R : ℕ → ℕ → ℝ) (b t h g l : ℕ) (ht : t < 4096) (z : ℕ → ℝ)
    (hz : ∀ s, z s = (∑ e : Fin 64, q b t (64 * g + e.val) * k b s (64 * g + e.val)) * (1 / 8) + R (bk (t - s)) h) :
    ∑ s : Fin 4096, ((if s.val ≤ t then Real.exp (z s.val) else 0) / ∑ j ∈ Finset.range (t + 1), Real.exp (z j)) * u b s.val l
      = av (fun b t h => q b t h * scl) k u (far R) b t h g l := by
  have hp : 0 < ∑ j ∈ Finset.range (t + 1), Real.exp (z j) := Finset.sum_pos (fun j _ => Real.exp_pos _) ⟨0, Finset.mem_range.mpr (Nat.succ_pos _)⟩
  have hr := Real.exp_pos (-R 31 h)
  rw [Fin.sum_univ_eq_sum_range (fun s => ((if s ≤ t then Real.exp (z s) else 0) / ∑ j ∈ Finset.range (t + 1), Real.exp (z j)) * u b s l) 4096,
    ← Finset.sum_subset (Finset.range_mono ht : Finset.range (t + 1) ⊆ Finset.range 4096)]
  · have e : ∀ s, hw (fun b t h => q b t h * scl) k (far R) b t h g s = Real.exp (-R 31 h) * Real.exp (z s) := fun s => by rw [hw_eq, hz]
    rw [av]
    simp only [e, mul_assoc]
    rw [← Finset.mul_sum, ← Finset.mul_sum, mul_div_mul_left _ _ hr.ne', Finset.sum_div]
    refine Finset.sum_congr rfl fun s hs => ?_
    rw [if_pos (Nat.lt_succ_iff.mp (Finset.mem_range.mp hs)), div_mul_eq_mul_div]
  · intro s _ hs
    rw [if_neg fun h => hs (Finset.mem_range.mpr (Nat.lt_succ_of_le h)), zero_div, zero_mul]

/-- The reference's result from real arguments is the kernel's. -/
theorem ref_eq (a0 : FVec Ideal Cert.DaReferenceIdeal.S8x4096x1024 .f32) (a1 : FVec Ideal Cert.DaReferenceIdeal.S32x8 .f32) (a2 a3 a4 : FVec Ideal Cert.DaReferenceIdeal.S1x1024x1024 .f32)
    (a5 a6 a7 a8 : FVec Ideal Cert.DaReferenceIdeal.S1x64 .f32) (a9 : FVec Ideal Cert.DaReferenceIdeal.S1x128 .f32)
    (x : ℕ → ℕ → ℕ → ℝ) (R wq wk wv : ℕ → ℕ → ℝ)
    (hx : ∀ (b : Fin 8) (t : Fin 4096) (d : Fin 1024), a0 (ix3 b t d) = ((x b.val t.val d.val : ℝ) : EReal))
    (hR : ∀ (n : Fin 32) (h : Fin 8), a1 (ix2 n h) = ((R n.val h.val : ℝ) : EReal))
    (hq : ∀ d h : Fin 1024, a2 (ix3 0 d h) = ((wq d.val h.val : ℝ) : EReal))
    (hk : ∀ d h : Fin 1024, a3 (ix3 0 d h) = ((wk d.val h.val : ℝ) : EReal))
    (hv : ∀ d h : Fin 1024, a4 (ix3 0 d h) = ((wv d.val h.val : ℝ) : EReal))
    (hl : ∃ r : ℝ, lam (fun x => a5 (ix2 0 x)) (fun x => a6 (ix2 0 x)) (fun x => a7 (ix2 0 x)) (fun x => a8 (ix2 0 x)) = (r : EReal))
    (b : Fin 8) (t : Fin 4096) (l : Fin 1024) :
    close (mix (proj4 a0 a4) (prob (expo (logit (proj5 a0 a2) (proj5 a0 a3) (bias a1)))) (coef a5 a6 a7 a8)) a9 (ix3 b t l)
      = out x wq wk wv R (fun x => a5 (ix2 0 x)) (fun x => a6 (ix2 0 x)) (fun x => a7 (ix2 0 x)) (fun x => a8 (ix2 0 x)) (fun x => a9 (ix2 0 x)) b.val t.val l.val := by
  obtain ⟨r, hr⟩ := hl
  let z : ℕ → ℕ → ℕ → ℕ → ℕ → ℝ := fun b h c t s =>
    (∑ e : Fin 64, pr x wq b t (64 * (2 * h + c) + e.val) * pr x wk b s (64 * (2 * h + c) + e.val)) * (1 / 8) + R (bk (t - s)) h
  rw [Cert.DaReferenceIdeal.Diff.close_apply, out]
  refine congrArg (fun o => norm o _ _) (funext fun e => ?_)
  rw [Cert.DaReferenceIdeal.Diff.mix_apply _ _ _ (pr x wv) (fun b h c t s => (if s ≤ t then Real.exp (z b h c t s) else 0) / ∑ j ∈ Finset.range (t + 1), Real.exp (z b h c t j)) r
    (Cert.DaReferenceIdeal.Diff.proj4_apply a0 a4 x wv hx hv)
    (Cert.DaReferenceIdeal.Diff.prob_apply _ z (Cert.DaReferenceIdeal.Diff.logit_apply _ _ _ (pr x wq) (pr x wk) (fun h t s => R (bk (t - s)) h)
      (Cert.DaReferenceIdeal.Diff.proj5_apply a0 a2 x wq hx hq) (Cert.DaReferenceIdeal.Diff.proj5_apply a0 a3 x wk hx hk)
      (fun h t s => (Cert.DaReferenceIdeal.Diff.bias_apply a1 h t s).trans (hR _ _))))
    ((Cert.DaReferenceIdeal.Diff.coef_apply a5 a6 a7 a8).trans hr), hr]
  refine congrArg₂ (fun p q : ℝ => (p : EReal) - (r : EReal) * (q : EReal)) ?_ ?_
  · exact av_eq (pr x wq) (pr x wk) (pr x wv) R b.val t.val (l.val / 128) (2 * (l.val / 128)) _ t.isLt (z b.val (l.val / 128) 0 t.val) (fun s => rfl)
  · exact av_eq (pr x wq) (pr x wk) (pr x wv) R b.val t.val (l.val / 128) (2 * (l.val / 128) + 1) _ t.isLt (z b.val (l.val / 128) 1 t.val) (fun s => rfl)

end Cert.MeetDa
-- ==== Proof.DaEnd.lean ====
/-
  The reference's result by its stages, and the claim that both differential attentions end with the same values.
-/
module

public import proofs.«01_k».proof.Defs
public import proofs.«01_k».proof.Proof.DaMeet

@[expose] public section

set_option maxRecDepth 16384

noncomputable section

open Idealize.ShloMosaic Idealize.ShloMosaic.TcCoe Idealize.SL.Sem

namespace Cert.DaReferenceIdeal.Diff

open Cert.DaReferenceIdeal Cert.DaReferenceIdeal.Gen

section
variable (V : Valuation τ sig (Elt Ideal))

theorem v22_eq : Value.res_main_v22 (F := Ideal) V = pos := rfl

theorem v29_eq : Value.res_main_v29 (F := Ideal) V = dist := by
  rw [Value.res_main_v29, v22_eq]
  rfl

theorem v48_eq : Value.res_main_v48 (F := Ideal) V = bucket := by
  rw [Value.res_main_v48, v29_eq]
  rfl

theorem v68_eq : Value.res_main_v68 (F := Ideal) V = logit (proj5 (V (Proc.devRef .tc main_arg0)) (V (Proc.devRef .tc main_arg2)))
    (proj5 (V (Proc.devRef .tc main_arg0)) (V (Proc.devRef .tc main_arg3))) (bias (V (Proc.devRef .tc main_arg1))) := by
  rw [Value.res_main_v68, v22_eq, v48_eq]
  rfl

theorem v75_eq : Value.res_main_v75 (F := Ideal) V = expo (Value.res_main_v68 (F := Ideal) V) := by
  rw [Value.res_main_v75, expo, expoOf]

theorem v79_eq : Value.res_main_v79 (F := Ideal) V = prob (Value.res_main_v75 (F := Ideal) V) := by
  rw [Value.res_main_v79, prob]

theorem v88_eq : Value.res_main_v88 (F := Ideal) V = mix (proj4 (V (Proc.devRef .tc main_arg0)) (V (Proc.devRef .tc main_arg4)))
    (prob (expo (logit (proj5 (V (Proc.devRef .tc main_arg0)) (V (Proc.devRef .tc main_arg2)))
      (proj5 (V (Proc.devRef .tc main_arg0)) (V (Proc.devRef .tc main_arg3))) (bias (V (Proc.devRef .tc main_arg1))))))
    (coef (V (Proc.devRef .tc main_arg5)) (V (Proc.devRef .tc main_arg6)) (V (Proc.devRef .tc main_arg7)) (V (Proc.devRef .tc main_arg8))) := by
  rw [← v68_eq, ← v75_eq, ← v79_eq, Value.res_main_v88]
  rfl

end

end Cert.DaReferenceIdeal.Diff

namespace Cert.MeetDa

open Cert.Meet
open Cert.DaReferenceIdeal.Diff (proj4 proj5 logit expo prob bias coef mix close)

/-- The reference's composed result, from arguments equal to given ones, is its stages' result. -/
theorem stages (m : (ℓ : Loc Cert.DaReferenceIdeal.nD Cert.DaReferenceIdeal.τ Cert.DaReferenceIdeal.sig) → Buf (Elt Ideal) ℓ) (c : Dev Cert.DaReferenceIdeal.nD)
    (a0 : FVec Ideal Cert.DaReferenceIdeal.S8x4096x1024 .f32) (a1 : FVec Ideal Cert.DaReferenceIdeal.S32x8 .f32) (a2 a3 a4 : FVec Ideal Cert.DaReferenceIdeal.S1x1024x1024 .f32)
    (a5 a6 a7 a8 : FVec Ideal Cert.DaReferenceIdeal.S1x64 .f32) (a9 : FVec Ideal Cert.DaReferenceIdeal.S1x128 .f32)
    (g0 : m ((c.tc : Thread Cert.DaReferenceIdeal.nD Cert.DaReferenceIdeal.τ).loc Cert.DaReferenceIdeal.main_arg0) = a0)
    (g1 : m ((c.tc : Thread Cert.DaReferenceIdeal.nD Cert.DaReferenceIdeal.τ).loc Cert.DaReferenceIdeal.main_arg1) = a1)
    (g2 : m ((c.tc : Thread Cert.DaReferenceIdeal.nD Cert.DaReferenceIdeal.τ).loc Cert.DaReferenceIdeal.main_arg2) = a2)
    (g3 : m ((c.tc : Thread Cert.DaReferenceIdeal.nD Cert.DaReferenceIdeal.τ).loc Cert.DaReferenceIdeal.main_arg3) = a3)
    (g4 : m ((c.tc : Thread Cert.DaReferenceIdeal.nD Cert.DaReferenceIdeal.τ).loc Cert.DaReferenceIdeal.main_arg4) = a4)
    (g5 : m ((c.tc : Thread Cert.DaReferenceIdeal.nD Cert.DaReferenceIdeal.τ).loc Cert.DaReferenceIdeal.main_arg5) = a5)
    (g6 : m ((c.tc : Thread Cert.DaReferenceIdeal.nD Cert.DaReferenceIdeal.τ).loc Cert.DaReferenceIdeal.main_arg6) = a6)
    (g7 : m ((c.tc : Thread Cert.DaReferenceIdeal.nD Cert.DaReferenceIdeal.τ).loc Cert.DaReferenceIdeal.main_arg7) = a7)
    (g8 : m ((c.tc : Thread Cert.DaReferenceIdeal.nD Cert.DaReferenceIdeal.τ).loc Cert.DaReferenceIdeal.main_arg8) = a8)
    (g9 : m ((c.tc : Thread Cert.DaReferenceIdeal.nD Cert.DaReferenceIdeal.τ).loc Cert.DaReferenceIdeal.main_arg9) = a9) :
    close (Cert.DaReferenceIdeal.Value.res_main_v88 (F := Ideal) (StableHlo.launchContents m c)) (m ((c.tc : Thread Cert.DaReferenceIdeal.nD Cert.DaReferenceIdeal.τ).loc Cert.DaReferenceIdeal.main_arg9))
      = close (mix (proj4 a0 a4) (prob (expo (logit (proj5 a0 a2) (proj5 a0 a3) (bias a1)))) (coef a5 a6 a7 a8)) a9 := by
  subst g0 g1 g2 g3 g4 g5 g6 g7 g8 g9
  exact congrArg (fun o => close o _) (Cert.DaReferenceIdeal.Diff.v88_eq (StableHlo.launchContents m c))

/-- Both differential attentions end with the same values. -/
theorem algebraic : Cert.algebraic_DaKernelIdeal_DaReferenceIdeal_pre_finite_da := by
  intro m ρ m' ρ' hpre hagree
  refine ⟨fun c => Cert.DaKernelIdeal.Gen.W6 m ρ c (Proc.devRef .tc Cert.DaKernelIdeal.main_v22), Cert.DaKernelIdeal.Diff.run m ρ,
    (θ_run _ _ _).mono (fun _ h c => ⟨(h c).1.trans ?_, (h c).2⟩) (Cert.DaReferenceIdeal.Value.run m' ρ')⟩
  obtain ⟨⟨f0, f1, f2, f3, f4⟩, f5, f6, f7, f8⟩ := finite_of _ _ _ _ _ _ _ _ _ _ (hpre c)
  obtain ⟨g0, g1, g2, g3, g4, g5, g6, g7, g8, g9⟩ := hagree c
  refine Eq.trans ?_ (Cert.DaKernelIdeal.Diff.result_eq m ρ c (tok _) (mat _) (mat _) (mat _) (tab _) (tok_eq _ f0) (tab_eq _ f1)
    (mat_eq _ f2) (mat_eq _ f3) (mat_eq _ f4)).symm
  refine Eq.trans (b := close (Cert.DaReferenceIdeal.Value.res_main_v88 (F := Ideal) (StableHlo.launchContents m' c)) (m' ((c.tc : Thread Cert.DaReferenceIdeal.nD Cert.DaReferenceIdeal.τ).loc Cert.DaReferenceIdeal.main_arg9))) rfl ?_
  refine (stages m' c _ _ _ _ _ _ _ _ _ _ g0 g1 g2 g3 g4 g5 g6 g7 g8 g9).trans ?_
  funext j
  rw [eq_ix3 j]
  exact ref_eq _ _ _ _ _ _ _ _ _ _ _ _ _ _ _ (tok_eq _ f0) (tab_eq _ f1) (mat_eq _ f2) (mat_eq _ f3) (mat_eq _ f4)
    (lam_real _ _ _ _ (fun _ => f5 _) (fun _ => f6 _) (fun _ => f7 _) (fun _ => f8 _)) _ _ _

/-- The reference keeps its arguments. -/
theorem frame_reference : Cert.quiescent_DaReferenceIdeal := fun m ρ _ =>
  (θ_run Cert.DaReferenceIdeal.defs _ _).mono (fun r h => ⟨fun c => (h c).2, Idealize.ShloMosaic.sem_eq_zero_of_no_sems (by decide) r.2⟩) (Cert.DaReferenceIdeal.Value.run (F := Ideal) m ρ)

/-- The reference keeps its arguments under the precondition too. -/
theorem frame_reference_finite : Cert.quiescent_DaReferenceIdeal_pre_finite_da := fun m ρ _ =>
  (θ_run Cert.DaReferenceIdeal.defs _ _).mono (fun r h => ⟨fun c => (h c).2, Idealize.ShloMosaic.sem_eq_zero_of_no_sems (by decide) r.2⟩) (Cert.DaReferenceIdeal.Value.run (F := Ideal) m ρ)

end Cert.MeetDa
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.ReferenceIdeal.Run
public import proofs.«01_k».proof.Proof.Gen.MoeKernel
public import proofs.«01_k».proof.Proof.Gen.MoeKernel.Skeleton
public import proofs.«01_k».proof.Proof.Gen.MoeKernel.Launch
public import proofs.«01_k».proof.Proof.Gen.MoeKernelIdeal
public import proofs.«01_k».proof.Proof.Gen.MoeKernelIdeal.Skeleton
public import proofs.«01_k».proof.Proof.Gen.MoeKernelIdeal.Launch
public import proofs.«01_k».proof.Proof.Gen.MoeReferenceIdeal
public import proofs.«01_k».proof.Proof.Gen.MoeReferenceIdeal.Run
public import proofs.«01_k».proof.Proof.Gen.Pre_planned
public import proofs.«01_k».proof.Proof.Gen.MixKernel
public import proofs.«01_k».proof.Proof.Gen.MixKernel.Skeleton
public import proofs.«01_k».proof.Proof.Gen.MixKernel.Launch
public import proofs.«01_k».proof.Proof.Gen.MixKernel.Points
public import proofs.«01_k».proof.Proof.Gen.MixKernel.Frame
public import proofs.«01_k».proof.Proof.Gen.MixKernelIdeal
public import proofs.«01_k».proof.Proof.Gen.MixKernelIdeal.Skeleton
public import proofs.«01_k».proof.Proof.Gen.MixKernelIdeal.Launch
public import proofs.«01_k».proof.Proof.Gen.MixKernelIdeal.Points
public import proofs.«01_k».proof.Proof.Gen.MixKernelIdeal.Frame
public import proofs.«01_k».proof.Proof.Gen.MixKernelIdeal.Value
public import proofs.«01_k».proof.Proof.Gen.MixReferenceIdeal
public import proofs.«01_k».proof.Proof.Gen.MixReferenceIdeal.Run
public import proofs.«01_k».proof.Proof.Gen.DaKernel
public import proofs.«01_k».proof.Proof.Gen.DaKernel.Skeleton
public import proofs.«01_k».proof.Proof.Gen.DaKernel.Loops
public import proofs.«01_k».proof.Proof.Gen.DaKernel.Launch
public import proofs.«01_k».proof.Proof.Gen.DaKernel.Points
public import proofs.«01_k».proof.Proof.Gen.DaKernel.Frame
public import proofs.«01_k».proof.Proof.Gen.DaKernelIdeal
public import proofs.«01_k».proof.Proof.Gen.DaKernelIdeal.Skeleton
public import proofs.«01_k».proof.Proof.Gen.DaKernelIdeal.Loops
public import proofs.«01_k».proof.Proof.Gen.DaKernelIdeal.Launch
public import proofs.«01_k».proof.Proof.Gen.DaKernelIdeal.Points
public import proofs.«01_k».proof.Proof.Gen.DaKernelIdeal.Frame
public import proofs.«01_k».proof.Proof.Gen.DaReferenceIdeal
public import proofs.«01_k».proof.Proof.Gen.DaReferenceIdeal.Run
public import proofs.«01_k».proof.Proof.Gen.Pre_finite_da
public import proofs.«01_k».proof.Proof.Gen.ProjKernel
public import proofs.«01_k».proof.Proof.Gen.ProjKernel.Skeleton
public import proofs.«01_k».proof.Proof.Gen.ProjKernel.Launch
public import proofs.«01_k».proof.Proof.Gen.ProjKernel.Points
public import proofs.«01_k».proof.Proof.Gen.ProjKernel.Frame
public import proofs.«01_k».proof.Proof.Gen.ProjKernelIdeal
public import proofs.«01_k».proof.Proof.Gen.ProjKernelIdeal.Skeleton
public import proofs.«01_k».proof.Proof.Gen.ProjKernelIdeal.Launch
public import proofs.«01_k».proof.Proof.Gen.ProjKernelIdeal.Points
public import proofs.«01_k».proof.Proof.Gen.ProjKernelIdeal.Frame
public import proofs.«01_k».proof.Proof.Gen.ProjKernelIdeal.Value
public import proofs.«01_k».proof.Proof.Gen.ProjReferenceIdeal
public import proofs.«01_k».proof.Proof.Gen.ProjReferenceIdeal.Run
public import proofs.«01_k».proof.Proof.StickMeet
public import proofs.«01_k».proof.Proof.MoeMeet
public import proofs.«01_k».proof.Proof.MixMeet
public import proofs.«01_k».proof.Proof.ProjMeet
public import proofs.«01_k».proof.Proof.DaEnd
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- Both stick-breaking programs end with the same values. -/
theorem stick_algebraic : Cert.algebraic_KernelIdeal_ReferenceIdeal_pre_finite := by
  intro m ρ m' ρ' hpre hagree
  refine ⟨fun c => Cert.KernelIdeal.Gen.W4 m ρ c (Proc.devRef .tc Cert.KernelIdeal.main_v11), Cert.KernelIdeal.Stick.run m ρ,
    (θ_run _ _ _).mono (fun _ h c => ⟨(h c).1.trans ?_, (h c).2⟩) (Cert.ReferenceIdeal.Value.run m' ρ')⟩
  obtain ⟨f0, f1, f2, f3⟩ := Cert.Meet.finite_of _ _ _ _ (hpre c)
  obtain ⟨g0, g1, g2, g3⟩ := hagree c
  refine Eq.trans ?_ (Cert.KernelIdeal.Stick.result_eq m ρ c (Cert.Meet.tok _) (Cert.Meet.mat _) (Cert.Meet.mat _) (Cert.Meet.mat _) (Cert.Meet.tok_eq _ f0)
    (Cert.Meet.mat_eq _ f1) (Cert.Meet.mat_eq _ f2) (Cert.Meet.mat_eq _ f3)).symm
  refine (Cert.ReferenceIdeal.Stick.res_eq m' c).trans ?_
  rw [g0, g1, g2, g3]
  funext j
  rw [eq_ix3 j]
  exact Cert.Meet.ref_eq _ _ _ _ _ _ _ _ (Cert.Meet.tok_eq _ f0) (Cert.Meet.mat_eq _ f1) (Cert.Meet.mat_eq _ f2) (Cert.Meet.mat_eq _ f3) _ _ _

theorem claim : Cert.Claim := ⟨Cert.Kernel.Gen.facts, Cert.KernelIdeal.Gen.facts, Cert.ReferenceIdeal.Gen.facts, Cert.MoeKernel.Gen.facts, Cert.MoeKernelIdeal.Gen.facts, Cert.MoeReferenceIdeal.Gen.facts, Cert.MixKernel.Gen.facts, Cert.MixKernelIdeal.Gen.facts, Cert.MixReferenceIdeal.Gen.facts, Cert.DaKernel.Gen.facts, Cert.DaKernelIdeal.Gen.facts, Cert.DaReferenceIdeal.Gen.facts, Cert.ProjKernel.Gen.facts, Cert.ProjKernelIdeal.Gen.facts, Cert.ProjReferenceIdeal.Gen.facts, Cert.Pre_finite.Gen.facts, Cert.Pre_planned.Gen.facts, Cert.Pre_finite_da.Gen.facts,
  fun m ρ _ => Cert.Kernel.Gen.frame m ρ, fun m ρ _ => Cert.KernelIdeal.Gen.frame m ρ, fun m ρ _ => Cert.KernelIdeal.Gen.frame m ρ,
  (fun m ρ _ => (θ_run Cert.ReferenceIdeal.defs _ _).mono (fun r h => ⟨fun c => (h c).2, Idealize.ShloMosaic.sem_eq_zero_of_no_sems (by decide) r.2⟩) (Cert.ReferenceIdeal.Value.run (F := Ideal) m ρ)), (fun m ρ _ => (θ_run Cert.ReferenceIdeal.defs _ _).mono (fun r h => ⟨fun c => (h c).2, Idealize.ShloMosaic.sem_eq_zero_of_no_sems (by decide) r.2⟩) (Cert.ReferenceIdeal.Value.run (F := Ideal) m ρ)),
  Cert.Moe.frame_kernel, Cert.Moe.frame_ideal, Cert.Moe.frame_reference, Cert.Moe.frame_reference_planned,
  Cert.Mix.frame_kernel, Cert.Mix.frame_ideal, Cert.Mix.frame_reference,
  fun m ρ _ => Cert.DaKernel.Gen.frame m ρ, fun m ρ _ => Cert.DaKernelIdeal.Gen.frame m ρ, fun m ρ _ => Cert.DaKernelIdeal.Gen.frame m ρ,
  Cert.MeetDa.frame_reference, Cert.MeetDa.frame_reference_finite,
  Cert.Proj.frame_kernel, Cert.Proj.frame_ideal, Cert.Proj.frame_reference,
  ⟨IdealRules.named_const.statement Cert.KernelIdeal.κ "neg_scale_log2e" .f32 0xBE38AA3B#32 ((-((1 / 8) * (Real.log 2)⁻¹) : ℝ) : EReal) rfl,
   IdealRules.named_const.statement Cert.KernelIdeal.κ "log2e" .f32 0x3FB8AA3B#32 (((Real.log 2)⁻¹ : ℝ) : EReal) rfl⟩,
  stick_algebraic, trivial, Cert.Moe.algebraic, trivial, Cert.Mix.algebraic,
  ⟨IdealRules.named_const.statement Cert.DaKernelIdeal.κ "buckets_per_log" .f32 0x40F6384F#32 ((16 * (Real.log 8)⁻¹ : ℝ) : EReal) rfl,
   IdealRules.named_const.statement Cert.DaKernelIdeal.κ "log2e" .f32 0x3FB8AA3B#32 (((Real.log 2)⁻¹ : ℝ) : EReal) rfl,
   IdealRules.named_const.statement Cert.DaKernelIdeal.κ "neg_inf" .f32 0xF149F2CA#32 ⊥ rfl,
   IdealRules.named_const.statement Cert.DaKernelIdeal.κ "scale_log2e" .f32 0x3E38AA3B#32 (((1 / 8) * (Real.log 2)⁻¹ : ℝ) : EReal) rfl⟩,
  Cert.MeetDa.algebraic, trivial, Cert.Proj.algebraic⟩

end Cert.Proof

end
